-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_vocabulary_and_finite_head [hPre_vocabulary_and_finite_head : Cert.Pre_vocabulary_and_finite_head.Facts] (m : (ℓ : Loc Cert.KernelIdeal.nD Cert.KernelIdeal.τ Cert.KernelIdeal.sig) → Buf (Elt Ideal) ℓ) : Prop :=
  ∀ c : Dev Cert.KernelIdeal.nD,
    (Cert.Pre_vocabulary_and_finite_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_vocabulary_and_finite_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_vocabulary_and_finite_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_vocabulary_and_finite_head [hPre_vocabulary_and_finite_head : Cert.Pre_vocabulary_and_finite_head.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_vocabulary_and_finite_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_vocabulary_and_finite_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_vocabulary_and_finite_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_vocabulary_and_finite_head [hKernelIdeal : Cert.KernelIdeal.Facts] [hPre_vocabulary_and_finite_head : Cert.Pre_vocabulary_and_finite_head.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_vocabulary_and_finite_head m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_vocabulary_and_finite_head [hReferenceIdeal : Cert.ReferenceIdeal.Facts] [hPre_vocabulary_and_finite_head : Cert.Pre_vocabulary_and_finite_head.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_vocabulary_and_finite_head m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_vocabulary_and_finite_head [hKernelIdeal : Cert.KernelIdeal.Facts] [hReferenceIdeal : Cert.ReferenceIdeal.Facts] [hPre_vocabulary_and_finite_head : Cert.Pre_vocabulary_and_finite_head.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_vocabulary_and_finite_head m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_vocabulary_and_finite_head : Cert.Pre_vocabulary_and_finite_head.Facts),
    quiescent_Kernel (hKernel := hKernel)
    ∧ quiescent_KernelIdeal (hKernelIdeal := hKernelIdeal)
    ∧ quiescent_KernelIdeal_pre_vocabulary_and_finite_head (hKernelIdeal := hKernelIdeal) (hPre_vocabulary_and_finite_head := hPre_vocabulary_and_finite_head)
    ∧ quiescent_ReferenceIdeal (hReferenceIdeal := hReferenceIdeal)
    ∧ quiescent_ReferenceIdeal_pre_vocabulary_and_finite_head (hReferenceIdeal := hReferenceIdeal) (hPre_vocabulary_and_finite_head := hPre_vocabulary_and_finite_head)
    ∧ preserves_Kernel_KernelIdeal
    ∧ algebraic_KernelIdeal_ReferenceIdeal_pre_vocabulary_and_finite_head (hKernelIdeal := hKernelIdeal) (hReferenceIdeal := hReferenceIdeal) (hPre_vocabulary_and_finite_head := hPre_vocabulary_and_finite_head)
-- ==== Pre_vocabulary_and_finite_head.lean ====
abbrev S16x512 : Shape := ⟨2, ![16, 512]⟩
abbrev S64x512 : Shape := ⟨2, ![64, 512]⟩
abbrev S2048x512 : Shape := ⟨2, ![2048, 512]⟩
abbrev S2048 : Shape := ⟨1, ![2048]⟩
abbrev S64 : Shape := ⟨1, ![64]⟩
abbrev S_ : Shape := ⟨0, ![]⟩

class Facts : Prop where
  bcast_S_S16x512 : S_.BroadcastsInDim S16x512 (![] : Fin 0 → Fin S16x512.rank)
  bcast_S_S64x512 : S_.BroadcastsInDim S64x512 (![] : Fin 0 → Fin S64x512.rank)
  bcast_S_S64 : S_.BroadcastsInDim S64 (![] : Fin 0 → Fin S64.rank)

variable [Facts]

def fn {F : FTy → Type} [FloatOps F] (main_arg0 : FVec F S16x512 .f32) (main_arg1 : IVec S16x512 32) (main_arg2 : FVec F S64x512 .f32) (main_arg3 : FVec F S2048x512 .f32) (main_arg4 : FVec F S2048x512 .f32) (main_arg5 : FVec F S2048 .f32) (main_arg6 : FVec F S2048 .f32) (main_arg7 : FVec F S2048x512 .f32) (main_arg8 : FVec F S2048x512 .f32) (main_arg9 : FVec F S2048 .f32) (main_arg10 : FVec F S2048 .f32) (main_arg11 : FVec F S64x512 .f32) (main_arg12 : FVec F S64 .f32) : IVec S16x512 1 × IVec S64x512 1 × IVec S64 1 :=
  let main_c : IVec S_ 32 := constantI S_ 32 0#32
  let main_v0 : IVec S16x512 32 := broadcastInDim S16x512 ![] bcast_S_S16x512 main_c
  let main_v1 : IVec S16x512 1 := cmpi .sge main_arg1 main_v0
  let main_c_0 : IVec S_ 32 := constantI S_ 32 64#32
  let main_v2 : IVec S16x512 32 := broadcastInDim S16x512 ![] bcast_S_S16x512 main_c_0
  let main_v3 : IVec S16x512 1 := cmpi .slt main_arg1 main_v2
  let main_v4 : IVec S16x512 1 := andi main_v1 main_v3
  let main_v5 : FVec F S64x512 .f32 := Host.absf main_arg11
  let main_cst : FVec F S_ .f32 := constant S_ .f32 0x7F800000#32
  let main_v6 : FVec F S64x512 .f32 := broadcastInDim S64x512 ![] bcast_S_S64x512 main_cst
  let main_v7 : IVec S64x512 1 := cmpf .olt main_v5 main_v6
  let main_v8 : FVec F S64 .f32 := Host.absf main_arg12
  let main_cst_1 : FVec F S_ .f32 := constant S_ .f32 0x7F800000#32
  let main_v9 : FVec F S64 .f32 := broadcastInDim S64 ![] bcast_S_S64 main_cst_1
  let main_v10 : IVec S64 1 := cmpf .olt main_v8 main_v9
  (main_v4, main_v7, main_v10)
-- ==== Kernel.lean ====
abbrev S16x512 : Shape := ⟨2, ![16, 512]⟩
abbrev S64x512 : Shape := ⟨2, ![64, 512]⟩
abbrev S2048x512 : Shape := ⟨2, ![2048, 512]⟩
abbrev S2048 : Shape := ⟨1, ![2048]⟩
abbrev S64 : Shape := ⟨1, ![64]⟩
abbrev S512x16 : Shape := ⟨2, ![512, 16]⟩
abbrev S1x2048 : Shape := ⟨2, ![1, 2048]⟩
abbrev S1x64 : Shape := ⟨2, ![1, 64]⟩
abbrev S512x2048 : Shape := ⟨2, ![512, 2048]⟩
abbrev S512x4096 : Shape := ⟨2, ![512, 4096]⟩
abbrev S512x64 : Shape := ⟨2, ![512, 64]⟩
abbrev S_ : Shape := ⟨0, ![]⟩
abbrev S512x2176 : Shape := ⟨2, ![512, 2176]⟩
abbrev S16x1 : Shape := ⟨2, ![16, 1]⟩
abbrev S64x2048 : Shape := ⟨2, ![64, 2048]⟩
abbrev S512x16x64 : Shape := ⟨3, ![512, 16, 64]⟩
abbrev S512x16x1 : Shape := ⟨3, ![512, 16, 1]⟩
abbrev S16x2048 : Shape := ⟨2, ![16, 2048]⟩
abbrev S16x4096 : Shape := ⟨2, ![16, 4096]⟩
abbrev S16x2176 : Shape := ⟨2, ![16, 2176]⟩
abbrev S1x16x64 : Shape := ⟨3, ![1, 16, 64]⟩
abbrev S16x64 : Shape := ⟨2, ![16, 64]⟩
abbrev S16 : Shape := ⟨1, ![16]⟩

abbrev nBuf : Space → Nat
  | .hbm => 33
  | .vmem => 12
  | .smem => 0
  | _ => 0

abbrev bufTy : (tb : Table) → Fin (tcTables nBuf tb) → BufTy
  | .hbm, ⟨0, _⟩ => ⟨S16x512, .f32⟩
  | .hbm, ⟨1, _⟩ => ⟨S16x512, .i32⟩
  | .hbm, ⟨2, _⟩ => ⟨S64x512, .f32⟩
  | .hbm, ⟨3, _⟩ => ⟨S2048x512, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S2048x512, .f32⟩
  | .hbm, ⟨8, _⟩ => ⟨S2048x512, .f32⟩
  | .hbm, ⟨9, _⟩ => ⟨S2048, .f32⟩
  | .hbm, ⟨10, _⟩ => ⟨S2048, .f32⟩
  | .hbm, ⟨11, _⟩ => ⟨S64x512, .f32⟩
  | .hbm, ⟨12, _⟩ => ⟨S64, .f32⟩
  | .hbm, ⟨13, _⟩ => ⟨S512x16, .i32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S1x64, .f32⟩
  | .hbm, ⟨19, _⟩ => ⟨S512x2048, .f32⟩
  | .hbm, ⟨20, _⟩ => ⟨S512x2048, .f32⟩
  | .hbm, ⟨21, _⟩ => ⟨S512x4096, .f32⟩
  | .hbm, ⟨22, _⟩ => ⟨S512x4096, .fp8e4m3⟩
  | .hbm, ⟨23, _⟩ => ⟨S512x64, .f32⟩
  | .hbm, ⟨24, _⟩ => ⟨S_, .f32⟩
  | .hbm, ⟨25, _⟩ => ⟨S512x64, .f32⟩
  | .hbm, ⟨26, _⟩ => ⟨S512x2048, .f32⟩
  | .hbm, ⟨27, _⟩ => ⟨S512x2176, .f32⟩
  | .hbm, ⟨28, _⟩ => ⟨S512x2176, .fp8e4m3⟩
  | .hbm, ⟨29, _⟩ => ⟨S64x512, .bf16⟩
  | .hbm, ⟨30, _⟩ => ⟨S512x2048, .f32⟩
  | .hbm, ⟨31, _⟩ => ⟨S512x2048, .bf16⟩
  | .hbm, ⟨32, _⟩ => ⟨S16x1, .f32⟩
  | .local _ .vmem, ⟨0, _⟩ => ⟨S16x512, .f32⟩
  | .local _ .vmem, ⟨1, _⟩ => ⟨S512x16, .i32⟩
  | .local _ .vmem, ⟨2, _⟩ => ⟨S64x512, .bf16⟩
  | .local _ .vmem, ⟨3, _⟩ => ⟨S512x2048, .bf16⟩
  | .local _ .vmem, ⟨4, _⟩ => ⟨S512x4096, .fp8e4m3⟩
  | .local _ .vmem, ⟨5, _⟩ => ⟨S512x2176, .fp8e4m3⟩
  | .local _ .vmem, ⟨6, _⟩ => ⟨S1x2048, .f32⟩
  | .local _ .vmem, ⟨7, _⟩ => ⟨S1x2048, .f32⟩
  | .local _ .vmem, ⟨8, _⟩ => ⟨S1x64, .f32⟩
  | .local _ .vmem, ⟨9, _⟩ => ⟨S16x1, .f32⟩
  | .local _ .vmem, ⟨10, _⟩ => ⟨S64x2048, .fp8e4m3⟩
  | .local _ .vmem, ⟨11, _⟩ => ⟨S512x16x64, .fp8e4m3⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c511_i32 : BitVec 32 := 511#32
  let v121 : BitVec 32 := Scalar.addi c0_i32 c511_i32
  let c1_i32 : BitVec 32 := 1#32
  ⟨c0_i32, v121, c1_i32⟩
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let c1_i32_67 : BitVec 32 := 1#32
  let v156 : BitVec 32 := Scalar.addi arg12 c1_i32_67
  let v157 : Index := Scalar.indexCast v156
  let c0_68 : Index := 0#32
  let c0_69 : Index := 0#32
  ![v157.toNat, 0, 0]
abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2176 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S16x512 : Shape := ⟨2, ![16, 512]⟩
abbrev S64x512 : Shape := ⟨2, ![64, 512]⟩
abbrev S2048x512 : Shape := ⟨2, ![2048, 512]⟩
abbrev S2048 : Shape := ⟨1, ![2048]⟩
abbrev S64 : Shape := ⟨1, ![64]⟩
abbrev S_ : Shape := ⟨0, ![]⟩
abbrev S2x16x512 : Shape := ⟨3, ![2, 16, 512]⟩
abbrev S1x16x512 : Shape := ⟨3, ![1, 16, 512]⟩
abbrev S512x2048 : Shape := ⟨2, ![512, 2048]⟩
abbrev S16x2048 : Shape := ⟨2, ![16, 2048]⟩
abbrev S1x2048 : Shape := ⟨2, ![1, 2048]⟩
abbrev S16x512x1 : Shape := ⟨3, ![16, 512, 1]⟩
abbrev S1 : Shape := ⟨1, ![1]⟩
abbrev S1x1x1 : Shape := ⟨3, ![1, 1, 1]⟩
abbrev S16x512x512 : Shape := ⟨3, ![16, 512, 512]⟩
abbrev S512x16x512 : Shape := ⟨3, ![512, 16, 512]⟩
abbrev S512x64 : Shape := ⟨2, ![512, 64]⟩
abbrev S512x16x64 : Shape := ⟨3, ![512, 16, 64]⟩
abbrev S1x1x64 : Shape := ⟨3, ![1, 1, 64]⟩
abbrev S511x16x64 : Shape := ⟨3, ![511, 16, 64]⟩
abbrev S512x16 : Shape := ⟨2, ![512, 16]⟩
abbrev S511x16 : Shape := ⟨2, ![511, 16]⟩
abbrev S511x16x1 : Shape := ⟨3, ![511, 16, 1]⟩
abbrev S511x16x1x1 : Shape := ⟨4, ![511, 16, 1, 1]⟩
abbrev S1x1x1x1 : Shape := ⟨4, ![1, 1, 1, 1]⟩
abbrev S16 : Shape := ⟨1, ![16]⟩
abbrev S16x1 : Shape := ⟨2, ![16, 1]⟩

abbrev nBuf : Space → Nat
  | .hbm => 403
  | .vmem => 0
  | .smem => 0
  | _ => 0

abbrev hbmTy0_0 (i : Nat) : BufTy := match i % 128 with
  | 0 => ⟨S16x512, .f32⟩
  | 1 => ⟨S16x512, .i32⟩
  | 2 => ⟨S64x512, .f32⟩
  | 3 => ⟨S2048x512, .f32⟩
  | 4 => ⟨S2048x512, .f32⟩
  | 5 => ⟨S2048, .f32⟩
  | 6 => ⟨S2048, .f32⟩
  | 7 => ⟨S2048x512, .f32⟩
  | 8 => ⟨S2048x512, .f32⟩
  | 9 => ⟨S2048, .f32⟩
  | 10 => ⟨S2048, .f32⟩
  | 11 => ⟨S64x512, .f32⟩
  | 12 => ⟨S64, .f32⟩
  | 13 => ⟨S_, .f32⟩
  | 14 => ⟨S2x16x512, .f32⟩
  | 15 => ⟨S_, .f32⟩
  | 16 => ⟨S2x16x512, .f32⟩
  | 17 => ⟨S1x16x512, .f32⟩
  | 18 => ⟨S1x16x512, .f32⟩
  | 19 => ⟨S16x512, .f32⟩
  | 20 => ⟨S1x16x512, .f32⟩
  | 21 => ⟨S16x512, .f32⟩
  | 22 => ⟨S_, .f32⟩
  | 23 => ⟨S1x16x512, .f32⟩
  | 24 => ⟨S_, .i32⟩
  | 25 => ⟨S1x16x512, .f32⟩
  | 26 => ⟨S2048x512, .f32⟩
  | 27 => ⟨S2048x512, .f32⟩
  | 28 => ⟨S2048, .f32⟩
  | 29 => ⟨S2048, .f32⟩
  | 30 => ⟨S_, .i32⟩
  | 31 => ⟨S16x512, .f32⟩
  | 32 => ⟨S16x512, .f32⟩
  | 33 => ⟨S1x16x512, .f32⟩
  | 34 => ⟨S_, .i32⟩
  | 35 => ⟨S_, .i1⟩
  | 36 => ⟨S_, .i32⟩
  | 37 => ⟨S_, .i32⟩
  | 38 => ⟨S1x16x512, .f32⟩
  | 39 => ⟨S16x512, .f32⟩
  | 40 => ⟨S512x2048, .f32⟩
  | 41 => ⟨S16x2048, .f32⟩
  | 42 => ⟨S512x2048, .f32⟩
  | 43 => ⟨S16x2048, .f32⟩
  | 44 => ⟨S16x2048, .f32⟩
  | 45 => ⟨S1x2048, .f32⟩
  | 46 => ⟨S16x2048, .f32⟩
  | 47 => ⟨S16x2048, .f32⟩
  | 48 => ⟨S1x2048, .f32⟩
  | 49 => ⟨S16x2048, .f32⟩
  | 50 => ⟨S16x2048, .f32⟩
  | 51 => ⟨S16x512, .f32⟩
  | 52 => ⟨S16x512, .f32⟩
  | 53 => ⟨S16x512, .f32⟩
  | 54 => ⟨S16x512, .f32⟩
  | 55 => ⟨S16x512, .f32⟩
  | 56 => ⟨S16x512, .f32⟩
  | 57 => ⟨S_, .f32⟩
  | 58 => ⟨S16x512, .f32⟩
  | 59 => ⟨S16x512, .f32⟩
  | 60 => ⟨S_, .f32⟩
  | 61 => ⟨S16x512, .f32⟩
  | 62 => ⟨S16x512, .f32⟩
  | 63 => ⟨S16x512, .f32⟩
  | 64 => ⟨S16x512, .f32⟩
  | 65 => ⟨S_, .f32⟩
  | 66 => ⟨S16x512, .f32⟩
  | 67 => ⟨S16x512, .f32⟩
  | 68 => ⟨S_, .f32⟩
  | 69 => ⟨S16x512, .f32⟩
  | 70 => ⟨S16x512, .f32⟩
  | 71 => ⟨S16x512, .f32⟩
  | 72 => ⟨S16x512, .f32⟩
  | 73 => ⟨S16x512, .f32⟩
  | 74 => ⟨S_, .f32⟩
  | 75 => ⟨S16x512, .f32⟩
  | 76 => ⟨S16x512, .f32⟩
  | 77 => ⟨S_, .f32⟩
  | 78 => ⟨S16x512, .f32⟩
  | 79 => ⟨S16x512, .f32⟩
  | 80 => ⟨S16x512, .f32⟩
  | 81 => ⟨S16x512, .f32⟩
  | 82 => ⟨S16x512, .f32⟩
  | 83 => ⟨S16x512, .f32⟩
  | 84 => ⟨S16x512, .f32⟩
  | 85 => ⟨S1x16x512, .f32⟩
  | 86 => ⟨S_, .i32⟩
  | 87 => ⟨S_, .i32⟩
  | 88 => ⟨S1x16x512, .f32⟩
  | 89 => ⟨S_, .i32⟩
  | 90 => ⟨S_, .i32⟩
  | 91 => ⟨S1x16x512, .f32⟩
  | 92 => ⟨S16x512, .f32⟩
  | 93 => ⟨S1x16x512, .f32⟩
  | 94 => ⟨S16x512, .f32⟩
  | 95 => ⟨S_, .f32⟩
  | 96 => ⟨S1x16x512, .f32⟩
  | 97 => ⟨S_, .i32⟩
  | 98 => ⟨S1x16x512, .f32⟩
  | 99 => ⟨S2048x512, .f32⟩
  | 100 => ⟨S2048x512, .f32⟩
  | 101 => ⟨S2048, .f32⟩
  | 102 => ⟨S2048, .f32⟩
  | 103 => ⟨S_, .i32⟩
  | 104 => ⟨S16x512, .f32⟩
  | 105 => ⟨S16x512, .f32⟩
  | 106 => ⟨S1x16x512, .f32⟩
  | 107 => ⟨S_, .i32⟩
  | 108 => ⟨S_, .i1⟩
  | 109 => ⟨S_, .i32⟩
  | 110 => ⟨S_, .i32⟩
  | 111 => ⟨S1x16x512, .f32⟩
  | 112 => ⟨S16x512, .f32⟩
  | 113 => ⟨S512x2048, .f32⟩
  | 114 => ⟨S16x2048, .f32⟩
  | 115 => ⟨S512x2048, .f32⟩
  | 116 => ⟨S16x2048, .f32⟩
  | 117 => ⟨S16x2048, .f32⟩
  | 118 => ⟨S1x2048, .f32⟩
  | 119 => ⟨S16x2048, .f32⟩
  | 120 => ⟨S16x2048, .f32⟩
  | 121 => ⟨S1x2048, .f32⟩
  | 122 => ⟨S16x2048, .f32⟩
  | 123 => ⟨S16x2048, .f32⟩
  | 124 => ⟨S16x512, .f32⟩
  | 125 => ⟨S16x512, .f32⟩
  | 126 => ⟨S16x512, .f32⟩
  | 127 => ⟨S16x512, .f32⟩
  | _ => ⟨S16x512, .f32⟩

abbrev hbmTy0_1 (i : Nat) : BufTy := match i % 128 with
  | 0 => ⟨S16x512, .f32⟩
  | 1 => ⟨S16x512, .f32⟩
  | 2 => ⟨S_, .f32⟩
  | 3 => ⟨S16x512, .f32⟩
  | 4 => ⟨S16x512, .f32⟩
  | 5 => ⟨S_, .f32⟩
  | 6 => ⟨S16x512, .f32⟩
  | 7 => ⟨S16x512, .f32⟩
  | 8 => ⟨S16x512, .f32⟩
  | 9 => ⟨S16x512, .f32⟩
  | 10 => ⟨S_, .f32⟩
  | 11 => ⟨S16x512, .f32⟩
  | 12 => ⟨S16x512, .f32⟩
  | 13 => ⟨S_, .f32⟩
  | 14 => ⟨S16x512, .f32⟩
  | 15 => ⟨S16x512, .f32⟩
  | 16 => ⟨S16x512, .f32⟩
  | 17 => ⟨S16x512, .f32⟩
  | 18 => ⟨S16x512, .f32⟩
  | 19 => ⟨S_, .f32⟩
  | 20 => ⟨S16x512, .f32⟩
  | 21 => ⟨S16x512, .f32⟩
  | 22 => ⟨S_, .f32⟩
  | 23 => ⟨S16x512, .f32⟩
  | 24 => ⟨S16x512, .f32⟩
  | 25 => ⟨S16x512, .f32⟩
  | 26 => ⟨S16x512, .f32⟩
  | 27 => ⟨S16x512, .f32⟩
  | 28 => ⟨S16x512, .f32⟩
  | 29 => ⟨S16x512, .f32⟩
  | 30 => ⟨S1x16x512, .f32⟩
  | 31 => ⟨S_, .i32⟩
  | 32 => ⟨S_, .i32⟩
  | 33 => ⟨S1x16x512, .f32⟩
  | 34 => ⟨S_, .i32⟩
  | 35 => ⟨S_, .i32⟩
  | 36 => ⟨S1x16x512, .f32⟩
  | 37 => ⟨S1x16x512, .f32⟩
  | 38 => ⟨S2x16x512, .f32⟩
  | 39 => ⟨S1x16x512, .f32⟩
  | 40 => ⟨S1x16x512, .f32⟩
  | 41 => ⟨S2x16x512, .f32⟩
  | 42 => ⟨S_, .i32⟩
  | 43 => ⟨S16x512, .i32⟩
  | 44 => ⟨S16x512, .i1⟩
  | 45 => ⟨S_, .i32⟩
  | 46 => ⟨S16x512, .i32⟩
  | 47 => ⟨S16x512, .i32⟩
  | 48 => ⟨S16x512, .i32⟩
  | 49 => ⟨S16x512x1, .i32⟩
  | 50 => ⟨S1, .i32⟩
  | 51 => ⟨S_, .i32⟩
  | 52 => ⟨S16x512x1, .i32⟩
  | 53 => ⟨S16x512x1, .i1⟩
  | 54 => ⟨S1x1x1, .i32⟩
  | 55 => ⟨S16x512x1, .i32⟩
  | 56 => ⟨S16x512x1, .i1⟩
  | 57 => ⟨S16x512x1, .i1⟩
  | 58 => ⟨S_, .i1⟩
  | 59 => ⟨S16x512, .i1⟩
  | 60 => ⟨S16x512x512, .f32⟩
  | 61 => ⟨S16x512x512, .i1⟩
  | 62 => ⟨S_, .f32⟩
  | 63 => ⟨S16x512x512, .f32⟩
  | 64 => ⟨S16x512x512, .f32⟩
  | 65 => ⟨S512x16x512, .f32⟩
  | 66 => ⟨S1x16x512, .f32⟩
  | 67 => ⟨S16x512, .f32⟩
  | 68 => ⟨S1x16x512, .f32⟩
  | 69 => ⟨S16x512, .f32⟩
  | 70 => ⟨S_, .f32⟩
  | 71 => ⟨S512x16x512, .f32⟩
  | 72 => ⟨S_, .i32⟩
  | 73 => ⟨S512x16x512, .f32⟩
  | 74 => ⟨S2048x512, .f32⟩
  | 75 => ⟨S2048x512, .f32⟩
  | 76 => ⟨S2048, .f32⟩
  | 77 => ⟨S2048, .f32⟩
  | 78 => ⟨S_, .i32⟩
  | 79 => ⟨S16x512, .f32⟩
  | 80 => ⟨S16x512, .f32⟩
  | 81 => ⟨S512x16x512, .f32⟩
  | 82 => ⟨S_, .i32⟩
  | 83 => ⟨S_, .i1⟩
  | 84 => ⟨S_, .i32⟩
  | 85 => ⟨S_, .i32⟩
  | 86 => ⟨S1x16x512, .f32⟩
  | 87 => ⟨S16x512, .f32⟩
  | 88 => ⟨S512x2048, .f32⟩
  | 89 => ⟨S16x2048, .f32⟩
  | 90 => ⟨S512x2048, .f32⟩
  | 91 => ⟨S16x2048, .f32⟩
  | 92 => ⟨S16x2048, .f32⟩
  | 93 => ⟨S1x2048, .f32⟩
  | 94 => ⟨S16x2048, .f32⟩
  | 95 => ⟨S16x2048, .f32⟩
  | 96 => ⟨S1x2048, .f32⟩
  | 97 => ⟨S16x2048, .f32⟩
  | 98 => ⟨S16x2048, .f32⟩
  | 99 => ⟨S16x512, .f32⟩
  | 100 => ⟨S16x512, .f32⟩
  | 101 => ⟨S16x512, .f32⟩
  | 102 => ⟨S16x512, .f32⟩
  | 103 => ⟨S16x512, .f32⟩
  | 104 => ⟨S16x512, .f32⟩
  | 105 => ⟨S_, .f32⟩
  | 106 => ⟨S16x512, .f32⟩
  | 107 => ⟨S16x512, .f32⟩
  | 108 => ⟨S_, .f32⟩
  | 109 => ⟨S16x512, .f32⟩
  | 110 => ⟨S16x512, .f32⟩
  | 111 => ⟨S16x512, .f32⟩
  | 112 => ⟨S16x512, .f32⟩
  | 113 => ⟨S_, .f32⟩
  | 114 => ⟨S16x512, .f32⟩
  | 115 => ⟨S16x512, .f32⟩
  | 116 => ⟨S_, .f32⟩
  | 117 => ⟨S16x512, .f32⟩
  | 118 => ⟨S16x512, .f32⟩
  | 119 => ⟨S16x512, .f32⟩
  | 120 => ⟨S16x512, .f32⟩
  | 121 => ⟨S16x512, .f32⟩
  | 122 => ⟨S_, .f32⟩
  | 123 => ⟨S16x512, .f32⟩
  | 124 => ⟨S16x512, .f32⟩
  | 125 => ⟨S_, .f32⟩
  | 126 => ⟨S16x512, .f32⟩
  | 127 => ⟨S16x512, .f32⟩
  | _ => ⟨S16x512, .f32⟩

abbrev hbmTy0_2 (i : Nat) : BufTy := match i % 128 with
  | 0 => ⟨S16x512, .f32⟩
  | 1 => ⟨S16x512, .f32⟩
  | 2 => ⟨S16x512, .f32⟩
  | 3 => ⟨S16x512, .f32⟩
  | 4 => ⟨S16x512, .f32⟩
  | 5 => ⟨S1x16x512, .f32⟩
  | 6 => ⟨S_, .i32⟩
  | 7 => ⟨S_, .i32⟩
  | 8 => ⟨S512x16x512, .f32⟩
  | 9 => ⟨S_, .i32⟩
  | 10 => ⟨S_, .i32⟩
  | 11 => ⟨S1x16x512, .f32⟩
  | 12 => ⟨S16x512, .f32⟩
  | 13 => ⟨S1x16x512, .f32⟩
  | 14 => ⟨S16x512, .f32⟩
  | 15 => ⟨S_, .f32⟩
  | 16 => ⟨S512x16x512, .f32⟩
  | 17 => ⟨S_, .i32⟩
  | 18 => ⟨S512x16x512, .f32⟩
  | 19 => ⟨S2048x512, .f32⟩
  | 20 => ⟨S2048x512, .f32⟩
  | 21 => ⟨S2048, .f32⟩
  | 22 => ⟨S2048, .f32⟩
  | 23 => ⟨S_, .i32⟩
  | 24 => ⟨S16x512, .f32⟩
  | 25 => ⟨S16x512, .f32⟩
  | 26 => ⟨S512x16x512, .f32⟩
  | 27 => ⟨S_, .i32⟩
  | 28 => ⟨S_, .i1⟩
  | 29 => ⟨S_, .i32⟩
  | 30 => ⟨S_, .i32⟩
  | 31 => ⟨S1x16x512, .f32⟩
  | 32 => ⟨S16x512, .f32⟩
  | 33 => ⟨S512x2048, .f32⟩
  | 34 => ⟨S16x2048, .f32⟩
  | 35 => ⟨S512x2048, .f32⟩
  | 36 => ⟨S16x2048, .f32⟩
  | 37 => ⟨S16x2048, .f32⟩
  | 38 => ⟨S1x2048, .f32⟩
  | 39 => ⟨S16x2048, .f32⟩
  | 40 => ⟨S16x2048, .f32⟩
  | 41 => ⟨S1x2048, .f32⟩
  | 42 => ⟨S16x2048, .f32⟩
  | 43 => ⟨S16x2048, .f32⟩
  | 44 => ⟨S16x512, .f32⟩
  | 45 => ⟨S16x512, .f32⟩
  | 46 => ⟨S16x512, .f32⟩
  | 47 => ⟨S16x512, .f32⟩
  | 48 => ⟨S16x512, .f32⟩
  | 49 => ⟨S16x512, .f32⟩
  | 50 => ⟨S_, .f32⟩
  | 51 => ⟨S16x512, .f32⟩
  | 52 => ⟨S16x512, .f32⟩
  | 53 => ⟨S_, .f32⟩
  | 54 => ⟨S16x512, .f32⟩
  | 55 => ⟨S16x512, .f32⟩
  | 56 => ⟨S16x512, .f32⟩
  | 57 => ⟨S16x512, .f32⟩
  | 58 => ⟨S_, .f32⟩
  | 59 => ⟨S16x512, .f32⟩
  | 60 => ⟨S16x512, .f32⟩
  | 61 => ⟨S_, .f32⟩
  | 62 => ⟨S16x512, .f32⟩
  | 63 => ⟨S16x512, .f32⟩
  | 64 => ⟨S16x512, .f32⟩
  | 65 => ⟨S16x512, .f32⟩
  | 66 => ⟨S16x512, .f32⟩
  | 67 => ⟨S_, .f32⟩
  | 68 => ⟨S16x512, .f32⟩
  | 69 => ⟨S16x512, .f32⟩
  | 70 => ⟨S_, .f32⟩
  | 71 => ⟨S16x512, .f32⟩
  | 72 => ⟨S16x512, .f32⟩
  | 73 => ⟨S16x512, .f32⟩
  | 74 => ⟨S16x512, .f32⟩
  | 75 => ⟨S16x512, .f32⟩
  | 76 => ⟨S16x512, .f32⟩
  | 77 => ⟨S16x512, .f32⟩
  | 78 => ⟨S1x16x512, .f32⟩
  | 79 => ⟨S_, .i32⟩
  | 80 => ⟨S_, .i32⟩
  | 81 => ⟨S512x16x512, .f32⟩
  | 82 => ⟨S_, .i32⟩
  | 83 => ⟨S_, .i32⟩
  | 84 => ⟨S1x16x512, .f32⟩
  | 85 => ⟨S1x16x512, .f32⟩
  | 86 => ⟨S2x16x512, .f32⟩
  | 87 => ⟨S1x16x512, .f32⟩
  | 88 => ⟨S1x16x512, .f32⟩
  | 89 => ⟨S2x16x512, .f32⟩
  | 90 => ⟨S512x64, .f32⟩
  | 91 => ⟨S512x16x64, .f32⟩
  | 92 => ⟨S1x1x64, .f32⟩
  | 93 => ⟨S512x16x64, .f32⟩
  | 94 => ⟨S512x16x64, .f32⟩
  | 95 => ⟨S511x16x64, .f32⟩
  | 96 => ⟨S512x16, .i32⟩
  | 97 => ⟨S511x16, .i32⟩
  | 98 => ⟨S_, .f32⟩
  | 99 => ⟨S511x16, .f32⟩
  | 100 => ⟨S_, .f32⟩
  | 101 => ⟨S511x16, .f32⟩
  | 102 => ⟨S511x16, .f32⟩
  | 103 => ⟨S511x16x1, .f32⟩
  | 104 => ⟨S511x16x64, .f32⟩
  | 105 => ⟨S511x16x64, .f32⟩
  | 106 => ⟨S511x16x64, .f32⟩
  | 107 => ⟨S_, .f32⟩
  | 108 => ⟨S511x16, .f32⟩
  | 109 => ⟨S511x16x1, .f32⟩
  | 110 => ⟨S511x16x1, .f32⟩
  | 111 => ⟨S511x16x64, .f32⟩
  | 112 => ⟨S511x16x64, .f32⟩
  | 113 => ⟨S511x16x1, .i32⟩
  | 114 => ⟨S_, .i32⟩
  | 115 => ⟨S511x16x1, .i32⟩
  | 116 => ⟨S511x16x1, .i1⟩
  | 117 => ⟨S_, .i32⟩
  | 118 => ⟨S511x16x1, .i32⟩
  | 119 => ⟨S511x16x1, .i32⟩
  | 120 => ⟨S511x16x1, .i32⟩
  | 121 => ⟨S511x16x1x1, .i32⟩
  | 122 => ⟨S1, .i32⟩
  | 123 => ⟨S_, .i32⟩
  | 124 => ⟨S511x16x1x1, .i32⟩
  | 125 => ⟨S511x16x1x1, .i1⟩
  | 126 => ⟨S1x1x1x1, .i32⟩
  | 127 => ⟨S511x16x1x1, .i32⟩
  | _ => ⟨S16x512, .f32⟩

abbrev hbmTy0_3 (i : Nat) : BufTy := match i % 128 with
  | 0 => ⟨S511x16x1x1, .i1⟩
  | 1 => ⟨S511x16x1x1, .i1⟩
  | 2 => ⟨S_, .i1⟩
  | 3 => ⟨S511x16x1, .i1⟩
  | 4 => ⟨S511x16x1, .f32⟩
  | 5 => ⟨S_, .f32⟩
  | 6 => ⟨S511x16x1, .f32⟩
  | 7 => ⟨S511x16x1, .f32⟩
  | 8 => ⟨S511x16, .f32⟩
  | 9 => ⟨S511x16, .f32⟩
  | 10 => ⟨S_, .i32⟩
  | 11 => ⟨S511x16, .i32⟩
  | 12 => ⟨S511x16, .i1⟩
  | 13 => ⟨S511x16, .f32⟩
  | 14 => ⟨S511x16, .f32⟩
  | 15 => ⟨S_, .f32⟩
  | 16 => ⟨S16, .f32⟩
  | 17 => ⟨S16x1, .f32⟩
  | 18 => ⟨S16x1, .f32⟩
  | _ => ⟨S16x512, .f32⟩

abbrev hbmTy (i : Nat) : BufTy := match i / 128 with
  | 0 => hbmTy0_0 i
  | 1 => hbmTy0_1 i
  | 2 => hbmTy0_2 i
  | 3 => hbmTy0_3 i
  | _ => ⟨S16x512, .f32⟩

abbrev bufTy : (tb : Table) → Fin (tcTables nBuf tb) → BufTy
  | .hbm, ⟨i, _⟩ => hbmTy i
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_c : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_v8_3 : Ref sig .tc := ⟨.hbm, 28, rfl⟩
abbrev main_v8_4 : Ref sig .tc := ⟨.hbm, 29, rfl⟩
abbrev main_v8_5 : Ref sig .tc := ⟨.hbm, 30, rfl⟩
abbrev main_v8_6 : Ref sig .tc := ⟨.hbm, 31, rfl⟩
abbrev main_v8_7 : Ref sig .tc := ⟨.hbm, 32, rfl⟩
abbrev main_v8_8 : Ref sig .tc := ⟨.hbm, 33, rfl⟩
abbrev main_while0c_c_18 : Ref sig .tc := ⟨.hbm, 34, rfl⟩
abbrev main_while0c_v61 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_v0 : Ref sig .tc := ⟨.hbm, 38, rfl⟩
abbrev main_while0b_v61 : Ref sig .tc := ⟨.hbm, 39, rfl⟩
abbrev main_while0b_v62 : Ref sig .tc := ⟨.hbm, 40, rfl⟩
abbrev main_while0b_v63 : Ref sig .tc := ⟨.hbm, 41, rfl⟩
abbrev main_while0b_v64 : Ref sig .tc := ⟨.hbm, 42, rfl⟩
abbrev main_while0b_v65 : Ref sig .tc := ⟨.hbm, 43, rfl⟩
abbrev main_while0b_v66 : Ref sig .tc := ⟨.hbm, 44, rfl⟩
abbrev main_while0b_v67 : Ref sig .tc := ⟨.hbm, 45, rfl⟩
abbrev main_while0b_v68 : Ref sig .tc := ⟨.hbm, 46, rfl⟩
abbrev main_while0b_v69 : Ref sig .tc := ⟨.hbm, 47, rfl⟩
abbrev main_while0b_v70 : Ref sig .tc := ⟨.hbm, 48, rfl⟩
abbrev main_while0b_v71 : Ref sig .tc := ⟨.hbm, 49, rfl⟩
abbrev main_while0b_v72 : Ref sig .tc := ⟨.hbm, 50, rfl⟩
abbrev main_while0b_v73 : Ref sig .tc := ⟨.hbm, 51, rfl⟩
abbrev main_while0b_v74 : Ref sig .tc := ⟨.hbm, 52, rfl⟩
abbrev main_while0b_v75 : Ref sig .tc := ⟨.hbm, 53, rfl⟩
abbrev main_while0b_v76 : Ref sig .tc := ⟨.hbm, 54, rfl⟩
abbrev main_while0b_v77 : Ref sig .tc := ⟨.hbm, 55, rfl⟩
abbrev main_while0b_v78 : Ref sig .tc := ⟨.hbm, 56, rfl⟩
abbrev main_while0b_cst_18 : Ref sig .tc := ⟨.hbm, 57, rfl⟩
abbrev main_while0b_v79 : Ref sig .tc := ⟨.hbm, 58, rfl⟩
abbrev main_while0b_v80 : Ref sig .tc := ⟨.hbm, 59, rfl⟩
abbrev main_while0b_cst_19 : Ref sig .tc := ⟨.hbm, 60, rfl⟩
abbrev main_while0b_v81 : Ref sig .tc := ⟨.hbm, 61, rfl⟩
abbrev main_while0b_v82 : Ref sig .tc := ⟨.hbm, 62, rfl⟩
abbrev main_while0b_v83 : Ref sig .tc := ⟨.hbm, 63, rfl⟩
abbrev main_while0b_v84 : Ref sig .tc := ⟨.hbm, 64, rfl⟩
abbrev main_while0b_cst_20 : Ref sig .tc := ⟨.hbm, 65, rfl⟩
abbrev main_while0b_v85 : Ref sig .tc := ⟨.hbm, 66, rfl⟩
abbrev main_while0b_v86 : Ref sig .tc := ⟨.hbm, 67, rfl⟩
abbrev main_while0b_cst_21 : Ref sig .tc := ⟨.hbm, 68, rfl⟩
abbrev main_while0b_v87 : Ref sig .tc := ⟨.hbm, 69, rfl⟩
abbrev main_while0b_v88 : Ref sig .tc := ⟨.hbm, 70, rfl⟩
abbrev main_while0b_v89 : Ref sig .tc := ⟨.hbm, 71, rfl⟩
abbrev main_while0b_v90 : Ref sig .tc := ⟨.hbm, 72, rfl⟩
abbrev main_while0b_v91 : Ref sig .tc := ⟨.hbm, 73, rfl⟩
abbrev main_while0b_cst_22 : Ref sig .tc := ⟨.hbm, 74, rfl⟩
abbrev main_while0b_v92 : Ref sig .tc := ⟨.hbm, 75, rfl⟩
abbrev main_while0b_v93 : Ref sig .tc := ⟨.hbm, 76, rfl⟩
abbrev main_while0b_cst_23 : Ref sig .tc := ⟨.hbm, 77, rfl⟩
abbrev main_while0b_v94 : Ref sig .tc := ⟨.hbm, 78, rfl⟩
abbrev main_while0b_v95 : Ref sig .tc := ⟨.hbm, 79, rfl⟩
abbrev main_while0b_v96 : Ref sig .tc := ⟨.hbm, 80, rfl⟩
abbrev main_while0b_v97 : Ref sig .tc := ⟨.hbm, 81, rfl⟩
abbrev main_while0b_v98 : Ref sig .tc := ⟨.hbm, 82, rfl⟩
abbrev main_while0b_v99 : Ref sig .tc := ⟨.hbm, 83, rfl⟩
abbrev main_while0b_v100 : Ref sig .tc := ⟨.hbm, 84, rfl⟩
abbrev main_while0b_call1_v0 : Ref sig .tc := ⟨.hbm, 85, rfl⟩
abbrev main_while0b_call1_c : Ref sig .tc := ⟨.hbm, 86, rfl⟩
abbrev main_while0b_call1_c_0 : Ref sig .tc := ⟨.hbm, 87, rfl⟩
abbrev main_while0b_v101 : Ref sig .tc := ⟨.hbm, 88, rfl⟩
abbrev main_while0b_c_24 : Ref sig .tc := ⟨.hbm, 89, rfl⟩
abbrev main_while0b_v102 : Ref sig .tc := ⟨.hbm, 90, rfl⟩
abbrev main_v9 : Ref sig .tc := ⟨.hbm, 91, rfl⟩
abbrev main_v10 : Ref sig .tc := ⟨.hbm, 92, rfl⟩
abbrev main_v11 : Ref sig .tc := ⟨.hbm, 93, rfl⟩
abbrev main_v12 : Ref sig .tc := ⟨.hbm, 94, rfl⟩
abbrev main_cst_2 : Ref sig .tc := ⟨.hbm, 95, rfl⟩
abbrev main_v13 : Ref sig .tc := ⟨.hbm, 96, rfl⟩
abbrev main_c_3 : Ref sig .tc := ⟨.hbm, 97, rfl⟩
abbrev main_v14_0 : Ref sig .tc := ⟨.hbm, 98, rfl⟩
abbrev main_v14_1 : Ref sig .tc := ⟨.hbm, 99, rfl⟩
abbrev main_v14_2 : Ref sig .tc := ⟨.hbm, 100, rfl⟩
abbrev main_v14_3 : Ref sig .tc := ⟨.hbm, 101, rfl⟩
abbrev main_v14_4 : Ref sig .tc := ⟨.hbm, 102, rfl⟩
abbrev main_v14_5 : Ref sig .tc := ⟨.hbm, 103, rfl⟩
abbrev main_v14_6 : Ref sig .tc := ⟨.hbm, 104, rfl⟩
abbrev main_v14_7 : Ref sig .tc := ⟨.hbm, 105, rfl⟩
abbrev main_v14_8 : Ref sig .tc := ⟨.hbm, 106, rfl⟩
abbrev main_while1c_c_18 : Ref sig .tc := ⟨.hbm, 107, rfl⟩
abbrev main_while1c_v61 : Ref sig .tc := ⟨.hbm, 108, rfl⟩
abbrev main_while1b_call2_c : Ref sig .tc := ⟨.hbm, 109, rfl⟩
abbrev main_while1b_call2_c_0 : Ref sig .tc := ⟨.hbm, 110, rfl⟩
abbrev main_while1b_call2_v0 : Ref sig .tc := ⟨.hbm, 111, rfl⟩
abbrev main_while1b_v61 : Ref sig .tc := ⟨.hbm, 112, rfl⟩
abbrev main_while1b_v62 : Ref sig .tc := ⟨.hbm, 113, rfl⟩
abbrev main_while1b_v63 : Ref sig .tc := ⟨.hbm, 114, rfl⟩
abbrev main_while1b_v64 : Ref sig .tc := ⟨.hbm, 115, rfl⟩
abbrev main_while1b_v65 : Ref sig .tc := ⟨.hbm, 116, rfl⟩
abbrev main_while1b_v66 : Ref sig .tc := ⟨.hbm, 117, rfl⟩
abbrev main_while1b_v67 : Ref sig .tc := ⟨.hbm, 118, rfl⟩
abbrev main_while1b_v68 : Ref sig .tc := ⟨.hbm, 119, rfl⟩
abbrev main_while1b_v69 : Ref sig .tc := ⟨.hbm, 120, rfl⟩
abbrev main_while1b_v70 : Ref sig .tc := ⟨.hbm, 121, rfl⟩
abbrev main_while1b_v71 : Ref sig .tc := ⟨.hbm, 122, rfl⟩
abbrev main_while1b_v72 : Ref sig .tc := ⟨.hbm, 123, rfl⟩
abbrev main_while1b_v73 : Ref sig .tc := ⟨.hbm, 124, rfl⟩
abbrev main_while1b_v74 : Ref sig .tc := ⟨.hbm, 125, rfl⟩
abbrev main_while1b_v75 : Ref sig .tc := ⟨.hbm, 126, rfl⟩
abbrev main_while1b_v76 : Ref sig .tc := ⟨.hbm, 127, rfl⟩
abbrev main_while1b_v77 : Ref sig .tc := ⟨.hbm, 128, rfl⟩
abbrev main_while1b_v78 : Ref sig .tc := ⟨.hbm, 129, rfl⟩
abbrev main_while1b_cst_18 : Ref sig .tc := ⟨.hbm, 130, rfl⟩
abbrev main_while1b_v79 : Ref sig .tc := ⟨.hbm, 131, rfl⟩
abbrev main_while1b_v80 : Ref sig .tc := ⟨.hbm, 132, rfl⟩
abbrev main_while1b_cst_19 : Ref sig .tc := ⟨.hbm, 133, rfl⟩
abbrev main_while1b_v81 : Ref sig .tc := ⟨.hbm, 134, rfl⟩
abbrev main_while1b_v82 : Ref sig .tc := ⟨.hbm, 135, rfl⟩
abbrev main_while1b_v83 : Ref sig .tc := ⟨.hbm, 136, rfl⟩
abbrev main_while1b_v84 : Ref sig .tc := ⟨.hbm, 137, rfl⟩
abbrev main_while1b_cst_20 : Ref sig .tc := ⟨.hbm, 138, rfl⟩
abbrev main_while1b_v85 : Ref sig .tc := ⟨.hbm, 139, rfl⟩
abbrev main_while1b_v86 : Ref sig .tc := ⟨.hbm, 140, rfl⟩
abbrev main_while1b_cst_21 : Ref sig .tc := ⟨.hbm, 141, rfl⟩
abbrev main_while1b_v87 : Ref sig .tc := ⟨.hbm, 142, rfl⟩
abbrev main_while1b_v88 : Ref sig .tc := ⟨.hbm, 143, rfl⟩
abbrev main_while1b_v89 : Ref sig .tc := ⟨.hbm, 144, rfl⟩
abbrev main_while1b_v90 : Ref sig .tc := ⟨.hbm, 145, rfl⟩
abbrev main_while1b_v91 : Ref sig .tc := ⟨.hbm, 146, rfl⟩
abbrev main_while1b_cst_22 : Ref sig .tc := ⟨.hbm, 147, rfl⟩
abbrev main_while1b_v92 : Ref sig .tc := ⟨.hbm, 148, rfl⟩
abbrev main_while1b_v93 : Ref sig .tc := ⟨.hbm, 149, rfl⟩
abbrev main_while1b_cst_23 : Ref sig .tc := ⟨.hbm, 150, rfl⟩
abbrev main_while1b_v94 : Ref sig .tc := ⟨.hbm, 151, rfl⟩
abbrev main_while1b_v95 : Ref sig .tc := ⟨.hbm, 152, rfl⟩
abbrev main_while1b_v96 : Ref sig .tc := ⟨.hbm, 153, rfl⟩
abbrev main_while1b_v97 : Ref sig .tc := ⟨.hbm, 154, rfl⟩
abbrev main_while1b_v98 : Ref sig .tc := ⟨.hbm, 155, rfl⟩
abbrev main_while1b_v99 : Ref sig .tc := ⟨.hbm, 156, rfl⟩
abbrev main_while1b_v100 : Ref sig .tc := ⟨.hbm, 157, rfl⟩
abbrev main_while1b_call3_v0 : Ref sig .tc := ⟨.hbm, 158, rfl⟩
abbrev main_while1b_call3_c : Ref sig .tc := ⟨.hbm, 159, rfl⟩
abbrev main_while1b_call3_c_0 : Ref sig .tc := ⟨.hbm, 160, rfl⟩
abbrev main_while1b_v101 : Ref sig .tc := ⟨.hbm, 161, rfl⟩
abbrev main_while1b_c_24 : Ref sig .tc := ⟨.hbm, 162, rfl⟩
abbrev main_while1b_v102 : Ref sig .tc := ⟨.hbm, 163, rfl⟩
abbrev main_v15 : Ref sig .tc := ⟨.hbm, 164, rfl⟩
abbrev main_v16 : Ref sig .tc := ⟨.hbm, 165, rfl⟩
abbrev main_v17 : Ref sig .tc := ⟨.hbm, 166, rfl⟩
abbrev main_v18 : Ref sig .tc := ⟨.hbm, 167, rfl⟩
abbrev main_v19 : Ref sig .tc := ⟨.hbm, 168, rfl⟩
abbrev main_v20 : Ref sig .tc := ⟨.hbm, 169, rfl⟩
abbrev main_call4_c : Ref sig .tc := ⟨.hbm, 170, rfl⟩
abbrev main_call4_v0 : Ref sig .tc := ⟨.hbm, 171, rfl⟩
abbrev main_call4_v1 : Ref sig .tc := ⟨.hbm, 172, rfl⟩
abbrev main_call4_c_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_c_1 : Ref sig .tc := ⟨.hbm, 178, rfl⟩
abbrev main_call4_c_2 : Ref sig .tc := ⟨.hbm, 179, rfl⟩
abbrev main_call4_v6 : Ref sig .tc := ⟨.hbm, 180, rfl⟩
abbrev main_call4_v7 : Ref sig .tc := ⟨.hbm, 181, rfl⟩
abbrev main_call4_v8 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_c_3 : Ref sig .tc := ⟨.hbm, 186, rfl⟩
abbrev main_call4_v12 : Ref sig .tc := ⟨.hbm, 187, rfl⟩
abbrev main_call4_v13 : Ref sig .tc := ⟨.hbm, 188, rfl⟩
abbrev main_call4_v14 : Ref sig .tc := ⟨.hbm, 189, rfl⟩
abbrev main_call4_cst : Ref sig .tc := ⟨.hbm, 190, rfl⟩
abbrev main_call4_v15 : Ref sig .tc := ⟨.hbm, 191, rfl⟩
abbrev main_v21 : Ref sig .tc := ⟨.hbm, 192, rfl⟩
abbrev main_v22 : Ref sig .tc := ⟨.hbm, 193, rfl⟩
abbrev main_v23 : Ref sig .tc := ⟨.hbm, 194, rfl⟩
abbrev main_v24 : Ref sig .tc := ⟨.hbm, 195, rfl⟩
abbrev main_v25 : Ref sig .tc := ⟨.hbm, 196, rfl⟩
abbrev main_v26 : Ref sig .tc := ⟨.hbm, 197, rfl⟩
abbrev main_cst_4 : Ref sig .tc := ⟨.hbm, 198, rfl⟩
abbrev main_v27 : Ref sig .tc := ⟨.hbm, 199, rfl⟩
abbrev main_c_5 : Ref sig .tc := ⟨.hbm, 200, rfl⟩
abbrev main_v28_0 : Ref sig .tc := ⟨.hbm, 201, rfl⟩
abbrev main_v28_1 : Ref sig .tc := ⟨.hbm, 202, rfl⟩
abbrev main_v28_2 : Ref sig .tc := ⟨.hbm, 203, rfl⟩
abbrev main_v28_3 : Ref sig .tc := ⟨.hbm, 204, rfl⟩
abbrev main_v28_4 : Ref sig .tc := ⟨.hbm, 205, rfl⟩
abbrev main_v28_5 : Ref sig .tc := ⟨.hbm, 206, rfl⟩
abbrev main_v28_6 : Ref sig .tc := ⟨.hbm, 207, rfl⟩
abbrev main_v28_7 : Ref sig .tc := ⟨.hbm, 208, rfl⟩
abbrev main_v28_8 : Ref sig .tc := ⟨.hbm, 209, rfl⟩
abbrev main_while2c_c_18 : Ref sig .tc := ⟨.hbm, 210, rfl⟩
abbrev main_while2c_v61 : Ref sig .tc := ⟨.hbm, 211, rfl⟩
abbrev main_while2b_call5_c : Ref sig .tc := ⟨.hbm, 212, rfl⟩
abbrev main_while2b_call5_c_0 : Ref sig .tc := ⟨.hbm, 213, rfl⟩
abbrev main_while2b_call5_v0 : Ref sig .tc := ⟨.hbm, 214, rfl⟩
abbrev main_while2b_v61 : Ref sig .tc := ⟨.hbm, 215, rfl⟩
abbrev main_while2b_v62 : Ref sig .tc := ⟨.hbm, 216, rfl⟩
abbrev main_while2b_v63 : Ref sig .tc := ⟨.hbm, 217, rfl⟩
abbrev main_while2b_v64 : Ref sig .tc := ⟨.hbm, 218, rfl⟩
abbrev main_while2b_v65 : Ref sig .tc := ⟨.hbm, 219, rfl⟩
abbrev main_while2b_v66 : Ref sig .tc := ⟨.hbm, 220, rfl⟩
abbrev main_while2b_v67 : Ref sig .tc := ⟨.hbm, 221, rfl⟩
abbrev main_while2b_v68 : Ref sig .tc := ⟨.hbm, 222, rfl⟩
abbrev main_while2b_v69 : Ref sig .tc := ⟨.hbm, 223, rfl⟩
abbrev main_while2b_v70 : Ref sig .tc := ⟨.hbm, 224, rfl⟩
abbrev main_while2b_v71 : Ref sig .tc := ⟨.hbm, 225, rfl⟩
abbrev main_while2b_v72 : Ref sig .tc := ⟨.hbm, 226, rfl⟩
abbrev main_while2b_v73 : Ref sig .tc := ⟨.hbm, 227, rfl⟩
abbrev main_while2b_v74 : Ref sig .tc := ⟨.hbm, 228, rfl⟩
abbrev main_while2b_v75 : Ref sig .tc := ⟨.hbm, 229, rfl⟩
abbrev main_while2b_v76 : Ref sig .tc := ⟨.hbm, 230, rfl⟩
abbrev main_while2b_v77 : Ref sig .tc := ⟨.hbm, 231, rfl⟩
abbrev main_while2b_v78 : Ref sig .tc := ⟨.hbm, 232, rfl⟩
abbrev main_while2b_cst_18 : Ref sig .tc := ⟨.hbm, 233, rfl⟩
abbrev main_while2b_v79 : Ref sig .tc := ⟨.hbm, 234, rfl⟩
abbrev main_while2b_v80 : Ref sig .tc := ⟨.hbm, 235, rfl⟩
abbrev main_while2b_cst_19 : Ref sig .tc := ⟨.hbm, 236, rfl⟩
abbrev main_while2b_v81 : Ref sig .tc := ⟨.hbm, 237, rfl⟩
abbrev main_while2b_v82 : Ref sig .tc := ⟨.hbm, 238, rfl⟩
abbrev main_while2b_v83 : Ref sig .tc := ⟨.hbm, 239, rfl⟩
abbrev main_while2b_v84 : Ref sig .tc := ⟨.hbm, 240, rfl⟩
abbrev main_while2b_cst_20 : Ref sig .tc := ⟨.hbm, 241, rfl⟩
abbrev main_while2b_v85 : Ref sig .tc := ⟨.hbm, 242, rfl⟩
abbrev main_while2b_v86 : Ref sig .tc := ⟨.hbm, 243, rfl⟩
abbrev main_while2b_cst_21 : Ref sig .tc := ⟨.hbm, 244, rfl⟩
abbrev main_while2b_v87 : Ref sig .tc := ⟨.hbm, 245, rfl⟩
abbrev main_while2b_v88 : Ref sig .tc := ⟨.hbm, 246, rfl⟩
abbrev main_while2b_v89 : Ref sig .tc := ⟨.hbm, 247, rfl⟩
abbrev main_while2b_v90 : Ref sig .tc := ⟨.hbm, 248, rfl⟩
abbrev main_while2b_v91 : Ref sig .tc := ⟨.hbm, 249, rfl⟩
abbrev main_while2b_cst_22 : Ref sig .tc := ⟨.hbm, 250, rfl⟩
abbrev main_while2b_v92 : Ref sig .tc := ⟨.hbm, 251, rfl⟩
abbrev main_while2b_v93 : Ref sig .tc := ⟨.hbm, 252, rfl⟩
abbrev main_while2b_cst_23 : Ref sig .tc := ⟨.hbm, 253, rfl⟩
abbrev main_while2b_v94 : Ref sig .tc := ⟨.hbm, 254, rfl⟩
abbrev main_while2b_v95 : Ref sig .tc := ⟨.hbm, 255, rfl⟩
abbrev main_while2b_v96 : Ref sig .tc := ⟨.hbm, 256, rfl⟩
abbrev main_while2b_v97 : Ref sig .tc := ⟨.hbm, 257, rfl⟩
abbrev main_while2b_v98 : Ref sig .tc := ⟨.hbm, 258, rfl⟩
abbrev main_while2b_v99 : Ref sig .tc := ⟨.hbm, 259, rfl⟩
abbrev main_while2b_v100 : Ref sig .tc := ⟨.hbm, 260, rfl⟩
abbrev main_while2b_call6_v0 : Ref sig .tc := ⟨.hbm, 261, rfl⟩
abbrev main_while2b_call6_c : Ref sig .tc := ⟨.hbm, 262, rfl⟩
abbrev main_while2b_call6_c_0 : Ref sig .tc := ⟨.hbm, 263, rfl⟩
abbrev main_while2b_v101 : Ref sig .tc := ⟨.hbm, 264, rfl⟩
abbrev main_while2b_c_24 : Ref sig .tc := ⟨.hbm, 265, rfl⟩
abbrev main_while2b_v102 : Ref sig .tc := ⟨.hbm, 266, rfl⟩
abbrev main_v29 : Ref sig .tc := ⟨.hbm, 267, rfl⟩
abbrev main_v30 : Ref sig .tc := ⟨.hbm, 268, rfl⟩
abbrev main_v31 : Ref sig .tc := ⟨.hbm, 269, rfl⟩
abbrev main_v32 : Ref sig .tc := ⟨.hbm, 270, rfl⟩
abbrev main_cst_6 : Ref sig .tc := ⟨.hbm, 271, rfl⟩
abbrev main_v33 : Ref sig .tc := ⟨.hbm, 272, rfl⟩
abbrev main_c_7 : Ref sig .tc := ⟨.hbm, 273, rfl⟩
abbrev main_v34_0 : Ref sig .tc := ⟨.hbm, 274, rfl⟩
abbrev main_v34_1 : Ref sig .tc := ⟨.hbm, 275, rfl⟩
abbrev main_v34_2 : Ref sig .tc := ⟨.hbm, 276, rfl⟩
abbrev main_v34_3 : Ref sig .tc := ⟨.hbm, 277, rfl⟩
abbrev main_v34_4 : Ref sig .tc := ⟨.hbm, 278, rfl⟩
abbrev main_v34_5 : Ref sig .tc := ⟨.hbm, 279, rfl⟩
abbrev main_v34_6 : Ref sig .tc := ⟨.hbm, 280, rfl⟩
abbrev main_v34_7 : Ref sig .tc := ⟨.hbm, 281, rfl⟩
abbrev main_v34_8 : Ref sig .tc := ⟨.hbm, 282, rfl⟩
abbrev main_while3c_c_18 : Ref sig .tc := ⟨.hbm, 283, rfl⟩
abbrev main_while3c_v61 : Ref sig .tc := ⟨.hbm, 284, rfl⟩
abbrev main_while3b_call7_c : Ref sig .tc := ⟨.hbm, 285, rfl⟩
abbrev main_while3b_call7_c_0 : Ref sig .tc := ⟨.hbm, 286, rfl⟩
abbrev main_while3b_call7_v0 : Ref sig .tc := ⟨.hbm, 287, rfl⟩
abbrev main_while3b_v61 : Ref sig .tc := ⟨.hbm, 288, rfl⟩
abbrev main_while3b_v62 : Ref sig .tc := ⟨.hbm, 289, rfl⟩
abbrev main_while3b_v63 : Ref sig .tc := ⟨.hbm, 290, rfl⟩
abbrev main_while3b_v64 : Ref sig .tc := ⟨.hbm, 291, rfl⟩
abbrev main_while3b_v65 : Ref sig .tc := ⟨.hbm, 292, rfl⟩
abbrev main_while3b_v66 : Ref sig .tc := ⟨.hbm, 293, rfl⟩
abbrev main_while3b_v67 : Ref sig .tc := ⟨.hbm, 294, rfl⟩
abbrev main_while3b_v68 : Ref sig .tc := ⟨.hbm, 295, rfl⟩
abbrev main_while3b_v69 : Ref sig .tc := ⟨.hbm, 296, rfl⟩
abbrev main_while3b_v70 : Ref sig .tc := ⟨.hbm, 297, rfl⟩
abbrev main_while3b_v71 : Ref sig .tc := ⟨.hbm, 298, rfl⟩
abbrev main_while3b_v72 : Ref sig .tc := ⟨.hbm, 299, rfl⟩
abbrev main_while3b_v73 : Ref sig .tc := ⟨.hbm, 300, rfl⟩
abbrev main_while3b_v74 : Ref sig .tc := ⟨.hbm, 301, rfl⟩
abbrev main_while3b_v75 : Ref sig .tc := ⟨.hbm, 302, rfl⟩
abbrev main_while3b_v76 : Ref sig .tc := ⟨.hbm, 303, rfl⟩
abbrev main_while3b_v77 : Ref sig .tc := ⟨.hbm, 304, rfl⟩
abbrev main_while3b_v78 : Ref sig .tc := ⟨.hbm, 305, rfl⟩
abbrev main_while3b_cst_18 : Ref sig .tc := ⟨.hbm, 306, rfl⟩
abbrev main_while3b_v79 : Ref sig .tc := ⟨.hbm, 307, rfl⟩
abbrev main_while3b_v80 : Ref sig .tc := ⟨.hbm, 308, rfl⟩
abbrev main_while3b_cst_19 : Ref sig .tc := ⟨.hbm, 309, rfl⟩
abbrev main_while3b_v81 : Ref sig .tc := ⟨.hbm, 310, rfl⟩
abbrev main_while3b_v82 : Ref sig .tc := ⟨.hbm, 311, rfl⟩
abbrev main_while3b_v83 : Ref sig .tc := ⟨.hbm, 312, rfl⟩
abbrev main_while3b_v84 : Ref sig .tc := ⟨.hbm, 313, rfl⟩
abbrev main_while3b_cst_20 : Ref sig .tc := ⟨.hbm, 314, rfl⟩
abbrev main_while3b_v85 : Ref sig .tc := ⟨.hbm, 315, rfl⟩
abbrev main_while3b_v86 : Ref sig .tc := ⟨.hbm, 316, rfl⟩
abbrev main_while3b_cst_21 : Ref sig .tc := ⟨.hbm, 317, rfl⟩
abbrev main_while3b_v87 : Ref sig .tc := ⟨.hbm, 318, rfl⟩
abbrev main_while3b_v88 : Ref sig .tc := ⟨.hbm, 319, rfl⟩
abbrev main_while3b_v89 : Ref sig .tc := ⟨.hbm, 320, rfl⟩
abbrev main_while3b_v90 : Ref sig .tc := ⟨.hbm, 321, rfl⟩
abbrev main_while3b_v91 : Ref sig .tc := ⟨.hbm, 322, rfl⟩
abbrev main_while3b_cst_22 : Ref sig .tc := ⟨.hbm, 323, rfl⟩
abbrev main_while3b_v92 : Ref sig .tc := ⟨.hbm, 324, rfl⟩
abbrev main_while3b_v93 : Ref sig .tc := ⟨.hbm, 325, rfl⟩
abbrev main_while3b_cst_23 : Ref sig .tc := ⟨.hbm, 326, rfl⟩
abbrev main_while3b_v94 : Ref sig .tc := ⟨.hbm, 327, rfl⟩
abbrev main_while3b_v95 : Ref sig .tc := ⟨.hbm, 328, rfl⟩
abbrev main_while3b_v96 : Ref sig .tc := ⟨.hbm, 329, rfl⟩
abbrev main_while3b_v97 : Ref sig .tc := ⟨.hbm, 330, rfl⟩
abbrev main_while3b_v98 : Ref sig .tc := ⟨.hbm, 331, rfl⟩
abbrev main_while3b_v99 : Ref sig .tc := ⟨.hbm, 332, rfl⟩
abbrev main_while3b_v100 : Ref sig .tc := ⟨.hbm, 333, rfl⟩
abbrev main_while3b_call8_v0 : Ref sig .tc := ⟨.hbm, 334, rfl⟩
abbrev main_while3b_call8_c : Ref sig .tc := ⟨.hbm, 335, rfl⟩
abbrev main_while3b_call8_c_0 : Ref sig .tc := ⟨.hbm, 336, rfl⟩
abbrev main_while3b_v101 : Ref sig .tc := ⟨.hbm, 337, rfl⟩
abbrev main_while3b_c_24 : Ref sig .tc := ⟨.hbm, 338, rfl⟩
abbrev main_while3b_v102 : Ref sig .tc := ⟨.hbm, 339, rfl⟩
abbrev main_v35 : Ref sig .tc := ⟨.hbm, 340, rfl⟩
abbrev main_v36 : Ref sig .tc := ⟨.hbm, 341, rfl⟩
abbrev main_v37 : Ref sig .tc := ⟨.hbm, 342, rfl⟩
abbrev main_v38 : Ref sig .tc := ⟨.hbm, 343, rfl⟩
abbrev main_v39 : Ref sig .tc := ⟨.hbm, 344, rfl⟩
abbrev main_v40 : Ref sig .tc := ⟨.hbm, 345, rfl⟩
abbrev main_v41 : Ref sig .tc := ⟨.hbm, 346, rfl⟩
abbrev main_v42 : Ref sig .tc := ⟨.hbm, 347, rfl⟩
abbrev main_v43 : Ref sig .tc := ⟨.hbm, 348, rfl⟩
abbrev main_v44 : Ref sig .tc := ⟨.hbm, 349, rfl⟩
abbrev main_v45 : Ref sig .tc := ⟨.hbm, 350, rfl⟩
abbrev main_v46 : Ref sig .tc := ⟨.hbm, 351, rfl⟩
abbrev main_v47 : Ref sig .tc := ⟨.hbm, 352, rfl⟩
abbrev main_v48 : Ref sig .tc := ⟨.hbm, 353, rfl⟩
abbrev main_call9_cst : Ref sig .tc := ⟨.hbm, 354, rfl⟩
abbrev main_call9_v0 : Ref sig .tc := ⟨.hbm, 355, rfl⟩
abbrev main_call9_cst_0 : Ref sig .tc := ⟨.hbm, 356, rfl⟩
abbrev main_call9_v1 : Ref sig .tc := ⟨.hbm, 357, rfl⟩
abbrev main_call9_v2 : Ref sig .tc := ⟨.hbm, 358, rfl⟩
abbrev main_call9_v3 : Ref sig .tc := ⟨.hbm, 359, rfl⟩
abbrev main_call9_v4 : Ref sig .tc := ⟨.hbm, 360, rfl⟩
abbrev main_call9_v5 : Ref sig .tc := ⟨.hbm, 361, rfl⟩
abbrev main_call9_v6 : Ref sig .tc := ⟨.hbm, 362, rfl⟩
abbrev main_call9_cst_1 : Ref sig .tc := ⟨.hbm, 363, rfl⟩
abbrev main_call9_v7 : Ref sig .tc := ⟨.hbm, 364, rfl⟩
abbrev main_call9_v8 : Ref sig .tc := ⟨.hbm, 365, rfl⟩
abbrev main_call9_v9 : Ref sig .tc := ⟨.hbm, 366, rfl⟩
abbrev main_call9_v10 : Ref sig .tc := ⟨.hbm, 367, rfl⟩
abbrev main_v49 : Ref sig .tc := ⟨.hbm, 368, rfl⟩
abbrev main_v50 : Ref sig .tc := ⟨.hbm, 369, rfl⟩
abbrev main_call10_c : Ref sig .tc := ⟨.hbm, 370, rfl⟩
abbrev main_call10_v0 : Ref sig .tc := ⟨.hbm, 371, rfl⟩
abbrev main_call10_v1 : Ref sig .tc := ⟨.hbm, 372, rfl⟩
abbrev main_call10_c_0 : Ref sig .tc := ⟨.hbm, 373, rfl⟩
abbrev main_call10_v2 : Ref sig .tc := ⟨.hbm, 374, rfl⟩
abbrev main_call10_v3 : Ref sig .tc := ⟨.hbm, 375, rfl⟩
abbrev main_call10_v4 : Ref sig .tc := ⟨.hbm, 376, rfl⟩
abbrev main_call10_v5 : Ref sig .tc := ⟨.hbm, 377, rfl⟩
abbrev main_call10_c_1 : Ref sig .tc := ⟨.hbm, 378, rfl⟩
abbrev main_call10_c_2 : Ref sig .tc := ⟨.hbm, 379, rfl⟩
abbrev main_call10_v6 : Ref sig .tc := ⟨.hbm, 380, rfl⟩
abbrev main_call10_v7 : Ref sig .tc := ⟨.hbm, 381, rfl⟩
abbrev main_call10_v8 : Ref sig .tc := ⟨.hbm, 382, rfl⟩
abbrev main_call10_v9 : Ref sig .tc := ⟨.hbm, 383, rfl⟩
abbrev main_call10_v10 : Ref sig .tc := ⟨.hbm, 384, rfl⟩
abbrev main_call10_v11 : Ref sig .tc := ⟨.hbm, 385, rfl⟩
abbrev main_call10_c_3 : Ref sig .tc := ⟨.hbm, 386, rfl⟩
abbrev main_call10_v12 : Ref sig .tc := ⟨.hbm, 387, rfl⟩
abbrev main_call10_v13 : Ref sig .tc := ⟨.hbm, 388, rfl⟩
abbrev main_call10_cst : Ref sig .tc := ⟨.hbm, 389, rfl⟩
abbrev main_call10_v14 : Ref sig .tc := ⟨.hbm, 390, rfl⟩
abbrev main_v51 : Ref sig .tc := ⟨.hbm, 391, rfl⟩
abbrev main_v52 : Ref sig .tc := ⟨.hbm, 392, rfl⟩
abbrev main_v53 : Ref sig .tc := ⟨.hbm, 393, rfl⟩
abbrev main_c_8 : Ref sig .tc := ⟨.hbm, 394, rfl⟩
abbrev main_v54 : Ref sig .tc := ⟨.hbm, 395, rfl⟩
abbrev main_v55 : Ref sig .tc := ⟨.hbm, 396, rfl⟩
abbrev main_v56 : Ref sig .tc := ⟨.hbm, 397, rfl⟩
abbrev main_v57 : Ref sig .tc := ⟨.hbm, 398, rfl⟩
abbrev main_cst_9 : Ref sig .tc := ⟨.hbm, 399, rfl⟩
abbrev main_v58 : Ref sig .tc := ⟨.hbm, 400, rfl⟩
abbrev main_v59 : Ref sig .tc := ⟨.hbm, 401, rfl⟩
abbrev main_v60 : Ref sig .tc := ⟨.hbm, 402, rfl⟩

abbrev nD : Nat := 1
abbrev τ : Topo := Topo.v7x

variable {F : FTy → Type} [FloatOps F]

abbrev main_while0_count : Scf.Loop 32 := ⟨0#32, 1#32, 1#32⟩

abbrev main_while1_count : Scf.Loop 32 := ⟨0#32, 1#32, 1#32⟩

abbrev main_while2_count : Scf.Loop 32 := ⟨0#32, 512#32, 1#32⟩

abbrev main_while3_count : Scf.Loop 32 := ⟨0#32, 512#32, 1#32⟩
-- ==== Proof.Spec.lean ====
module

public import Idealize.ShloMosaic.PureOps.Ideal
public import Idealize.ShloMosaic.Lib.Pointwise

@[expose] public section

noncomputable section

/-! The mathematics of the problem for ONE row of the batch: two stacked LSTM cells over the extended
reals, run over a sequence of tokens, and the log-likelihood they assign to the tokens that follow. -/

namespace Lstm

open Idealize.ShloMosaic
open scoped BigOperators

/-- The logistic function as the reference writes it. -/
def sig (x : EReal) : EReal := Ideal.div 1 (1 + Ideal.exp (-x))

/-- A cell's new memory at unit `j`: the forget gate times the old memory, plus the input gate times the
    candidate. The four gates lie one after another in the row `g` of 2048 pre-activations. -/
def newC (g : Fin 2048 → EReal) (c : Fin 512 → EReal) (j : Fin 512) : EReal :=
  sig (g ⟨512 + j.val, by omega⟩) * c j + sig (g ⟨j.val, by omega⟩) * Ideal.tanh (g ⟨1024 + j.val, by omega⟩)

/-- A cell's new output at unit `j`: the output gate times the hyperbolic tangent of the new memory. -/
def newH (g : Fin 2048 → EReal) (c : Fin 512 → EReal) (j : Fin 512) : EReal :=
  sig (g ⟨1536 + j.val, by omega⟩) * Ideal.tanh (newC g c j)

/-- The weights and biases of one layer. -/
structure Layer where
  /-- input weights -/
  wi : Fin 2048 → Fin 512 → EReal
  /-- recurrent weights -/
  wh : Fin 2048 → Fin 512 → EReal
  /-- input bias -/
  bi : Fin 2048 → EReal
  /-- recurrent bias -/
  bh : Fin 2048 → EReal

/-- The pre-activations of one layer from its input `x` and its last output `h`. -/
def Layer.gates (L : Layer) (x h : Fin 512 → EReal) (r : Fin 2048) : EReal :=
  ∑ k, x k * L.wi r k + ∑ k, h k * L.wh r k + L.bi r + L.bh r

/-- One step of a layer: from the input `x` and the state (output, memory) to the next state. -/
def Layer.step (L : Layer) (x : Fin 512 → EReal) (s : (Fin 512 → EReal) × (Fin 512 → EReal)) :
    (Fin 512 → EReal) × (Fin 512 → EReal) :=
  (newH (L.gates x s.1) s.2, newC (L.gates x s.1) s.2)

/-- The data of one row of the batch. -/
structure Row where
  /-- the layer below -/
  l0 : Layer
  /-- the layer above -/
  l1 : Layer
  /-- the output layer's weights -/
  wo : Fin 64 → Fin 512 → EReal
  /-- the output layer's bias -/
  bo : Fin 64 → EReal
  /-- the embedding table -/
  emb : Fin 64 → Fin 512 → EReal
  /-- the row's initial input -/
  st : Fin 512 → EReal
  /-- the row's tokens -/
  tok : Fin 512 → Fin 64

/-- Token `n` of the row; past the end, the last one is not asked for (any value does). -/
def Row.tk (R : Row) (n : ℕ) : Fin 64 := if h : n < 512 then R.tok ⟨n, h⟩ else 0

/-- The state of the layer below after the initial input and `n` tokens. -/
def Row.s0 (R : Row) : ℕ → (Fin 512 → EReal) × (Fin 512 → EReal)
  | 0 => R.l0.step R.st (fun _ => 0, fun _ => 0)
  | n + 1 => R.l0.step (R.emb (R.tk n)) (R.s0 n)

/-- The state of the layer above after the initial input and `n` tokens: it reads the outputs of the
    layer below. -/
def Row.s1 (R : Row) : ℕ → (Fin 512 → EReal) × (Fin 512 → EReal)
  | 0 => R.l1.step (R.s0 0).1 (fun _ => 0, fun _ => 0)
  | n + 1 => R.l1.step (R.s0 (n + 1)).1 (R.s1 n)

/-- The logits of the token that follows token `n`. -/
def Row.logit (R : Row) (n : ℕ) (v : Fin 64) : EReal :=
  ∑ k, (R.s1 (n + 1)).1 k * R.wo v k + R.bo v

/-- The greatest of 64 values. -/
def top (l : Fin 64 → EReal) : EReal := Finset.univ.fold max ⊥ l

/-- The log-softmax of 64 logits at `v`, computed from the logits less the greatest. -/
def logp (l : Fin 64 → EReal) (v : Fin 64) : EReal :=
  (l v - top l) - Ideal.log (∑ u, Ideal.exp (l u - top l))

/-- A target counts unless it is the padding token. -/
def mask (v : Fin 64) : EReal := if v = 0 then 0 else 1

/-- The row's log-likelihood: minus the masked sum of the negative log-probabilities of the targets. -/
def Row.ll (R : Row) : EReal :=
  -(∑ n : Fin 511, (-(logp (R.logit n) (R.tk (n + 1)))) * mask (R.tk (n + 1)))

end Lstm

end
-- ==== Proof.Scalar.lean ====
module

public import proofs.«01_k».proof.Proof.Spec

@[expose] public section

noncomputable section

/-! Facts about single extended reals and about which values of the recurrence are real numbers. -/

namespace Lstm

open Idealize.ShloMosaic
open scoped BigOperators

/-- An extended real that is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i, IsReal (f i)) : IsReal (∑ i ∈ s, f i) := by
  choose g hg using h
  exact ⟨∑ i ∈ s, g i, by simp only [hg]; exact (map_sum (⟨⟨(↑), EReal.coe_zero⟩, EReal.coe_add⟩ : ℝ →+ EReal) g s).symm⟩

/-- A value whose magnitude lies below plus infinity is a real number. -/
theorem isReal_of_abs_lt {x : EReal} (h : max x (-x) < ⊤) : IsReal x := by
  induction x with
  | bot => simp at h
  | top => simp at h
  | coe r => exact ⟨r, rfl⟩

/-- The bit pattern of one half denotes one half. -/
theorem half_eq : Ideal.ofBits .f32 0x3F000000#32 = (((1 : ℝ) / 2 : ℝ) : EReal) := by
  simp [Ideal.ofBits, Ideal.ieee]
  norm_num
  rw [← EReal.coe_mul]
  norm_num

/-- The bit pattern of minus infinity denotes the least extended real. -/
theorem negInf_eq : Ideal.ofBits .f32 0xFF800000#32 = ⊥ := by
  simp [Ideal.ofBits, Ideal.ieee]

/-- The bit pattern of plus infinity denotes the greatest extended real. -/
theorem posInf_eq : Ideal.ofBits .f32 0x7F800000#32 = ⊤ := by
  simp [Ideal.ofBits, Ideal.ieee]

theorem sig_coe (r : ℝ) : sig r = (((1 + Real.exp (-r))⁻¹ : ℝ) : EReal) := Ideal.logistic_coe (r := r)

theorem sig_top : sig ⊤ = 1 := Ideal.logistic_top

theorem sig_bot : sig ⊥ = 0 := Ideal.logistic_bot

/-- Half of one plus the hyperbolic tangent of half of `x` is the logistic function of `x`, at every
    extended real. -/
theorem sig_half (x : EReal) :
    Ideal.ofBits .f32 0x3F000000#32 * Ideal.tanh (Ideal.ofBits .f32 0x3F000000#32 * x)
      + Ideal.ofBits .f32 0x3F000000#32 = sig x := by
  rw [half_eq]
  induction x with
  | bot =>
    rw [EReal.coe_mul_bot_of_pos (by norm_num), sig_bot]
    show ((1 / 2 : ℝ) : EReal) * ((-1 : ℝ) : EReal) + ((1 / 2 : ℝ) : EReal) = ((0 : ℝ) : EReal)
    rw [← EReal.coe_mul, ← EReal.coe_add]; norm_num
  | top =>
    rw [EReal.coe_mul_top_of_pos (by norm_num), sig_top]
    show ((1 / 2 : ℝ) : EReal) * ((1 : ℝ) : EReal) + ((1 / 2 : ℝ) : EReal) = ((1 : ℝ) : EReal)
    rw [← EReal.coe_mul, ← EReal.coe_add]; norm_num
  | coe r =>
    rw [← EReal.coe_mul, sig_coe]
    show ((1 / 2 : ℝ) : EReal) * ((Real.tanh (1 / 2 * r) : ℝ) : EReal) + ((1 / 2 : ℝ) : EReal) = _
    rw [← EReal.coe_mul, ← EReal.coe_add, EReal.coe_eq_coe_iff, Real.tanh_eq_sinh_div_cosh, Real.sinh_eq, Real.cosh_eq]
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by rw [← Real.exp_add]; simp
    have p1 := Real.exp_pos (1 / 2 * r)
    have p2 := Real.exp_pos (-(1 / 2 * r))
    rw [h1]
    generalize Real.exp (1 / 2 * r) = E at *
    generalize Real.exp (-(1 / 2 * r)) = N at *
    have h3 : 1 / 2 * ((E - N) / 2 / ((E + N) / 2)) + 1 / 2 = E / (E + N) := by field_simp; ring
    rw [h3, div_eq_iff (by positivity), inv_mul_eq_div, eq_div_iff (by positivity)]
    linear_combination N * h2

theorem isReal_sig (x : EReal) : IsReal (sig x) := by
  induction x with
  | bot => exact ⟨0, sig_bot⟩
  | top => exact ⟨1, sig_top⟩
  | coe r => exact ⟨_, sig_coe r⟩

theorem isReal_tanh (x : EReal) : IsReal (Ideal.tanh x) := by
  induction x with
  | bot => exact ⟨-1, rfl⟩
  | top => exact ⟨1, rfl⟩
  | coe r => exact ⟨_, rfl⟩

/-- A cell keeps a real memory real, whatever its pre-activations. -/
theorem isReal_newC (g : Fin 2048 → EReal) (c : Fin 512 → EReal) (hc : ∀ j, IsReal (c j)) (j : Fin 512) :
    IsReal (newC g c j) :=
  ((isReal_sig _).mul (hc j)).add ((isReal_sig _).mul (isReal_tanh _))

/-- A cell's output is always real. -/
theorem isReal_newH (g : Fin 2048 → EReal) (c : Fin 512 → EReal) (j : Fin 512) : IsReal (newH g c j) :=
  (isReal_sig _).mul (isReal_tanh _)

/-- Every output of the layer above is a product of two bounded functions' values, so a real number. -/
theorem Row.isReal_s1 (R : Row) (n : ℕ) (j : Fin 512) : IsReal ((R.s1 n).1 j) := by
  cases n <;> exact isReal_newH _ _ _

/-- With real output weights and bias every logit is real. -/
theorem Row.isReal_logit (R : Row) (hw : ∀ v k, IsReal (R.wo v k)) (hb : ∀ v, IsReal (R.bo v)) (n : ℕ) (v : Fin 64) :
    IsReal (R.logit n v) :=
  (IsReal.sum _ _ fun k => (R.isReal_s1 _ k).mul (hw v k)).add (hb v)

/-- The greatest of 64 real numbers is real. -/
theorem isReal_top (l : Fin 64 → EReal) (hl : ∀ v, IsReal (l v)) : IsReal (top l) := by
  have hlt : top l < ⊤ := by
    unfold top; rw [Finset.fold_max_lt]
    exact ⟨bot_lt_top, fun v _ => by obtain ⟨r, hr⟩ := hl v; rw [hr]; exact EReal.coe_lt_top r⟩
  have hgt : ⊥ < top l := by
    unfold top; rw [Finset.lt_fold_max]
    exact Or.inr ⟨0, Finset.mem_univ _, by obtain ⟨r, hr⟩ := hl 0; rw [hr]; exact EReal.bot_lt_coe r⟩
  exact ⟨(top l).toReal, (EReal.coe_toReal hlt.ne hgt.ne').symm⟩

/-- The logarithm of a sum of exponentials of 64 real numbers is real. -/
theorem isReal_log_sum_exp (d : Fin 64 → EReal) (hd : ∀ v, IsReal (d v)) : IsReal (Ideal.log (∑ u, Ideal.exp (d u))) := by
  choose g hg using hd
  have h : ∑ u, Ideal.exp (d u) = ((∑ u, Real.exp (g u) : ℝ) : EReal) := by
    simp only [hg]
    exact (map_sum (⟨⟨(↑), EReal.coe_zero⟩, EReal.coe_add⟩ : ℝ →+ EReal) (fun u => Real.exp (g u)) Finset.univ).symm
  rw [h]
  have hpos : 0 < ∑ u, Real.exp (g u) := Finset.sum_pos (fun u _ => Real.exp_pos _) ⟨0, Finset.mem_univ _⟩
  exact ⟨Real.log (∑ u, Real.exp (g u)), by show (if _ ≤ (0 : ℝ) then _ else _) = _; rw [if_neg hpos.not_ge]⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem isReal_logp (l : Fin 64 → EReal) (hl : ∀ v, IsReal (l v)) (v : Fin 64) : IsReal (logp l v) :=
  ((hl v).sub (isReal_top l hl)).sub (isReal_log_sum_exp _ fun u => (hl u).sub (isReal_top l hl))

/-- For real logits: the logit less the greatest plus the logarithm is the log-softmax. -/
theorem logp_eq (l : Fin 64 → EReal) (hl : ∀ v, IsReal (l v)) (v : Fin 64) :
    l v - (top l + Ideal.log (∑ u, Ideal.exp (l u - top l))) = logp l v := by
  unfold logp
  obtain ⟨a, ha⟩ := hl v
  obtain ⟨b, hb⟩ := isReal_top l hl
  obtain ⟨e, he⟩ := isReal_log_sum_exp _ fun u => (hl u).sub (isReal_top l hl)
  rw [he, ha, hb, ← EReal.coe_add, ← EReal.coe_sub, ← EReal.coe_sub, ← EReal.coe_sub, EReal.coe_eq_coe_iff]
  ring

theorem isReal_mask (v : Fin 64) : IsReal (mask v) := by
  unfold mask; split
  · exact ⟨0, rfl⟩
  · exact ⟨1, rfl⟩

/-- With real logits the two minus signs of the log-likelihood cancel. -/
theorem Row.ll_eq (R : Row) (hw : ∀ v k, IsReal (R.wo v k)) (hb : ∀ v, IsReal (R.bo v)) :
    R.ll = ∑ n : Fin 511, logp (R.logit n) (R.tk (n + 1)) * mask (R.tk (n + 1)) := by
  have hx : ∀ n : Fin 511, IsReal (logp (R.logit n) (R.tk (n + 1)) * mask (R.tk (n + 1))) := fun n =>
    (isReal_logp _ (R.isReal_logit hw hb n) _).mul (isReal_mask _)
  unfold Row.ll
  choose g hg using hx
  let φ : ℝ →+ EReal := ⟨⟨(↑), EReal.coe_zero⟩, EReal.coe_add⟩
  simp only [EReal.neg_mul, hg]
  have h1 : ∑ n : Fin 511, -((g n : ℝ) : EReal) = ((∑ n : Fin 511, -(g n) : ℝ) : EReal) :=
    (map_sum φ (fun n => -(g n)) Finset.univ).symm
  have h2 : ∑ n : Fin 511, ((g n : ℝ) : EReal) = ((∑ n : Fin 511, g n : ℝ) : EReal) :=
    (map_sum φ g Finset.univ).symm
  rw [h1, h2, ← EReal.coe_neg, EReal.coe_eq_coe_iff, Finset.sum_neg_distrib, neg_neg]

/-- A one-hot row times a table selects the table's row. -/
theorem sum_oneHot (t : Fin 64) (f : Fin 64 → EReal) : ∑ v, (if v = t then (1 : EReal) else 0) * f v = f t := by
  rw [Finset.sum_eq_single t]
  · simp
  · intro v _ hv; simp [hv]
  · intro h; exact absurd (Finset.mem_univ t) h

/-- A row times a one-hot row summed selects the row's entry. -/
theorem sum_mul_oneHot (t : Fin 64) (f : Fin 64 → EReal) : ∑ v, f v * (if v = t then (1 : EReal) else 0) = f t := by
  simp only [mul_comm (f _)]; exact sum_oneHot t f

/-- One less the one-hot entry of the padding token is the mask. -/
theorem one_sub_oneHot (t : Fin 64) : 1 - (if (0 : Fin 64) = t then (1 : EReal) else 0) = mask t := by
  unfold mask
  by_cases h : t = 0
  · rw [if_pos h.symm, if_pos h]; show ((1 : ℝ) : EReal) - ((1 : ℝ) : EReal) = ((0 : ℝ) : EReal)
    rw [← EReal.coe_sub]; norm_num
  · rw [if_neg (fun e => h e.symm), if_neg h, sub_zero]

end Lstm

end
-- ==== Proof.KernelPay.lean ====
module

public import proofs.«01_k».proof.Proof.Gen.KernelIdeal.Value
public import proofs.«01_k».proof.Proof.Scalar
public import Idealize.ShloMosaic.Lib.Pointwise

@[expose] public section

set_option maxRecDepth 16384

noncomputable section

/-! What the pieces of the kernel's body compute, element by element. -/

namespace Cert.KernelIdeal.Hand

open Cert.KernelIdeal Cert.KernelIdeal.Gen Idealize.ShloMosaic Lstm
open scoped BigOperators

/-- The pre-activations of the layer below in the loop: what the token contributes plus what the last
    output contributes. -/
def g0 (a o : FVec Ideal S16x2048 .f32) (b : Fin 16) (r : Fin 2048) : EReal := o (ix2 b r) + a (ix2 b r)

/-- The new memory of the layer below. -/
theorem pay5 (c : FVec Ideal S16x512 .f32) (a o : FVec Ideal S16x2048 .f32) (b : Fin 16) (j : Fin 512) :
    k0_pay5 c a o (ix2 b j) = newC (g0 a o b) (fun j => c (ix2 b j)) j := by
  pointwise [k0_pay5, k0_pay4]
  simp only [sig_half]
  rfl

/-- The new output of the layer below. -/
theorem pay8 (c : FVec Ideal S16x512 .f32) (a o : FVec Ideal S16x2048 .f32) (b : Fin 16) (j : Fin 512) :
    k0_pay8 c a o (ix2 b j) = newH (g0 a o b) (fun j => c (ix2 b j)) j := by
  unfold k0_pay8
  pointwise [k0_pay4]
  simp only [sig_half, pay5]
  rfl

/-- An output of the layer below times the two weight tables laid side by side. -/
theorem pay9 (w : Vec Ideal S512x4096 .fp8e4m3) (h : FVec Ideal S16x512 .fp8e4m3) (b : Fin 16) (r : Fin 4096) :
    k0_pay9 (k0_pay7 w) h (constant S16x4096 .f32 0x00000000#32) (ix2 b r) = ∑ k, h (ix2 b k) * w (ix2 k r) := by
  pointwise [k0_pay9, k0_pay7]

/-- The right half of that product is the layer's own next contribution. -/
theorem pay2 (v : FVec Ideal S16x4096 .f32) (b : Fin 16) (r : Fin 2048) :
    k0_pay2 v (ix2 b r) = v (ix2 b ⟨2048 + r.val, by omega⟩) := by
  pointwise [k0_pay2]

/-- The pre-activations of the layer above in the loop. -/
def g1 (a : FVec Ideal S16x2048 .f32) (w : Vec Ideal S512x4096 .fp8e4m3) (h : FVec Ideal S16x512 .fp8e4m3)
    (b : Fin 16) (r : Fin 2048) : EReal :=
  ∑ k, h (ix2 b k) * w (ix2 k ⟨r.val, by omega⟩) + a (ix2 b r)

theorem pay10 (a : FVec Ideal S16x2048 .f32) (w : Vec Ideal S512x4096 .fp8e4m3) (h : FVec Ideal S16x512 .fp8e4m3)
    (b : Fin 16) (r : Fin 2048) :
    k0_pay10 a (k0_pay7 w) h (constant S16x4096 .f32 0x00000000#32) (ix2 b r) = g1 a w h b r := by
  unfold k0_pay10
  pointwise
  rw [pay9]; rfl

/-- The new memory of the layer above. -/
theorem pay11 (c : FVec Ideal S16x512 .f32) (a : FVec Ideal S16x2048 .f32) (w : Vec Ideal S512x4096 .fp8e4m3)
    (h : FVec Ideal S16x512 .fp8e4m3) (b : Fin 16) (j : Fin 512) :
    k0_pay11 c a (k0_pay7 w) h (constant S16x4096 .f32 0x00000000#32) (ix2 b j)
      = newC (g1 a w h b) (fun j => c (ix2 b j)) j := by
  unfold k0_pay11
  pointwise
  simp only [sig_half, pay10]
  rfl

/-- The new output of the layer above times the output weights and the recurrent weights side by side. -/
theorem pay12 (c : FVec Ideal S16x512 .f32) (a : FVec Ideal S16x2048 .f32) (w : Vec Ideal S512x4096 .fp8e4m3)
    (h : FVec Ideal S16x512 .fp8e4m3) (w' : Vec Ideal S512x2176 .fp8e4m3) (b : Fin 16) (r : Fin 2176) :
    k0_pay12 c a (k0_pay7 w) h (constant S16x4096 .f32 0x00000000#32) w' (ix2 b r)
      = ∑ k, newH (g1 a w h b) (fun j => c (ix2 b j)) k * w' (ix2 k r) := by
  unfold k0_pay12
  pointwise
  simp only [sig_half, pay10, pay11]
  rfl

/-- The logits. -/
theorem pay13 (c : FVec Ideal S16x512 .f32) (a : FVec Ideal S16x2048 .f32) (w : Vec Ideal S512x4096 .fp8e4m3)
    (h : FVec Ideal S16x512 .fp8e4m3) (w' : Vec Ideal S512x2176 .fp8e4m3) (o : Vec Ideal S1x64 .f32) (b : Fin 16) (v : Fin 64) :
    k0_pay13 c a (k0_pay7 w) h (constant S16x4096 .f32 0x00000000#32) w' o (ix2 b v)
      = ∑ k, newH (g1 a w h b) (fun j => c (ix2 b j)) k * w' (ix2 k ⟨v.val, by omega⟩) + o (ix2 0 v) := by
  unfold k0_pay13
  pointwise
  rw [pay12]

/-- The layer above's own next contribution, with its bias. -/
theorem pay3 (v : FVec Ideal S16x2176 .f32) (b1 : Vec Ideal S1x2048 .f32) (b : Fin 16) (r : Fin 2048) :
    k0_pay3 v b1 (ix2 b r) = v (ix2 b ⟨128 + r.val, by omega⟩) + b1 (ix2 0 r) := by
  pointwise [k0_pay3]

/-- A one-hot row times the table of token contributions. -/
theorem pay6 (oh : Vec Ideal S1x16x64 .fp8e4m3) (p : Vec Ideal S64x2048 .fp8e4m3) (b : Fin 16) (r : Fin 2048) :
    k0_pay6 oh p (ix2 b r) = ∑ v, oh (ix3 0 b v) * p (ix2 v r) := by
  pointwise [k0_pay6]

/-- The running sum after one more target. -/
theorem pay1 (s : FVec Ideal S16x1 .f32) (l : FVec Ideal S16x64 .f32) (oh : Vec Ideal S1x16x64 .fp8e4m3) (b : Fin 16) :
    k0_pay1 s l oh (ix2 b 0) = s (ix2 b 0)
      + (∑ v, l (ix2 b v) * oh (ix3 0 b v)
          - (top (fun v => l (ix2 b v)) + Ideal.log (∑ u, Ideal.exp (l (ix2 b u) - top (fun v => l (ix2 b v))))))
        * (1 - oh (ix3 0 b 0)) := by
  pointwise [k0_pay1]
  rw [negInf_eq]
  rfl

/-- The table of token contributions: embedding times input weights, plus the bias. -/
theorem pay14 (e : Vec Ideal S64x512 .bf16) (w : Vec Ideal S512x2048 .bf16) (b0 : Vec Ideal S1x2048 .f32) (v : Fin 64) (r : Fin 2048) :
    k0_pay14 e w b0 (ix2 v r) = ∑ k, e (ix2 v k) * w (ix2 k r) + b0 (ix2 0 r) := by
  pointwise [k0_pay14]

/-- The one-hot rows of the tokens. -/
theorem pay15 (t : Vec Ideal S512x16 .i32) (n : Fin 512) (b : Fin 16) (v : Fin 64) (x : Fin 64)
    (hx : t (ix2 n b) = BitVec.ofNat 32 x.val) :
    k0_pay15 (F := Ideal) t (ix3 n b v) = if v = x then (1 : EReal) else 0 := by
  pointwise [k0_pay15]
  rw [hx]
  by_cases h : v = x
  · subst h
    rw [if_pos rfl]
    rw [show BitVec.setWidth 32 (IntOp.cmpi .eq (BitVec.ofNat 32 v.val) (BitVec.ofNat 32 v.val)) = 1#32 by
      simp [IntOp.cmpi]]
    change (((1#32 : BitVec 32).toInt : ℝ) : EReal) = 1
    norm_num
  · rw [if_neg h]
    have : BitVec.ofNat 32 x.val ≠ BitVec.ofNat 32 v.val := by
      intro e
      have := congrArg BitVec.toNat e
      simp only [BitVec.toNat_ofNat] at this
      omega
    rw [show IntOp.cmpi .eq (BitVec.ofNat 32 x.val) (BitVec.ofNat 32 v.val) = 0#1 by
      simp only [IntOp.cmpi, beq_eq_false_iff_ne.mpr this]; rfl]
    change (((0#32 : BitVec 32).toInt : ℝ) : EReal) = 0
    norm_num

/-- The pre-activations of the layer below at the initial input. -/
theorem pay17 (s : Vec Ideal S16x512 .f32) (w : Vec Ideal S512x2048 .bf16) (b0 : Vec Ideal S1x2048 .f32) (b : Fin 16) (r : Fin 2048) :
    k0_pay17 s w b0 (ix2 b r) = ∑ k, s (ix2 b k) * w (ix2 k r) + b0 (ix2 0 r) := by
  pointwise [k0_pay17]

/-- The first memory of the layer below. -/
theorem pay19 (s : Vec Ideal S16x512 .f32) (w : Vec Ideal S512x2048 .bf16) (b0 : Vec Ideal S1x2048 .f32) (b : Fin 16) (j : Fin 512) :
    k0_pay19 k0_pay16 (k0_pay17 s w b0) (k0_pay18 s w b0) (ix2 b j)
      = newC (fun r => k0_pay17 s w b0 (ix2 b r)) (fun _ => 0) j := by
  unfold k0_pay19 k0_pay18 k0_pay16
  pointwise
  simp only [sig_half]
  unfold newC; simp

/-- The first output of the layer below times the two weight tables. -/
theorem pay20 (s : Vec Ideal S16x512 .f32) (w : Vec Ideal S512x2048 .bf16) (b0 : Vec Ideal S1x2048 .f32)
    (w0 : Vec Ideal S512x4096 .fp8e4m3) (b : Fin 16) (r : Fin 4096) :
    k0_pay20 k0_pay16 (k0_pay17 s w b0) (k0_pay18 s w b0) w0 (ix2 b r)
      = ∑ k, newH (fun r => k0_pay17 s w b0 (ix2 b r)) (fun _ => 0) k * w0 (ix2 k r) := by
  unfold k0_pay20
  pointwise
  simp only [sig_half, pay19]
  rfl

/-- The first pre-activations of the layer above. -/
theorem pay21 (s : Vec Ideal S16x512 .f32) (w : Vec Ideal S512x2048 .bf16) (b0 : Vec Ideal S1x2048 .f32)
    (w0 : Vec Ideal S512x4096 .fp8e4m3) (b1 : Vec Ideal S1x2048 .f32) (b : Fin 16) (r : Fin 2048) :
    k0_pay21 k0_pay16 (k0_pay17 s w b0) (k0_pay18 s w b0) w0 b1 (ix2 b r)
      = ∑ k, newH (fun r => k0_pay17 s w b0 (ix2 b r)) (fun _ => 0) k * w0 (ix2 k ⟨r.val, by omega⟩) + b1 (ix2 0 r) := by
  unfold k0_pay21
  pointwise
  rw [pay20]

/-- The layer below's own first contribution. -/
theorem pay22 (s : Vec Ideal S16x512 .f32) (w : Vec Ideal S512x2048 .bf16) (b0 : Vec Ideal S1x2048 .f32)
    (w0 : Vec Ideal S512x4096 .fp8e4m3) (b : Fin 16) (r : Fin 2048) :
    k0_pay22 k0_pay16 (k0_pay17 s w b0) (k0_pay18 s w b0) w0 (ix2 b r)
      = ∑ k, newH (fun r => k0_pay17 s w b0 (ix2 b r)) (fun _ => 0) k * w0 (ix2 k ⟨2048 + r.val, by omega⟩) := by
  unfold k0_pay22
  pointwise
  rw [pay20]

/-- The first memory of the layer above, from its first pre-activations `g`. -/
theorem pay24 (g : FVec Ideal S16x2048 .f32) (t : FVec Ideal S16x512 .f32)
    (ht : ∀ (b : Fin 16) (j : Fin 512), t (ix2 b j) = Ideal.tanh (Ideal.ofBits .f32 0x3F000000#32 * g (ix2 b ⟨j.val, by omega⟩)))
    (b : Fin 16) (j : Fin 512) :
    k0_pay24 k0_pay16 g t (Scalar.ofBits .f32 0x3F000000#32) (ix2 b j) = newC (fun r => g (ix2 b r)) (fun _ => 0) j := by
  unfold k0_pay24 k0_pay16
  pointwise
  simp only [sig_half, ht]
  unfold newC; simp

/-- The layer above's own first contribution, with its bias. -/
theorem pay25 (g : FVec Ideal S16x2048 .f32) (t : FVec Ideal S16x512 .f32)
    (ht : ∀ (b : Fin 16) (j : Fin 512), t (ix2 b j) = Ideal.tanh (Ideal.ofBits .f32 0x3F000000#32 * g (ix2 b ⟨j.val, by omega⟩)))
    (w1 : Vec Ideal S512x2176 .fp8e4m3) (b1 : Vec Ideal S1x2048 .f32) (b : Fin 16) (r : Fin 2048) :
    k0_pay25 k0_pay16 g t (Scalar.ofBits .f32 0x3F000000#32) w1 b1 (ix2 b r)
      = ∑ k, newH (fun r => g (ix2 b r)) (fun _ => 0) k * w1 (ix2 k ⟨128 + r.val, by omega⟩) + b1 (ix2 0 r) := by
  unfold k0_pay25
  pointwise
  simp only [sig_half]
  have e : ∀ x, k0_pay24 k0_pay16 g t (Ideal.ofBits .f32 0x3F000000#32) (ix2 b x) = newC (fun r => g (ix2 b r)) (fun _ => 0) x :=
    pay24 g t ht b
  congr 1
  refine Finset.sum_congr rfl fun k _ => ?_
  rw [e]; rfl

/-- The first gate's hyperbolic tangent, computed apart. -/
theorem pay23 (s : Vec Ideal S16x512 .f32) (w : Vec Ideal S512x2048 .bf16) (b0 : Vec Ideal S1x2048 .f32)
    (w0 : Vec Ideal S512x4096 .fp8e4m3) (b1 : Vec Ideal S1x2048 .f32) (b : Fin 16) (j : Fin 512) :
    k0_pay23 k0_pay16 (k0_pay17 s w b0) (k0_pay18 s w b0) w0 b1 (ix2 b j)
      = Ideal.tanh (Ideal.ofBits .f32 0x3F000000#32
          * k0_pay21 k0_pay16 (k0_pay17 s w b0) (k0_pay18 s w b0) w0 b1 (ix2 b ⟨j.val, by omega⟩)) := by
  unfold k0_pay23
  pointwise

/-- The first token's contribution. -/
theorem pay26 (oh : Vec Ideal S1x16x64 .fp8e4m3) (p : Vec Ideal S64x2048 .fp8e4m3) (b : Fin 16) (r : Fin 2048) :
    k0_pay26 oh p (ix2 b r) = ∑ v, oh (ix3 0 b v) * p (ix2 v r) := by
  pointwise [k0_pay26]

/-- The running sum starts at zero. -/
theorem pay27 (b : Fin 16) : k0_pay27 (F := Ideal) (ix2 b 0) = 0 := by
  pointwise [k0_pay27]

end Cert.KernelIdeal.Hand

end
-- ==== Proof.KernelTrip.lean ====
/- One trip of the kernel's loop, and the loop. -/
module

public import proofs.«01_k».proof.Proof.KernelPay
public import Idealize.ShloMosaic.Lib.VecWindow

@[expose] public section

set_option maxRecDepth 16384

noncomputable section

namespace Cert.KernelIdeal.Hand

open Cert.KernelIdeal Cert.KernelIdeal.Gen Idealize.ShloMosaic Idealize.ShloMosaic.TcCoe Idealize.SL.Sem Lstm
open scoped BigOperators

/-- What the loop carries: the memories of the two layers, what the two last outputs contribute to the next
    pre-activations, what the next token contributes, and the running sum. -/
abbrev Carry (F : FTy → Type) : Type :=
  FVec F S16x512 .f32 × FVec F S16x512 .f32 × FVec F S16x2048 .f32 × FVec F S16x2048 .f32 × FVec F S16x2048 .f32 × FVec F S16x1 .f32

section
variable {F : FTy → Type} [FloatOps F]

/-- One trip, from the weight tables, the biases, the table of token contributions and the one-hot rows of the
    token that follows. -/
def next (w0 : Vec F S512x4096 .fp8e4m3) (w1 : Vec F S512x2176 .fp8e4m3) (b1 : Vec F S1x2048 .f32) (bo : Vec F S1x64 .f32)
    (p : Vec F S64x2048 .fp8e4m3) (oh : Vec F S1x16x64 .fp8e4m3) (s : Carry F) : Carry F :=
  (k0_pay5 s.1 s.2.2.1 s.2.2.2.2.1,
    k0_pay11 s.2.1 s.2.2.2.1 (k0_pay7 w0) (k0_pay8 s.1 s.2.2.1 s.2.2.2.2.1) (constant S16x4096 .f32 0x00000000#32),
    k0_pay2 (k0_pay9 (k0_pay7 w0) (k0_pay8 s.1 s.2.2.1 s.2.2.2.2.1) (constant S16x4096 .f32 0x00000000#32)),
    k0_pay3 (k0_pay12 s.2.1 s.2.2.2.1 (k0_pay7 w0) (k0_pay8 s.1 s.2.2.1 s.2.2.2.2.1) (constant S16x4096 .f32 0x00000000#32) w1) b1,
    k0_pay6 oh p,
    k0_pay1 s.2.2.2.2.2 (k0_pay13 s.2.1 s.2.2.2.1 (k0_pay7 w0) (k0_pay8 s.1 s.2.2.1 s.2.2.2.2.1) (constant S16x4096 .f32 0x00000000#32) w1 bo) oh)

/-- The generated trip is that one, on what the loop reads. -/
theorem trip_eq (𝒱 : Variants) (c : Dev nD) (bd : Option 𝒱.V) (arg0 harg0 arg1 harg1 arg2 harg2 arg3 harg3 arg4 harg4 arg5 harg5 arg6 harg6 arg7 harg7
    arg8 harg8 arg9 harg9 arg10 harg10 arg11 harg11 X_arg4 X_arg5 X_arg7 X_arg8 X_arg10 X_arg11 k acc) :
    tripR_k0_t1 (F := F) 𝒱 c bd arg0 harg0 arg1 harg1 arg2 harg2 arg3 harg3 arg4 harg4 arg5 harg5 arg6 harg6 arg7 harg7 arg8 harg8 arg9 harg9
        arg10 harg10 arg11 harg11 X_arg4 X_arg5 X_arg7 X_arg8 X_arg10 X_arg11 k acc
      = next (arg4.view.read (Elt F) X_arg4) (arg5.view.read (Elt F) X_arg5) (arg7.view.read (Elt F) X_arg7) (arg8.view.read (Elt F) X_arg8)
          (arg10.view.read (Elt F) X_arg10)
          (arg11.view.readAt (Elt F) (Rect.unit (s := S512x16x64) (k0_off1 k) S1x16x64.size (Facts₀.k0_off1_inb k)).toLoadRect X_arg11) acc := by
  unfold tripR_k0_t1 trip_k0_t1
  dsimp only
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7]
  have e4 := View.readAt_full (Val := Elt F) arg4.view X_arg4 (off := ![0, 0]) inb_S512x4096_S512x4096_0_0
  have e5 := View.readAt_full (Val := Elt F) arg5.view X_arg5 (off := ![0, 0]) inb_S512x2176_S512x2176_0_0
  have e7 := View.readAt_full (Val := Elt F) arg7.view X_arg7 (off := ![0, 0]) inb_S1x2048_S1x2048_0_0
  have e8 := View.readAt_full (Val := Elt F) arg8.view X_arg8 (off := ![0, 0]) inb_S1x64_S1x64_0_0
  have e10 := View.readAt_full (Val := Elt F) arg10.view X_arg10 (off := ![0, 0]) inb_S64x2048_S64x2048_0_0
  rw [← e4, ← e5, ← e7, ← e8, ← e10]
  rfl

end

/-! ## The loop's meaning -/

/-- The tables hold the rows' weights and biases. -/
structure Tables (R : Fin 16 → Row) (w0 : Vec Ideal S512x4096 .fp8e4m3) (w1 : Vec Ideal S512x2176 .fp8e4m3) (b1 : Vec Ideal S1x2048 .f32)
    (bo : Vec Ideal S1x64 .f32) (p : Vec Ideal S64x2048 .fp8e4m3) : Prop where
  /-- the left half of the first table is the layer above's input weights -/
  wi1 : ∀ b (r : Fin 2048) k, w0 (ix2 k (⟨r.val, by omega⟩ : Fin 4096)) = (R b).l1.wi r k
  /-- its right half the layer below's recurrent weights -/
  wh0 : ∀ b (r : Fin 2048) k, w0 (ix2 k (⟨2048 + r.val, by omega⟩ : Fin 4096)) = (R b).l0.wh r k
  /-- the second table begins with the output weights -/
  wo : ∀ b (v : Fin 64) k, w1 (ix2 k (⟨v.val, by omega⟩ : Fin 2176)) = (R b).wo v k
  /-- and ends with the layer above's recurrent weights -/
  wh1 : ∀ b (r : Fin 2048) k, w1 (ix2 k (⟨128 + r.val, by omega⟩ : Fin 2176)) = (R b).l1.wh r k
  /-- the layer above's two biases are one -/
  b1 : ∀ b r, b1 (ix2 0 r) = (R b).l1.bi r + (R b).l1.bh r
  /-- the output bias -/
  bo : ∀ b v, bo (ix2 0 v) = (R b).bo v
  /-- each token's contribution to the layer below -/
  p : ∀ b v r, p (ix2 v r) = ∑ k, (R b).emb v k * (R b).l0.wi r k + ((R b).l0.bi r + (R b).l0.bh r)

/-- The one-hot rows mark token `n` of each row. -/
def Marks (R : Fin 16 → Row) (n : ℕ) (oh : Vec Ideal S1x16x64 .fp8e4m3) : Prop :=
  ∀ (b : Fin 16) (v : Fin 64), oh (ix3 0 b v) = if v = (R b).tk n then (1 : EReal) else 0

/-- What is carried before trip `n`. -/
structure Holds (R : Fin 16 → Row) (n : ℕ) (s : Carry Ideal) : Prop where
  /-- the memory of the layer below -/
  m0 : ∀ b j, s.1 (ix2 b j) = ((R b).s0 n).2 j
  /-- the memory of the layer above -/
  m1 : ∀ b j, s.2.1 (ix2 b j) = ((R b).s1 n).2 j
  /-- what the layer below's output contributes -/
  a0 : ∀ b r, s.2.2.1 (ix2 b r) = ∑ k, ((R b).s0 n).1 k * (R b).l0.wh r k
  /-- what the layer above's output contributes, with the biases -/
  a1 : ∀ b r, s.2.2.2.1 (ix2 b r) = ∑ k, ((R b).s1 n).1 k * (R b).l1.wh r k + ((R b).l1.bi r + (R b).l1.bh r)
  /-- what the token contributes, with the biases -/
  x : ∀ b r, s.2.2.2.2.1 (ix2 b r) = ∑ k, (R b).emb ((R b).tk n) k * (R b).l0.wi r k + ((R b).l0.bi r + (R b).l0.bh r)
  /-- the masked sum so far -/
  t : ∀ b, s.2.2.2.2.2 (ix2 b 0) = ∑ i ∈ Finset.range n, logp ((R b).logit i) ((R b).tk (i + 1)) * mask ((R b).tk (i + 1))

section
variable {R : Fin 16 → Row} {w0 : Vec Ideal S512x4096 .fp8e4m3} {w1 : Vec Ideal S512x2176 .fp8e4m3} {b1 : Vec Ideal S1x2048 .f32}
  {bo : Vec Ideal S1x64 .f32} {p : Vec Ideal S64x2048 .fp8e4m3} (T : Tables R w0 w1 b1 bo p)
include T

/-- A one-hot row times the table of contributions is the token's contribution. -/
theorem contribution {n : ℕ} {oh : Vec Ideal S1x16x64 .fp8e4m3} (ho : Marks R n oh) (b : Fin 16) (r : Fin 2048) :
    ∑ v, oh (ix3 0 b v) * p (ix2 v r) = ∑ k, (R b).emb ((R b).tk n) k * (R b).l0.wi r k + ((R b).l0.bi r + (R b).l0.bh r) := by
  simp only [ho b]
  rw [sum_oneHot ((R b).tk n) fun v => p (ix2 v r), T.p b]

/-- A trip takes the carried values one token on. -/
theorem holds_next (hw : ∀ b v k, IsReal ((R b).wo v k)) (hb : ∀ b v, IsReal ((R b).bo v)) {n : ℕ} {oh : Vec Ideal S1x16x64 .fp8e4m3}
    (ho : Marks R (n + 1) oh) {s : Carry Ideal} (h : Holds R n s) : Holds R (n + 1) (next w0 w1 b1 bo p oh s) := by
  have e0 : ∀ b, g0 s.2.2.1 s.2.2.2.2.1 b = (R b).l0.gates ((R b).emb ((R b).tk n)) ((R b).s0 n).1 := fun b => funext fun r => by
    unfold g0 Layer.gates
    rw [h.x, h.a0]
    abel
  have f0 : ∀ b, (fun j => s.1 (ix2 b j)) = ((R b).s0 n).2 := fun b => funext (h.m0 b)
  have hid0 : ∀ b j, k0_pay8 s.1 s.2.2.1 s.2.2.2.2.1 (ix2 b j) = ((R b).s0 (n + 1)).1 j := fun b j => by
    rw [pay8, e0, f0]; rfl
  have e1 : ∀ b, g1 s.2.2.2.1 w0 (k0_pay8 s.1 s.2.2.1 s.2.2.2.2.1) b = (R b).l1.gates ((R b).s0 (n + 1)).1 ((R b).s1 n).1 := fun b => funext fun r => by
    unfold g1 Layer.gates
    simp only [hid0, T.wi1 b]
    rw [h.a1]
    abel
  have f1 : ∀ b, (fun j => s.2.1 (ix2 b j)) = ((R b).s1 n).2 := fun b => funext (h.m1 b)
  have hid1 : ∀ b k, newH (g1 s.2.2.2.1 w0 (k0_pay8 s.1 s.2.2.1 s.2.2.2.2.1) b) (fun j => s.2.1 (ix2 b j)) k = ((R b).s1 (n + 1)).1 k := fun b k => by
    rw [e1, f1]; rfl
  have lg : ∀ b v, k0_pay13 s.2.1 s.2.2.2.1 (k0_pay7 w0) (k0_pay8 s.1 s.2.2.1 s.2.2.2.2.1) (constant S16x4096 .f32 0x00000000#32) w1 bo (ix2 b v)
      = (R b).logit n v := fun b v => by
    rw [pay13]
    simp only [hid1, T.wo b]
    rw [T.bo b]; rfl
  refine ⟨fun b j => ?_, fun b j => ?_, fun b r => ?_, fun b r => ?_, fun b r => ?_, fun b => ?_⟩
  · show k0_pay5 s.1 s.2.2.1 s.2.2.2.2.1 (ix2 b j) = _
    rw [pay5, e0, f0]; rfl
  · show k0_pay11 s.2.1 s.2.2.2.1 (k0_pay7 w0) (k0_pay8 s.1 s.2.2.1 s.2.2.2.2.1) (constant S16x4096 .f32 0x00000000#32) (ix2 b j) = _
    rw [pay11, e1, f1]; rfl
  · show k0_pay2 (k0_pay9 (k0_pay7 w0) (k0_pay8 s.1 s.2.2.1 s.2.2.2.2.1) (constant S16x4096 .f32 0x00000000#32)) (ix2 b r) = _
    rw [pay2, pay9]
    simp only [hid0, T.wh0 b]
  · show k0_pay3 (k0_pay12 s.2.1 s.2.2.2.1 (k0_pay7 w0) (k0_pay8 s.1 s.2.2.1 s.2.2.2.2.1) (constant S16x4096 .f32 0x00000000#32) w1) b1 (ix2 b r) = _
    rw [pay3, pay12, T.b1 b]
    simp only [hid1, T.wh1 b]
  · show k0_pay6 oh p (ix2 b r) = _
    rw [pay6, contribution T ho]
  · show k0_pay1 s.2.2.2.2.2 (k0_pay13 s.2.1 s.2.2.2.1 (k0_pay7 w0) (k0_pay8 s.1 s.2.2.1 s.2.2.2.2.1) (constant S16x4096 .f32 0x00000000#32) w1 bo) oh (ix2 b 0) = _
    rw [pay1, h.t b, Finset.sum_range_succ]
    simp only [lg, ho b]
    rw [sum_mul_oneHot ((R b).tk (n + 1)) ((R b).logit n), one_sub_oneHot]
    have := logp_eq ((R b).logit n) ((R b).isReal_logit (hw b) (hb b) n) ((R b).tk (n + 1))
    rw [← this]

end

end Cert.KernelIdeal.Hand

end
-- ==== Proof.RowOf.lean ====
/- The mathematical row that the argument arrays describe. -/
module

public import proofs.«01_k».proof.Proof.Scalar
public import Idealize.ShloMosaic.Lib.Pointwise

@[expose] public section

noncomputable section

namespace Lstm

open Idealize.ShloMosaic

/-- A layer from its four arrays. -/
abbrev layerOf (wi wh : (⟨2, ![2048, 512]⟩ : Shape).Idx → EReal) (bi bh : (⟨1, ![2048]⟩ : Shape).Idx → EReal) : Layer :=
  ⟨fun r k => wi (ix2 r k), fun r k => wh (ix2 r k), fun r => bi (ix1 r), fun r => bh (ix1 r)⟩

/-- Token `n` of row `b`, as one of the 64 of the vocabulary. -/
def tokOf (t : (⟨2, ![16, 512]⟩ : Shape).Idx → BitVec 32) (b : Fin 16) (n : Fin 512) : Fin 64 :=
  ⟨(t (ix2 b n)).toNat % 64, Nat.mod_lt _ (by decide)⟩

/-- Every token is one of the vocabulary. -/
def InVocabulary (t : (⟨2, ![16, 512]⟩ : Shape).Idx → BitVec 32) : Prop :=
  ∀ (b : Fin 16) (n : Fin 512), t (ix2 b n) = BitVec.ofNat 32 (tokOf t b n).val

/-- Row `b` of the argument arrays. -/
def rowOf (st : (⟨2, ![16, 512]⟩ : Shape).Idx → EReal) (t : (⟨2, ![16, 512]⟩ : Shape).Idx → BitVec 32) (emb : (⟨2, ![64, 512]⟩ : Shape).Idx → EReal)
    (wi0 wh0 : (⟨2, ![2048, 512]⟩ : Shape).Idx → EReal) (bi0 bh0 : (⟨1, ![2048]⟩ : Shape).Idx → EReal)
    (wi1 wh1 : (⟨2, ![2048, 512]⟩ : Shape).Idx → EReal) (bi1 bh1 : (⟨1, ![2048]⟩ : Shape).Idx → EReal)
    (wo : (⟨2, ![64, 512]⟩ : Shape).Idx → EReal) (bo : (⟨1, ![64]⟩ : Shape).Idx → EReal) (b : Fin 16) : Row where
  l0 := layerOf wi0 wh0 bi0 bh0
  l1 := layerOf wi1 wh1 bi1 bh1
  wo v k := wo (ix2 v k)
  bo v := bo (ix1 v)
  emb v k := emb (ix2 v k)
  st k := st (ix2 b k)
  tok := tokOf t b

/-- Inside the row, token `n` is the array's. -/
theorem Row.tk_of_lt (R : Row) (n : Fin 512) : R.tk n.val = R.tok n := dif_pos n.isLt

/-- A token's word as a signed number. -/
theorem tok_toNat : ∀ x : Fin 64, (BitVec.ofNat 32 x.val).toInt.toNat = x.val := by decide +kernel

end Lstm

end
-- ==== Proof.KernelValue.lean ====
/- The kernel's loop from end to end. -/
module

public import proofs.«01_k».proof.Proof.KernelTrip
public import proofs.«01_k».proof.Proof.RowOf

@[expose] public section

set_option maxRecDepth 16384

noncomputable section

namespace Cert.KernelIdeal.Hand

open Cert.KernelIdeal Cert.KernelIdeal.Gen Idealize.ShloMosaic Idealize.ShloMosaic.TcCoe Idealize.SL.Sem Lstm
open scoped BigOperators

/-- A store of a whole buffer is what the buffer then holds. -/
theorem read_store {κ : Kind} {sp : Space} {s : Shape} {e : EltTy} {Val : EltTy → Type} (v : View sig κ sp s e) (f : v.ty.Contents Val)
    {off : Fin s.rank → ℕ} (inb : ∀ a, off a + s.size a ≤ s.size a) (w : s.Idx → Val e) :
    v.read Val (v.writes Val f [⟨Rect.unit off s.size inb, w⟩]) = w := by
  funext y
  exact View.read_writes_cons_unit_of_mem (off' := off) v f inb w [] y y rfl fun a => by have := inb a; omega

section
variable {F : FTy → Type} [FloatOps F]

/-- What the loop starts from. -/
def start (x0 : Vec F S16x512 .f32) (x3 : Vec F S512x2048 .bf16) (x4 : Vec F S512x4096 .fp8e4m3) (x5 : Vec F S512x2176 .fp8e4m3)
    (x6 x7 : Vec F S1x2048 .f32) (oh : Vec F S1x16x64 .fp8e4m3) (p : Vec F S64x2048 .fp8e4m3) : Carry F :=
  (k0_pay19 k0_pay16 (k0_pay17 x0 x3 x6) (k0_pay18 x0 x3 x6),
    k0_pay24 k0_pay16 (k0_pay21 k0_pay16 (k0_pay17 x0 x3 x6) (k0_pay18 x0 x3 x6) x4 x7)
      (k0_pay23 k0_pay16 (k0_pay17 x0 x3 x6) (k0_pay18 x0 x3 x6) x4 x7) (Scalar.ofBits .f32 0x3F000000#32),
    k0_pay22 k0_pay16 (k0_pay17 x0 x3 x6) (k0_pay18 x0 x3 x6) x4,
    k0_pay25 k0_pay16 (k0_pay21 k0_pay16 (k0_pay17 x0 x3 x6) (k0_pay18 x0 x3 x6) x4 x7)
      (k0_pay23 k0_pay16 (k0_pay17 x0 x3 x6) (k0_pay18 x0 x3 x6) x4 x7) (Scalar.ofBits .f32 0x3F000000#32) x5 x7,
    k0_pay26 oh p, k0_pay27)

/-- One token's plane of the one-hot rows. -/
def plane (oh : Vec F S512x16x64 .fp8e4m3) (n : Fin 512) : Vec F S1x16x64 .fp8e4m3 :=
  fun y => oh (ix3 n (⟨(y 1).val, (y 1).isLt⟩ : Fin 16) (⟨(y 2).val, (y 2).isLt⟩ : Fin 64))

/-- Loading one plane of a buffer gives that plane of its contents. -/
theorem plane_read (v : View sig .tc .vmem S512x16x64 .fp8e4m3) (f : v.ty.Contents (Elt F)) (n : Fin 512) {off : Fin 3 → ℕ}
    (inb : ∀ a, off a + S1x16x64.size a ≤ S512x16x64.size a) (h : off = ![n.val, 0, 0]) :
    v.readAt (Elt F) (Rect.unit (s := S512x16x64) off S1x16x64.size inb).toLoadRect f = plane (v.read (Elt F) f) n := by
  subst h
  funext y
  refine congrArg (v.read (Elt F) f) (funext fun a => Fin.ext ?_)
  fin_cases a
  · show n.val + 1 * (y 0).val = n.val
    have : (y 0).val < 1 := (y 0).isLt
    omega
  · show 0 + 1 * (y 1).val = (y 1).val
    omega
  · show 0 + 1 * (y 2).val = (y 2).val
    omega

/-- The block the kernel leaves is the running sum after the loop. -/
theorem out_eq (c : Dev nD) (arg0 harg0 arg1 harg1 arg2 harg2 arg3 harg3 arg4 harg4 arg5 harg5 arg6 harg6 arg7 harg7
    arg8 harg8 arg9 harg9 arg10 harg10 arg11 harg11 x0 x1 x2 x3 x4 x5 x6 x7 x8) (P : Vec F S16x1 .f32 → Prop)
    (hP : ∀ X4 X5 X7 X8 X10 X11, arg4.view.read (Elt F) X4 = x4 → arg5.view.read (Elt F) X5 = x5 → arg7.view.read (Elt F) X7 = x7
      → arg8.view.read (Elt F) X8 = x8 → arg10.view.read (Elt F) X10 = k0_pay14 x2 x3 x6 → arg11.view.read (Elt F) X11 = k0_pay15 x1
      → P (st_k0_t1 Variants.none c none arg0 harg0 arg1 harg1 arg2 harg2 arg3 harg3 arg4 harg4 arg5 harg5 arg6 harg6 arg7 harg7 arg8 harg8
          arg9 harg9 arg10 harg10 arg11 harg11 X4 X5 X7 X8 X10 X11
          (start x0 x3 x4 x5 x6 x7 (plane (k0_pay15 x1) 0) (k0_pay14 x2 x3 x6)) (Scf.trips (0#32) (Scalar.addi 0#32 511#32) 1#32)).2.2.2.2.2) :
    P (out0_A_9 (F := F) c arg0 harg0 arg1 harg1 arg2 harg2 arg3 harg3 arg4 harg4 arg5 harg5 arg6 harg6 arg7 harg7 arg8 harg8 arg9 harg9
      arg10 harg10 arg11 harg11 x0 x1 x2 x3 x4 x5 x6 x7 x8) := by
  have r0 : arg0.view.readAt (Elt F) (Rect.unit (s := S16x512) ![0, 0] ![16, 512] inb_S16x512_S16x512_0_0).toLoadRect (harg0.unread x0) = x0 :=
    (View.readAt_full arg0.view (harg0.unread x0) inb_S16x512_S16x512_0_0).trans (harg0.read_unread x0)
  have r1 : arg1.view.readAt (Elt F) (Rect.unit (s := S512x16) ![0, 0] ![512, 16] inb_S512x16_S512x16_0_0).toLoadRect (harg1.unread x1) = x1 :=
    (View.readAt_full arg1.view (harg1.unread x1) inb_S512x16_S512x16_0_0).trans (harg1.read_unread x1)
  have r2 : arg2.view.readAt (Elt F) (Rect.unit (s := S64x512) ![0, 0] ![64, 512] inb_S64x512_S64x512_0_0).toLoadRect (harg2.unread x2) = x2 :=
    (View.readAt_full arg2.view (harg2.unread x2) inb_S64x512_S64x512_0_0).trans (harg2.read_unread x2)
  have r3 : arg3.view.readAt (Elt F) (Rect.unit (s := S512x2048) ![0, 0] ![512, 2048] inb_S512x2048_S512x2048_0_0).toLoadRect (harg3.unread x3) = x3 :=
    (View.readAt_full arg3.view (harg3.unread x3) inb_S512x2048_S512x2048_0_0).trans (harg3.read_unread x3)
  have r4 : arg4.view.readAt (Elt F) (Rect.unit (s := S512x4096) ![0, 0] ![512, 4096] inb_S512x4096_S512x4096_0_0).toLoadRect (harg4.unread x4) = x4 :=
    (View.readAt_full arg4.view (harg4.unread x4) inb_S512x4096_S512x4096_0_0).trans (harg4.read_unread x4)
  have r5 : arg5.view.readAt (Elt F) (Rect.unit (s := S512x2176) ![0, 0] ![512, 2176] inb_S512x2176_S512x2176_0_0).toLoadRect (harg5.unread x5) = x5 :=
    (View.readAt_full arg5.view (harg5.unread x5) inb_S512x2176_S512x2176_0_0).trans (harg5.read_unread x5)
  have r6 : arg6.view.readAt (Elt F) (Rect.unit (s := S1x2048) ![0, 0] ![1, 2048] inb_S1x2048_S1x2048_0_0).toLoadRect (harg6.unread x6) = x6 :=
    (View.readAt_full arg6.view (harg6.unread x6) inb_S1x2048_S1x2048_0_0).trans (harg6.read_unread x6)
  have r7 : arg7.view.readAt (Elt F) (Rect.unit (s := S1x2048) ![0, 0] ![1, 2048] inb_S1x2048_S1x2048_0_0).toLoadRect (harg7.unread x7) = x7 :=
    (View.readAt_full arg7.view (harg7.unread x7) inb_S1x2048_S1x2048_0_0).trans (harg7.read_unread x7)
  unfold out0_A_9 kernelRun0_A
  dsimp only
  rw [show ∀ (f) (w : Vec F S16x1 .f32), View.read (Elt F) VO0_9 (VO0_9.writes (Elt F) f [⟨Rect.unit ![0, 0] ![16, 1] inb_S16x1_S16x1_0_0, w⟩]) = w
    from fun f w => read_store VO0_9 f inb_S16x1_S16x1_0_0 w]
  have p10 : arg10.view.read (Elt F) (arg10.view.writes (Elt F) arg10.view.junk (kernelRun0_A.sl.HS0_1 c arg2 harg2 arg3 harg3 arg6 harg6 x2 x3 x6))
      = k0_pay14 x2 x3 x6 := by
    unfold kernelRun0_A.sl.HS0_1
    rw [r2, r3, r6]
    exact read_store arg10.view _ inb_S64x2048_S64x2048_0_0 _
  have p11 : arg11.view.read (Elt F) (arg11.view.writes (Elt F) arg11.view.junk (kernelRun0_A.sl.HS1_1 c arg1 harg1 x1)) = k0_pay15 x1 := by
    unfold kernelRun0_A.sl.HS1_1
    rw [r1]
    exact read_store arg11.view _ inb_S512x16x64_S512x16x64_0_0_0 _
  have v116 : kernelRun0_A.sl.v116 c arg1 harg1 arg11 x1 = plane (k0_pay15 x1) 0 := by
    rw [← p11]
    exact plane_read arg11.view _ 0 inb_S512x16x64_S1x16x64_0_0_0 rfl
  have v118 : kernelRun0_A.sl.v118 c arg2 harg2 arg3 harg3 arg6 harg6 arg10 x2 x3 x6 = k0_pay14 x2 x3 x6 := by
    rw [← p10]
    exact View.readAt_full arg10.view _ inb_S64x2048_S64x2048_0_0
  have main := hP _ _ _ _ _ _ (harg4.read_unread x4) (harg5.read_unread x5) (harg7.read_unread x7) (harg8.read_unread x8) p10 p11
  simp only [kernelRun0_A.sl.r_2, kernelRun0_A.sl.r_6, kernelRun0_A.sl.r_4, kernelRun0_A.sl.r_7, kernelRun0_A.sl.r_8, kernelRun0_A.sl.r,
    kernelRun0_A.sl.r_1, kernelRun0_A.sl.r_3, kernelRun0_A.sl.r_5]
  rw [v116, v118, r0, r3, r4, r5, r6, r7]
  exact main

end

/-! ## The loop's meaning -/

section
variable {R : Fin 16 → Row}

/-- Where the loop starts: after the initial input, before the first token. -/
theorem holds_start {x0 : Vec Ideal S16x512 .f32} {x3 : Vec Ideal S512x2048 .bf16} {x4 x5 x6 x7 bo p} (T : Tables R x4 x5 x7 bo p)
    (h0 : ∀ b k, x0 (ix2 b k) = (R b).st k) (h3 : ∀ b (r : Fin 2048) k, x3 (ix2 k r) = (R b).l0.wi r k)
    (h6 : ∀ b r, x6 (ix2 0 r) = (R b).l0.bi r + (R b).l0.bh r) {oh} (ho : Marks R 0 oh) :
    Holds R 0 (start x0 x3 x4 x5 x6 x7 oh p) := by
  have e0 : ∀ b, (fun r => k0_pay17 x0 x3 x6 (ix2 b r)) = (R b).l0.gates (R b).st (fun _ => 0) := fun b => funext fun r => by
    rw [pay17, h6 b]
    simp only [h0, h3 b]
    unfold Layer.gates
    simp only [zero_mul, Finset.sum_const_zero, add_zero, add_assoc]
  have e1 : ∀ b, (fun r => k0_pay21 k0_pay16 (k0_pay17 x0 x3 x6) (k0_pay18 x0 x3 x6) x4 x7 (ix2 b r))
      = (R b).l1.gates ((R b).s0 0).1 (fun _ => 0) := fun b => funext fun r => by
    rw [pay21, e0, T.b1 b]
    simp only [T.wi1 b]
    show ∑ k, ((R b).s0 0).1 k * (R b).l1.wi r k + _ = _
    unfold Layer.gates
    simp only [zero_mul, Finset.sum_const_zero, add_zero, add_assoc]
  have ht := pay23 x0 x3 x6 x4 x7
  refine ⟨fun b j => ?_, fun b j => ?_, fun b r => ?_, fun b r => ?_, fun b r => ?_, fun b => ?_⟩
  · exact (pay19 x0 x3 x6 b j).trans (by rw [e0]; rfl)
  · exact (pay24 _ _ ht b j).trans (by rw [e1]; rfl)
  · refine (pay22 x0 x3 x6 x4 b r).trans ?_
    rw [e0]
    simp only [T.wh0 b]
    rfl
  · refine (pay25 _ _ ht x5 x7 b r).trans ?_
    rw [e1, T.b1 b]
    simp only [T.wh1 b]
    rfl
  · exact (pay26 oh p b r).trans (contribution T ho b r)
  · exact (pay27 b).trans (Finset.sum_range_zero _).symm

/-- The loop keeps its meaning to its end. -/
theorem holds_loop (c : Dev nD) (arg0 harg0 arg1 harg1 arg2 harg2 arg3 harg3 arg4 harg4 arg5 harg5 arg6 harg6 arg7 harg7
    arg8 harg8 arg9 harg9 arg10 harg10 arg11 harg11 X4 X5 X7 X8 X10 X11)
    (T : Tables R (arg4.view.read (Elt Ideal) X4) (arg5.view.read (Elt Ideal) X5) (arg7.view.read (Elt Ideal) X7)
      (arg8.view.read (Elt Ideal) X8) (arg10.view.read (Elt Ideal) X10))
    (hw : ∀ b v k, IsReal ((R b).wo v k)) (hb : ∀ b v, IsReal ((R b).bo v))
    (ho : ∀ n : Fin 512, Marks R n.val (plane (arg11.view.read (Elt Ideal) X11) n))
    (s : Carry Ideal) (hs : Holds R 0 s) (n : ℕ) (hn : n ≤ k0_t1_loop.trips) :
    Holds R n (st_k0_t1 Variants.none c none arg0 harg0 arg1 harg1 arg2 harg2 arg3 harg3 arg4 harg4 arg5 harg5 arg6 harg6 arg7 harg7 arg8 harg8
      arg9 harg9 arg10 harg10 arg11 harg11 X4 X5 X7 X8 X10 X11 s n) := by
  induction n with
  | zero => exact hs
  | succ n ih =>
    have hk : n < 511 := lt_of_lt_of_le hn k0_t1_abs.2.1
    rw [st_k0_t1_succ Variants.none c none arg0 harg0 arg1 harg1 arg2 harg2 arg3 harg3 arg4 harg4 arg5 harg5 arg6 harg6 arg7 harg7 arg8 harg8
      arg9 harg9 arg10 harg10 arg11 harg11 X4 X5 X7 X8 X10 X11 s ⟨n, hn⟩, trip_eq,
      plane_read arg11.view X11 ⟨n + 1, by omega⟩ (Facts₀.k0_off1_inb ⟨n, hn⟩) (Gen.k0_off1_eq ⟨n, hn⟩)]
    exact holds_next T hw hb (ho ⟨n + 1, by omega⟩) (ih (Nat.le_of_succ_le hn))

/-- The kernel's block is the rows' log-likelihoods. -/
theorem out_value (c : Dev nD) (arg0 harg0 arg1 harg1 arg2 harg2 arg3 harg3 arg4 harg4 arg5 harg5 arg6 harg6 arg7 harg7
    arg8 harg8 arg9 harg9 arg10 harg10 arg11 harg11) (x0 x1 x2 x3 x4 x5 x6 x7 x8) (T : Tables R x4 x5 x7 x8 (k0_pay14 (F := Ideal) x2 x3 x6))
    (h0 : ∀ b k, x0 (ix2 b k) = (R b).st k) (h3 : ∀ b (r : Fin 2048) k, x3 (ix2 k r) = (R b).l0.wi r k)
    (h6 : ∀ b r, x6 (ix2 0 r) = (R b).l0.bi r + (R b).l0.bh r)
    (h1 : ∀ (b : Fin 16) (n : Fin 512), x1 (ix2 n b) = BitVec.ofNat 32 ((R b).tok n).val)
    (hw : ∀ b v k, IsReal ((R b).wo v k)) (hb : ∀ b v, IsReal ((R b).bo v)) (b : Fin 16) :
    out0_A_9 (F := Ideal) c arg0 harg0 arg1 harg1 arg2 harg2 arg3 harg3 arg4 harg4 arg5 harg5 arg6 harg6 arg7 harg7 arg8 harg8 arg9 harg9
      arg10 harg10 arg11 harg11 x0 x1 x2 x3 x4 x5 x6 x7 x8 (ix2 b 0) = (R b).ll := by
  have ho : ∀ n : Fin 512, Marks R n.val (plane (k0_pay15 (F := Ideal) x1) n) := fun n b v =>
    (pay15 x1 n b v _ (h1 b n)).trans (by rw [(R b).tk_of_lt n])
  refine out_eq c arg0 harg0 arg1 harg1 arg2 harg2 arg3 harg3 arg4 harg4 arg5 harg5 arg6 harg6 arg7 harg7 arg8 harg8 arg9 harg9
      arg10 harg10 arg11 harg11 x0 x1 x2 x3 x4 x5 x6 x7 x8 (fun y => y (ix2 b 0) = (R b).ll) ?_
  intro X4 X5 X7 X8 X10 X11 e4 e5 e7 e8 e10 e11
  subst e4 e5 e7 e8
  rw [← e10] at T
  rw [← e11] at ho
  have h := (holds_loop c arg0 harg0 arg1 harg1 arg2 harg2 arg3 harg3 arg4 harg4 arg5 harg5 arg6 harg6 arg7 harg7 arg8 harg8 arg9 harg9
      arg10 harg10 arg11 harg11 X4 X5 X7 X8 X10 X11 T hw hb ho _ (holds_start T h0 h3 h6 (ho 0)) k0_t1_loop.trips le_rfl).t b
  rw [← e10, ← e11]
  refine h.trans ?_
  rw [(R b).ll_eq (hw b) (hb b)]
  exact Finset.sum_range (n := 511) fun i => logp ((R b).logit i) ((R b).tk (i + 1)) * mask ((R b).tk (i + 1))

end

end Cert.KernelIdeal.Hand

end
-- ==== Proof.KernelHost.lean ====
/- What the host hands the kernel. -/
module

public import proofs.«01_k».proof.Proof.KernelValue
public import proofs.«01_k».proof.Proof.Gen.KernelIdeal.Value
public import Idealize.ShloMosaic.Lib.StableHlo.RunRead
public import Idealize.ShloMosaic.Lib.StableHlo.ReadAt

@[expose] public section

set_option maxRecDepth 16384

noncomputable section

namespace Cert.KernelIdeal.Hand

open Cert.KernelIdeal Cert.KernelIdeal.Gen Idealize.ShloMosaic Idealize.ShloMosaic.TcCoe Idealize.SL.Sem Lstm
open Idealize.ShloMosaic.StableHlo
open scoped BigOperators

section
variable (V : Valuation τ sig (Elt Ideal)) (b : Fin 16)

/-- Row `b` of the arguments. -/
def rowAt : Row :=
  rowOf (V (Proc.devRef .tc main_arg0)) (V (Proc.devRef .tc main_arg1)) (V (Proc.devRef .tc main_arg2)) (V (Proc.devRef .tc main_arg3)) (V (Proc.devRef .tc main_arg4)) (V (Proc.devRef .tc main_arg5))
    (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) b

/-- The tokens are transposed. -/
theorem host_tok (n : Fin 512) : after hostOps0 V (Proc.devRef .tc main_v0) (ix2 n b)
    = V (Proc.devRef .tc main_arg1) (ix2 b n) := by
  after_reads_simp
  pointwise

/-- The embedding table is kept. -/
theorem host_emb (v : Fin 64) (k : Fin 512) : after hostOps0 V (Proc.devRef .tc main_v15) (ix2 v k)
    = (rowAt V b).emb v k := by
  after_reads_simp
  pointwise
  rfl

/-- The layer below's input weights are transposed. -/
theorem host_wi0 (r : Fin 2048) (k : Fin 512) : after hostOps0 V (Proc.devRef .tc main_v17) (ix2 k r)
    = (rowAt V b).l0.wi r k := by
  after_reads_simp
  pointwise
  rfl

/-- The layer below's two biases are added. -/
theorem host_b0 (r : Fin 2048) : after hostOps0 V (Proc.devRef .tc main_v2) (ix2 0 r)
    = (rowAt V b).l0.bi r + (rowAt V b).l0.bh r := by
  after_reads_simp
  pointwise
  rfl

/-- The layer above's two biases are added. -/
theorem host_b1 (r : Fin 2048) : after hostOps0 V (Proc.devRef .tc main_v4) (ix2 0 r)
    = (rowAt V b).l1.bi r + (rowAt V b).l1.bh r := by
  after_reads_simp
  pointwise
  rfl

/-- The output bias is a row. -/
theorem host_bo (v : Fin 64) : after hostOps0 V (Proc.devRef .tc main_v5) (ix2 0 v)
    = (rowAt V b).bo v := by
  after_reads_simp
  pointwise
  rfl

/-- The first weight table's left half. -/
theorem host_wi1 (r : Fin 2048) (k : Fin 512) : after hostOps0 V (Proc.devRef .tc main_v9) (ix2 k (⟨r.val, by omega⟩ : Fin 4096))
    = (rowAt V b).l1.wi r k := by
  after_reads_simp
  pointwise
  after_reads_simp
  pointwise
  rfl

/-- The first weight table's right half. -/
theorem host_wh0 (r : Fin 2048) (k : Fin 512) : after hostOps0 V (Proc.devRef .tc main_v9) (ix2 k (⟨2048 + r.val, by omega⟩ : Fin 4096))
    = (rowAt V b).l0.wh r k := by
  after_reads_simp
  pointwise
  after_reads_simp
  pointwise
  rfl

/-- The second weight table begins with the output weights. -/
theorem host_wo (v : Fin 64) (k : Fin 512) : after hostOps0 V (Proc.devRef .tc main_v14) (ix2 k (⟨v.val, by omega⟩ : Fin 2176))
    = (rowAt V b).wo v k := by
  after_reads_simp
  pointwise
  after_reads_simp
  pointwise
  rfl

/-- The second weight table ends with the layer above's recurrent weights. -/
theorem host_wh1 (r : Fin 2048) (k : Fin 512) : after hostOps0 V (Proc.devRef .tc main_v14) (ix2 k (⟨128 + r.val, by omega⟩ : Fin 2176))
    = (rowAt V b).l1.wh r k := by
  after_reads_simp
  pointwise
  rw [dif_neg (by omega), dif_neg (by omega)]
  after_reads_simp
  pointwise
  exact congrArg (fun q => V (Proc.devRef .tc main_arg8) (ix2 q k)) (Fin.ext (by show 128 + r.val - 64 - 64 = r.val; omega))

end

variable (m : (ℓ : Loc nD τ sig) → Buf (Elt Ideal) ℓ) (c : Dev nD)

/-- Every window's only block begins at the origin of its array. -/
theorem index_zero : ∀ (w : Fin cfg0.W) (t : Fin cfg0.N) (a : Fin (cfg0.win w).shape.rank), (cfg0.win w).index t a = 0 := by
  decide +kernel

/-- So a position in the block is that position in the array. -/
theorem origin (w : Fin cfg0.W) (t : Fin cfg0.N) (a : Fin (cfg0.win w).shape.rank) (n : ℕ) :
    (cfg0.win w).index t a * (cfg0.win w).size a + 1 * n = n := by
  rw [index_zero w t a]; omega

/-- Window 0's block is its whole array. -/
theorem blk0 (t : Fin cfg0.N) : iblk m c 0 t = V m c main_arg0 :=
  funext fun y => congrArg (V m c main_arg0) (funext fun a => Fin.ext (origin 0 t a (y a).val))
/-- Window 1's block is its whole array. -/
theorem blk1 (t : Fin cfg0.N) : iblk m c 1 t = V m c main_v0 :=
  funext fun y => congrArg (V m c main_v0) (funext fun a => Fin.ext (origin 1 t a (y a).val))
/-- Window 2's block is its whole array. -/
theorem blk2 (t : Fin cfg0.N) : iblk m c 2 t = V m c main_v15 :=
  funext fun y => congrArg (V m c main_v15) (funext fun a => Fin.ext (origin 2 t a (y a).val))
/-- Window 3's block is its whole array. -/
theorem blk3 (t : Fin cfg0.N) : iblk m c 3 t = V m c main_v17 :=
  funext fun y => congrArg (V m c main_v17) (funext fun a => Fin.ext (origin 3 t a (y a).val))
/-- Window 4's block is its whole array. -/
theorem blk4 (t : Fin cfg0.N) : iblk m c 4 t = V m c main_v9 :=
  funext fun y => congrArg (V m c main_v9) (funext fun a => Fin.ext (origin 4 t a (y a).val))
/-- Window 5's block is its whole array. -/
theorem blk5 (t : Fin cfg0.N) : iblk m c 5 t = V m c main_v14 :=
  funext fun y => congrArg (V m c main_v14) (funext fun a => Fin.ext (origin 5 t a (y a).val))
/-- Window 6's block is its whole array. -/
theorem blk6 (t : Fin cfg0.N) : iblk m c 6 t = V m c main_v2 :=
  funext fun y => congrArg (V m c main_v2) (funext fun a => Fin.ext (origin 6 t a (y a).val))
/-- Window 7's block is its whole array. -/
theorem blk7 (t : Fin cfg0.N) : iblk m c 7 t = V m c main_v4 :=
  funext fun y => congrArg (V m c main_v4) (funext fun a => Fin.ext (origin 7 t a (y a).val))
/-- Window 8's block is its whole array. -/
theorem blk8 (t : Fin cfg0.N) : iblk m c 8 t = V m c main_v5 :=
  funext fun y => congrArg (V m c main_v5) (funext fun a => Fin.ext (origin 8 t a (y a).val))

/-- The output array ends as the rows' log-likelihoods. -/
theorem result (hv : InVocabulary (m ((c : Thread nD τ).loc main_arg1))) (hw : ∀ i, IsReal (m ((c : Thread nD τ).loc main_arg11) i))
    (hb : ∀ i, IsReal (m ((c : Thread nD τ).loc main_arg12) i)) (b : Fin 16) :
    (dats m 0 c).arrAt 9 cfg0.N (ix2 b 0) = (rowAt (fun r => m (c, r)) b).ll := by
  obtain ⟨t, hf⟩ : ∃ t : Fin cfg0.N, (cfg0.win 9).flush t = true := ⟨⟨0, by decide +kernel⟩, by decide +kernel⟩
  have e := congrFun (Value.blocks9 m c t hf) (ix2 b 0)
  have i : ((cfg0.win 9).blk t).view.emb (ix2 b 0) = ix2 b 0 := funext fun a => Fin.ext (origin 9 t a _)
  refine (congrArg ((dats m 0 c).arrAt 9 cfg0.N) i).symm.trans (e.trans ?_)
  rw [Value.flushed9_A]
  refine Eq.trans ?_ (out_value (R := fun b => rowAt (fun r => m (c, r)) b) c (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _) (V m c main_arg0) (V m c main_v0) (V m c main_v15) (V m c main_v17)
    (V m c main_v9) (V m c main_v14) (V m c main_v2) (V m c main_v4) (V m c main_v5) ?_ ?_ ?_ ?_ ?_ ?_ ?_ b)
  · rw [blk0, blk1, blk2, blk3, blk4, blk5, blk6, blk7, blk8]
    rfl
  · refine ⟨fun b r k => host_wi1 _ b r k, fun b r k => host_wh0 _ b r k, fun b v k => host_wo _ b v k, fun b r k => host_wh1 _ b r k,
      fun b r => host_b1 _ b r, fun b v => host_bo _ b v, fun b v r => ?_⟩
    rw [pay14]
    exact congrArg₂ (· + ·) (Finset.sum_congr rfl fun k _ => congrArg₂ (· * ·) (host_emb _ b v k) (host_wi0 _ b r k)) (host_b0 _ b r)
  · intro b k
    rw [V_main_arg0]
    rfl
  · exact fun b r k => host_wi0 _ b r k
  · exact fun b r => host_b0 _ b r
  · exact fun b n => (host_tok _ b n).trans (hv b n)
  · exact fun b v k => hw _
  · exact fun b v => hb _

end Cert.KernelIdeal.Hand

end
-- ==== Proof.RefOps.lean ====
/- The operations of the reference program, listed stretch by stretch: the main function between its loops and each
   loop's condition and body, with the buffers each stretch writes; then the program as the chain of these stretches. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

set_option maxRecDepth 4096

noncomputable section

namespace Cert.ReferenceIdeal.Hand

open Idealize.ShloMosaic Idealize.ShloMosaic.TcCoe Idealize.SL.Sem Cert.ReferenceIdeal.Gen

variable {F : FTy → Type} [FloatOps F]

/-- The type of the programs below. -/
abbrev HostProg (F : FTy → Type) [FloatOps F] :=
  Prog (TpuEff nD τ sig (Elt F) (HostLoop.Sig (Pipeline.Sig Λ₀ (Fin 0) fun p => (pcfgs (F := F) p).Adm) 4) .tc) PUnit

/-- Loop 0: reads the trip's input. -/
abbrev body0a : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v8_0 : StableHlo.TRef sig ⟨S1x16x512, .f32⟩) ![(.of main_v8_5 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x16x512, .f32⟩) (fun x i => Host.dynamicSlice S1x16x512 x (fun k => (i k (Shape.Idx.first h_S_)).toInt) sliceFits_S1x16x512_S1x16x512),
    StableHlo.TRef.reshape (.of main_while0b_call0_v0 : StableHlo.TRef sig ⟨S1x16x512, .f32⟩) (.of main_while0b_v61 : StableHlo.TRef sig ⟨S16x512, .f32⟩) (rfl : (.f32 : EltTy) = .f32) shapeCasts_S1x16x512_S16x512 ]

/-- The operations of `body0a` touch device buffers only. -/
theorem body0a_sub : (body0a : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- The buffers `body0a` writes, in order. -/
abbrev body0a_W : List (Ref sig .tc) := [main_while0b_call0_c, main_while0b_call0_c_0, main_while0b_call0_v0, main_while0b_v61]
/-- `body0a` writes nothing else. -/
theorem body0a_writes : (body0a : List (HloOp τ sig (Elt F))).Forall fun op => op.writes ⊆ (body0a_W.map (Proc.devRef (τ := τ) .tc)).toFinset :=
  StableHlo.forall_writes_sub_of_map rfl

/-- Loop 0: computes the gates and the new state. -/
abbrev body0b : List (HloOp τ sig (Elt F)) :=
  [ StableHlo.unary main_v8_1 main_while0b_v62 ((transpose S512x2048 [1, 0] · transposes_S2048x512_S512x2048_1_0) : (⟨S2048x512, .f32⟩ : BufTy).Contents (Elt F) → (⟨S512x2048, .f32⟩ : BufTy).Contents (Elt F)),
    StableHlo.binary main_while0b_v61 main_while0b_v62 main_while0b_v63 ((fun l r => Host.dotGeneral dot_S16x512_S512x2048_S16x2048_1_0_0_1_n_n none l r) : (⟨S16x512, .f32⟩ : BufTy).Contents (Elt F) → (⟨S512x2048, .f32⟩ : BufTy).Contents (Elt F) → (⟨S16x2048, .f32⟩ : BufTy).Contents (Elt F)),
    StableHlo.unary main_v8_2 main_while0b_v64 ((transpose S512x2048 [1, 0] · transposes_S2048x512_S512x2048_1_0) : (⟨S2048x512, .f32⟩ : BufTy).Contents (Elt F) → (⟨S512x2048, .f32⟩ : BufTy).Contents (Elt F)),
    StableHlo.binary main_v8_6 main_while0b_v64 main_while0b_v65 ((fun l r => Host.dotGeneral dot_S16x512_S512x2048_S16x2048_1_0_0_1_n_n none l r) : (⟨S16x512, .f32⟩ : BufTy).Contents (Elt F) → (⟨S512x2048, .f32⟩ : BufTy).Contents (Elt F) → (⟨S16x2048, .f32⟩ : BufTy).Contents (Elt F)),
    StableHlo.binary main_while0b_v63 main_while0b_v65 main_while0b_v66 (addf : (⟨S16x2048, .f32⟩ : BufTy).Contents (Elt F) → (⟨S16x2048, .f32⟩ : BufTy).Contents (Elt F) → (⟨S16x2048, .f32⟩ : BufTy).Contents (Elt F)),
    StableHlo.unary main_v8_3 main_while0b_v67 (broadcastInDim S1x2048 ![1] bcast_S2048_S1x2048_1 : (⟨S2048, .f32⟩ : BufTy).Contents (Elt F) → (⟨S1x2048, .f32⟩ : BufTy).Contents (Elt F)),
    StableHlo.unary main_while0b_v67 main_while0b_v68 (broadcastInDim S16x2048 ![0, 1] bcast_S1x2048_S16x2048_0_1 : (⟨S1x2048, .f32⟩ : BufTy).Contents (Elt F) → (⟨S16x2048, .f32⟩ : BufTy).Contents (Elt F)),
    StableHlo.binary main_while0b_v66 main_while0b_v68 main_while0b_v69 (addf : (⟨S16x2048, .f32⟩ : BufTy).Contents (Elt F) → (⟨S16x2048, .f32⟩ : BufTy).Contents (Elt F) → (⟨S16x2048, .f32⟩ : BufTy).Contents (Elt F)),
    StableHlo.unary main_v8_4 main_while0b_v70 (broadcastInDim S1x2048 ![1] bcast_S2048_S1x2048_1 : (⟨S2048, .f32⟩ : BufTy).Contents (Elt F) → (⟨S1x2048, .f32⟩ : BufTy).Contents (Elt F)),
    StableHlo.unary main_while0b_v70 main_while0b_v71 (broadcastInDim S16x2048 ![0, 1] bcast_S1x2048_S16x2048_0_1 : (⟨S1x2048, .f32⟩ : BufTy).Contents (Elt F) → (⟨S16x2048, .f32⟩ : BufTy).Contents (Elt F)),
    StableHlo.binary main_while0b_v69 main_while0b_v71 main_while0b_v72 (addf : (⟨S16x2048, .f32⟩ : BufTy).Contents (Elt F) → (⟨S16x2048, .f32⟩ : BufTy).Contents (Elt F) → (⟨S16x2048, .f32⟩ : BufTy).Contents (Elt F)),
    StableHlo.unary main_while0b_v72 main_while0b_v73 ((extractStridedSlice S16x512 ![0, 0] · slices_S16x2048_S16x512_0_0) : (⟨S16x2048, .f32⟩ : BufTy).Contents (Elt F) → (⟨S16x512, .f32⟩ : BufTy).Contents (Elt F)),
    StableHlo.unary main_while0b_v72 main_while0b_v74 ((extractStridedSlice S16x512 ![0, 512] · slices_S16x2048_S16x512_0_512) : (⟨S16x2048, .f32⟩ : BufTy).Contents (Elt F) → (⟨S16x512, .f32⟩ : BufTy).Contents (Elt F)),
    StableHlo.unary main_while0b_v72 main_while0b_v75 ((extractStridedSlice S16x512 ![0, 1024] · slices_S16x2048_S16x512_0_1024) : (⟨S16x2048, .f32⟩ : BufTy).Contents (Elt F) → (⟨S16x512, .f32⟩ : BufTy).Contents (Elt F)),
    StableHlo.unary main_while0b_v72 main_while0b_v76 ((extractStridedSlice S16x512 ![0, 1536] · slices_S16x2048_S16x512_0_1536) : (⟨S16x2048, .f32⟩ : BufTy).Contents (Elt F) → (⟨S16x512, .f32⟩ : BufTy).Contents (Elt F)),
    StableHlo.unary main_while0b_v73 main_while0b_v77 (Host.negf : (⟨S16x512, .f32⟩ : BufTy).Contents (Elt F) → (⟨S16x512, .f32⟩ : BufTy).Contents (Elt F)),
    StableHlo.unary main_while0b_v77 main_while0b_v78 (Host.exp : (⟨S16x512, .f32⟩ : BufTy).Contents (Elt F) → (⟨S16x512, .f32⟩ : BufTy).Contents (Elt F)),
    StableHlo.nullary main_while0b_cst_18 (constant S_ .f32 0x3F800000#32),
    StableHlo.unary main_while0b_cst_18 main_while0b_v79 (broadcastInDim S16x512 ![] bcast_S_S16x512 : (⟨S_, .f32⟩ : BufTy).Contents (Elt F) → (⟨S16x512, .f32⟩ : BufTy).Contents (Elt F)),
    StableHlo.binary main_while0b_v79 main_while0b_v78 main_while0b_v80 (addf : (⟨S16x512, .f32⟩ : BufTy).Contents (Elt F) → (⟨S16x512, .f32⟩ : BufTy).Contents (Elt F) → (⟨S16x512, .f32⟩ : BufTy).Contents (Elt F)),
    StableHlo.nullary main_while0b_cst_19 (constant S_ .f32 0x3F800000#32),
    StableHlo.unary main_while0b_cst_19 main_while0b_v81 (broadcastInDim S16x512 ![] bcast_S_S16x512 : (⟨S_, .f32⟩ : BufTy).Contents (Elt F) → (⟨S16x512, .f32⟩ : BufTy).Contents (Elt F)),
    StableHlo.binary main_while0b_v81 main_while0b_v80 main_while0b_v82 (Host.divf : (⟨S16x512, .f32⟩ : BufTy).Contents (Elt F) → (⟨S16x512, .f32⟩ : BufTy).Contents (Elt F) → (⟨S16x512, .f32⟩ : BufTy).Contents (Elt F)),
    StableHlo.unary main_while0b_v74 main_while0b_v83 (Host.negf : (⟨S16x512, .f32⟩ : BufTy).Contents (Elt F) → (⟨S16x512, .f32⟩ : BufTy).Contents (Elt F)),
    StableHlo.unary main_while0b_v83 main_while0b_v84 (Host.exp : (⟨S16x512, .f32⟩ : BufTy).Contents (Elt F) → (⟨S16x512, .f32⟩ : BufTy).Contents (Elt F)),
    StableHlo.nullary main_while0b_cst_20 (constant S_ .f32 0x3F800000#32),
    StableHlo.unary main_while0b_cst_20 main_while0b_v85 (broadcastInDim S16x512 ![] bcast_S_S16x512 : (⟨S_, .f32⟩ : BufTy).Contents (Elt F) → (⟨S16x512, .f32⟩ : BufTy).Contents (Elt F)),
    StableHlo.binary main_while0b_v85 main_while0b_v84 main_while0b_v86 (addf : (⟨S16x512, .f32⟩ : BufTy).Contents (Elt F) → (⟨S16x512, .f32⟩ : BufTy).Contents (Elt F) → (⟨S16x512, .f32⟩ : BufTy).Contents (Elt F)),
    StableHlo.nullary main_while0b_cst_21 (constant S_ .f32 0x3F800000#32),
    StableHlo.unary main_while0b_cst_21 main_while0b_v87 (broadcastInDim S16x512 ![] bcast_S_S16x512 : (⟨S_, .f32⟩ : BufTy).Contents (Elt F) → (⟨S16x512, .f32⟩ : BufTy).Contents (Elt F)),
    StableHlo.binary main_while0b_v87 main_while0b_v86 main_while0b_v88 (Host.divf : (⟨S16x512, .f32⟩ : BufTy).Contents (Elt F) → (⟨S16x512, .f32⟩ : BufTy).Contents (Elt F) → (⟨S16x512, .f32⟩ : BufTy).Contents (Elt F)),
    StableHlo.unary main_while0b_v75 main_while0b_v89 (Host.tanh : (⟨S16x512, .f32⟩ : BufTy).Contents (Elt F) → (⟨S16x512, .f32⟩ : BufTy).Contents (Elt F)),
    StableHlo.unary main_while0b_v76 main_while0b_v90 (Host.negf : (⟨S16x512, .f32⟩ : BufTy).Contents (Elt F) → (⟨S16x512, .f32⟩ : BufTy).Contents (Elt F)),
    StableHlo.unary main_while0b_v90 main_while0b_v91 (Host.exp : (⟨S16x512, .f32⟩ : BufTy).Contents (Elt F) → (⟨S16x512, .f32⟩ : BufTy).Contents (Elt F)),
    StableHlo.nullary main_while0b_cst_22 (constant S_ .f32 0x3F800000#32),
    StableHlo.unary main_while0b_cst_22 main_while0b_v92 (broadcastInDim S16x512 ![] bcast_S_S16x512 : (⟨S_, .f32⟩ : BufTy).Contents (Elt F) → (⟨S16x512, .f32⟩ : BufTy).Contents (Elt F)),
    StableHlo.binary main_while0b_v92 main_while0b_v91 main_while0b_v93 (addf : (⟨S16x512, .f32⟩ : BufTy).Contents (Elt F) → (⟨S16x512, .f32⟩ : BufTy).Contents (Elt F) → (⟨S16x512, .f32⟩ : BufTy).Contents (Elt F)),
    StableHlo.nullary main_while0b_cst_23 (constant S_ .f32 0x3F800000#32),
    StableHlo.unary main_while0b_cst_23 main_while0b_v94 (broadcastInDim S16x512 ![] bcast_S_S16x512 : (⟨S_, .f32⟩ : BufTy).Contents (Elt F) → (⟨S16x512, .f32⟩ : BufTy).Contents (Elt F)),
    StableHlo.binary main_while0b_v94 main_while0b_v93 main_while0b_v95 (Host.divf : (⟨S16x512, .f32⟩ : BufTy).Contents (Elt F) → (⟨S16x512, .f32⟩ : BufTy).Contents (Elt F) → (⟨S16x512, .f32⟩ : BufTy).Contents (Elt F)),
    StableHlo.binary main_while0b_v88 main_v8_7 main_while0b_v96 (mulf : (⟨S16x512, .f32⟩ : BufTy).Contents (Elt F) → (⟨S16x512, .f32⟩ : BufTy).Contents (Elt F) → (⟨S16x512, .f32⟩ : BufTy).Contents (Elt F)),
    StableHlo.binary main_while0b_v82 main_while0b_v89 main_while0b_v97 (mulf : (⟨S16x512, .f32⟩ : BufTy).Contents (Elt F) → (⟨S16x512, .f32⟩ : BufTy).Contents (Elt F) → (⟨S16x512, .f32⟩ : BufTy).Contents (Elt F)),
    StableHlo.binary main_while0b_v96 main_while0b_v97 main_while0b_v98 (addf : (⟨S16x512, .f32⟩ : BufTy).Contents (Elt F) → (⟨S16x512, .f32⟩ : BufTy).Contents (Elt F) → (⟨S16x512, .f32⟩ : BufTy).Contents (Elt F)),
    StableHlo.unary main_while0b_v98 main_while0b_v99 (Host.tanh : (⟨S16x512, .f32⟩ : BufTy).Contents (Elt F) → (⟨S16x512, .f32⟩ : BufTy).Contents (Elt F)),
    StableHlo.binary main_while0b_v95 main_while0b_v99 main_while0b_v100 (mulf : (⟨S16x512, .f32⟩ : BufTy).Contents (Elt F) → (⟨S16x512, .f32⟩ : BufTy).Contents (Elt F) → (⟨S16x512, .f32⟩ : BufTy).Contents (Elt F)) ]

/-- The operations of `body0b` touch device buffers only. -/
theorem body0b_sub : (body0b : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩

/-- The buffers `body0b` writes, in order. -/
abbrev body0b_W : List (Ref sig .tc) := [main_while0b_v62, main_while0b_v63, main_while0b_v64, main_while0b_v65, main_while0b_v66, main_while0b_v67, main_while0b_v68, main_while0b_v69, main_while0b_v70, main_while0b_v71, main_while0b_v72, main_while0b_v73, main_while0b_v74, main_while0b_v75, main_while0b_v76, main_while0b_v77, main_while0b_v78, main_while0b_cst_18, main_while0b_v79, main_while0b_v80, main_while0b_cst_19, main_while0b_v81, main_while0b_v82, main_while0b_v83, main_while0b_v84, main_while0b_cst_20, main_while0b_v85, main_while0b_v86, main_while0b_cst_21, main_while0b_v87, main_while0b_v88, main_while0b_v89, main_while0b_v90, main_while0b_v91, main_while0b_cst_22, main_while0b_v92, main_while0b_v93, main_while0b_cst_23, main_while0b_v94, main_while0b_v95, main_while0b_v96, main_while0b_v97, main_while0b_v98, main_while0b_v99, main_while0b_v100]
/-- `body0b` writes nothing else. -/
theorem body0b_writes : (body0b : List (HloOp τ sig (Elt F))).Forall fun op => op.writes ⊆ (body0b_W.map (Proc.devRef (τ := τ) .tc)).toFinset :=
  StableHlo.forall_writes_sub_of_map rfl

/-- Loop 0: stores the new hidden state in the output sequence. -/
abbrev body0c : List (HloOp τ sig (Elt F)) :=
  [ StableHlo.TRef.unary (.of main_while0b_v100 : StableHlo.TRef sig ⟨S16x512, .f32⟩) (.of main_while0b_call1_v0 : StableHlo.TRef sig ⟨S1x16x512, .f32⟩) (broadcastInDim S1x16x512 ![1, 2] bcast_S16x512_S1x16x512_1_2),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.binaryIndexed (.of main_v8_8 : StableHlo.TRef sig ⟨S1x16x512, .f32⟩) (.of main_while0b_call1_v0 : StableHlo.TRef sig ⟨S1x16x512, .f32⟩) ![(.of main_v8_5 : StableHlo.TRef sig ⟨S_, .i32⟩), (.of main_while0b_call1_c : StableHlo.TRef sig ⟨S_, .i32⟩), (.of main_while0b_call1_c_0 : StableHlo.TRef sig ⟨S_, .i32⟩)] (.of main_while0b_v101 : StableHlo.TRef sig ⟨S1x16x512, .f32⟩) (fun x u i => Host.dynamicUpdateSlice x u (fun k => (i k (Shape.Idx.first h_S_)).toInt) updateFits_S1x16x512_S1x16x512) ]

/-- The operations of `body0c` touch device buffers only. -/
theorem body0c_sub : (body0c : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- The buffers `body0c` writes, in order. -/
abbrev body0c_W : List (Ref sig .tc) := [main_while0b_call1_v0, main_while0b_call1_c, main_while0b_call1_c_0, main_while0b_v101]
/-- `body0c` writes nothing else. -/
theorem body0c_writes : (body0c : List (HloOp τ sig (Elt F))).Forall fun op => op.writes ⊆ (body0c_W.map (Proc.devRef (τ := τ) .tc)).toFinset :=
  StableHlo.forall_writes_sub_of_map rfl

/-- Loop 0: advances the counter and copies the results into the carried buffers. -/
abbrev body0d : List (HloOp τ sig (Elt F)) :=
  [ StableHlo.nullary main_while0b_c_24 (constantI S_ 32 1#32),
    StableHlo.binary main_v8_5 main_while0b_c_24 main_while0b_v102 (addi : (⟨S_, .i32⟩ : BufTy).Contents (Elt F) → (⟨S_, .i32⟩ : BufTy).Contents (Elt F) → (⟨S_, .i32⟩ : BufTy).Contents (Elt F)),
    StableHlo.unary main_while0b_v102 main_v8_5 id,
    StableHlo.unary main_while0b_v100 main_v8_6 id,
    StableHlo.unary main_while0b_v98 main_v8_7 id,
    StableHlo.unary main_while0b_v101 main_v8_8 id ]

/-- The operations of `body0d` touch device buffers only. -/
theorem body0d_sub : (body0d : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- The buffers `body0d` writes, in order. -/
abbrev body0d_W : List (Ref sig .tc) := [main_while0b_c_24, main_while0b_v102, main_v8_5, main_v8_6, main_v8_7, main_v8_8]
/-- `body0d` writes nothing else. -/
theorem body0d_writes : (body0d : List (HloOp τ sig (Elt F))).Forall fun op => op.writes ⊆ (body0d_W.map (Proc.devRef (τ := τ) .tc)).toFinset :=
  StableHlo.forall_writes_sub_of_map rfl

/-- Loop 0: the test of the counter. -/
abbrev cond0 : List (HloOp τ sig (Elt F)) :=
  [ StableHlo.nullary main_while0c_c_18 (constantI S_ 32 1#32),
    StableHlo.binary main_v8_5 main_while0c_c_18 main_while0c_v61 (cmpi .slt : (⟨S_, .i32⟩ : BufTy).Contents (Elt F) → (⟨S_, .i32⟩ : BufTy).Contents (Elt F) → (⟨S_, .i1⟩ : BufTy).Contents (Elt F)) ]

/-- The operations of `cond0` touch device buffers only. -/
theorem cond0_sub : (cond0 : List (HloOp τ sig (Elt F))).Forall fun op => op.bufs ⊆ StableHlo.tcRefs τ sig :=
  ⟨StableHlo.nullary_bufs_sub .., StableHlo.binary_bufs_sub ..⟩

/-- The buffers `cond0` writes, in order. -/
abbrev cond0_W : List (Ref sig .tc) := [main_while0c_c_18, main_while0c_v61]
/-- `cond0` writes nothing else. -/
theorem cond0_writes : (cond0 : List (HloOp τ sig (Elt F))).Forall fun op => op.writes ⊆ (cond0_W.map (Proc.devRef (τ := τ) .tc)).toFinset :=
  StableHlo.forall_writes_sub_of_map rfl

/-- Loop 1: reads the trip's input. -/
abbrev body1a : List (HloOp τ sig (Elt F)) :=
  [ StableHlo.TRef.nullary (.of main_while1b_call2_c : StableHlo.TRef sig ⟨S_, .i32⟩) (constantI S_ 32 0#32),
    StableHlo.TRef.nullary (.of main_while1b_call2_c_0 : StableHlo.TRef sig ⟨S_, .i32⟩) (constantI S_ 32 0#32),
    StableHlo.TRef.unaryIndexed (.of main_v14_0 : StableHlo.TRef sig ⟨S1x16x512, .f32⟩) ![(.of main_v14_5 : StableHlo.TRef sig ⟨S_, .i32⟩), (.of main_while1b_call2_c : StableHlo.TRef sig ⟨S_, .i32⟩), (.of main_while1b_call2_c_0 : StableHlo.TRef sig ⟨S_, .i32⟩)] (.of main_while1b_call2_v0 : StableHlo.TRef sig ⟨S1x16x512, .f32⟩) (fun x i => Host.dynamicSlice S1x16x512 x (fun k => (i k (Shape.Idx.first h_S_)).toInt) sliceFits_S1x16x512_S1x16x512),
    StableHlo.TRef.reshape (.of main_while1b_call2_v0 : StableHlo.TRef sig ⟨S1x16x512, .f32⟩) (.of main_while1b_v61 : StableHlo.TRef sig ⟨S16x512, .f32⟩) (rfl : (.f32 : EltTy) = .f32) shapeCasts_S1x16x512_S16x512 ]

/-- The operations of `body1a` touch device buffers only. -/
theorem body1a_sub : (body1a : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- The buffers `body1a` writes, in order. -/
abbrev body1a_W : List (Ref sig .tc) := [main_while1b_call2_c, main_while1b_call2_c_0, main_while1b_call2_v0, main_while1b_v61]
/-- `body1a` writes nothing else. -/
theorem body1a_writes : (body1a : List (HloOp τ sig (Elt F))).Forall fun op => op.writes ⊆ (body1a_W.map (Proc.devRef (τ := τ) .tc)).toFinset :=
  StableHlo.forall_writes_sub_of_map rfl

/-- Loop 1: computes the gates and the new state. -/
abbrev body1b : List (HloOp τ sig (Elt F)) :=
  [ StableHlo.unary main_v14_1 main_while1b_v62 ((transpose S512x2048 [1, 0] · transposes_S2048x512_S512x2048_1_0) : (⟨S2048x512, .f32⟩ : BufTy).Contents (Elt F) → (⟨S512x2048, .f32⟩ : BufTy).Contents (Elt F)),
    StableHlo.binary main_while1b_v61 main_while1b_v62 main_while1b_v63 ((fun l r => Host.dotGeneral dot_S16x512_S512x2048_S16x2048_1_0_0_1_n_n none l r) : (⟨S16x512, .f32⟩ : BufTy).Contents (Elt F) → (⟨S512x2048, .f32⟩ : BufTy).Contents (Elt F) → (⟨S16x2048, .f32⟩ : BufTy).Contents (Elt F)),
    StableHlo.unary main_v14_2 main_while1b_v64 ((transpose S512x2048 [1, 0] · transposes_S2048x512_S512x2048_1_0) : (⟨S2048x512, .f32⟩ : BufTy).Contents (Elt F) → (⟨S512x2048, .f32⟩ : BufTy).Contents (Elt F)),
    StableHlo.binary main_v14_6 main_while1b_v64 main_while1b_v65 ((fun l r => Host.dotGeneral dot_S16x512_S512x2048_S16x2048_1_0_0_1_n_n none l r) : (⟨S16x512, .f32⟩ : BufTy).Contents (Elt F) → (⟨S512x2048, .f32⟩ : BufTy).Contents (Elt F) → (⟨S16x2048, .f32⟩ : BufTy).Contents (Elt F)),
    StableHlo.binary main_while1b_v63 main_while1b_v65 main_while1b_v66 (addf : (⟨S16x2048, .f32⟩ : BufTy).Contents (Elt F) → (⟨S16x2048, .f32⟩ : BufTy).Contents (Elt F) → (⟨S16x2048, .f32⟩ : BufTy).Contents (Elt F)),
    StableHlo.unary main_v14_3 main_while1b_v67 (broadcastInDim S1x2048 ![1] bcast_S2048_S1x2048_1 : (⟨S2048, .f32⟩ : BufTy).Contents (Elt F) → (⟨S1x2048, .f32⟩ : BufTy).Contents (Elt F)),
    StableHlo.unary main_while1b_v67 main_while1b_v68 (broadcastInDim S16x2048 ![0, 1] bcast_S1x2048_S16x2048_0_1 : (⟨S1x2048, .f32⟩ : BufTy).Contents (Elt F) → (⟨S16x2048, .f32⟩ : BufTy).Contents (Elt F)),
    StableHlo.binary main_while1b_v66 main_while1b_v68 main_while1b_v69 (addf : (⟨S16x2048, .f32⟩ : BufTy).Contents (Elt F) → (⟨S16x2048, .f32⟩ : BufTy).Contents (Elt F) → (⟨S16x2048, .f32⟩ : BufTy).Contents (Elt F)),
    StableHlo.unary main_v14_4 main_while1b_v70 (broadcastInDim S1x2048 ![1] bcast_S2048_S1x2048_1 : (⟨S2048, .f32⟩ : BufTy).Contents (Elt F) → (⟨S1x2048, .f32⟩ : BufTy).Contents (Elt F)),
    StableHlo.unary main_while1b_v70 main_while1b_v71 (broadcastInDim S16x2048 ![0, 1] bcast_S1x2048_S16x2048_0_1 : (⟨S1x2048, .f32⟩ : BufTy).Contents (Elt F) → (⟨S16x2048, .f32⟩ : BufTy).Contents (Elt F)),
    StableHlo.binary main_while1b_v69 main_while1b_v71 main_while1b_v72 (addf : (⟨S16x2048, .f32⟩ : BufTy).Contents (Elt F) → (⟨S16x2048, .f32⟩ : BufTy).Contents (Elt F) → (⟨S16x2048, .f32⟩ : BufTy).Contents (Elt F)),
    StableHlo.unary main_while1b_v72 main_while1b_v73 ((extractStridedSlice S16x512 ![0, 0] · slices_S16x2048_S16x512_0_0) : (⟨S16x2048, .f32⟩ : BufTy).Contents (Elt F) → (⟨S16x512, .f32⟩ : BufTy).Contents (Elt F)),
    StableHlo.unary main_while1b_v72 main_while1b_v74 ((extractStridedSlice S16x512 ![0, 512] · slices_S16x2048_S16x512_0_512) : (⟨S16x2048, .f32⟩ : BufTy).Contents (Elt F) → (⟨S16x512, .f32⟩ : BufTy).Contents (Elt F)),
    StableHlo.unary main_while1b_v72 main_while1b_v75 ((extractStridedSlice S16x512 ![0, 1024] · slices_S16x2048_S16x512_0_1024) : (⟨S16x2048, .f32⟩ : BufTy).Contents (Elt F) → (⟨S16x512, .f32⟩ : BufTy).Contents (Elt F)),
    StableHlo.unary main_while1b_v72 main_while1b_v76 ((extractStridedSlice S16x512 ![0, 1536] · slices_S16x2048_S16x512_0_1536) : (⟨S16x2048, .f32⟩ : BufTy).Contents (Elt F) → (⟨S16x512, .f32⟩ : BufTy).Contents (Elt F)),
    StableHlo.unary main_while1b_v73 main_while1b_v77 (Host.negf : (⟨S16x512, .f32⟩ : BufTy).Contents (Elt F) → (⟨S16x512, .f32⟩ : BufTy).Contents (Elt F)),
    StableHlo.unary main_while1b_v77 main_while1b_v78 (Host.exp : (⟨S16x512, .f32⟩ : BufTy).Contents (Elt F) → (⟨S16x512, .f32⟩ : BufTy).Contents (Elt F)),
    StableHlo.nullary main_while1b_cst_18 (constant S_ .f32 0x3F800000#32),
    StableHlo.unary main_while1b_cst_18 main_while1b_v79 (broadcastInDim S16x512 ![] bcast_S_S16x512 : (⟨S_, .f32⟩ : BufTy).Contents (Elt F) → (⟨S16x512, .f32⟩ : BufTy).Contents (Elt F)),
    StableHlo.binary main_while1b_v79 main_while1b_v78 main_while1b_v80 (addf : (⟨S16x512, .f32⟩ : BufTy).Contents (Elt F) → (⟨S16x512, .f32⟩ : BufTy).Contents (Elt F) → (⟨S16x512, .f32⟩ : BufTy).Contents (Elt F)),
    StableHlo.nullary main_while1b_cst_19 (constant S_ .f32 0x3F800000#32),
    StableHlo.unary main_while1b_cst_19 main_while1b_v81 (broadcastInDim S16x512 ![] bcast_S_S16x512 : (⟨S_, .f32⟩ : BufTy).Contents (Elt F) → (⟨S16x512, .f32⟩ : BufTy).Contents (Elt F)),
    StableHlo.binary main_while1b_v81 main_while1b_v80 main_while1b_v82 (Host.divf : (⟨S16x512, .f32⟩ : BufTy).Contents (Elt F) → (⟨S16x512, .f32⟩ : BufTy).Contents (Elt F) → (⟨S16x512, .f32⟩ : BufTy).Contents (Elt F)),
    StableHlo.unary main_while1b_v74 main_while1b_v83 (Host.negf : (⟨S16x512, .f32⟩ : BufTy).Contents (Elt F) → (⟨S16x512, .f32⟩ : BufTy).Contents (Elt F)),
    StableHlo.unary main_while1b_v83 main_while1b_v84 (Host.exp : (⟨S16x512, .f32⟩ : BufTy).Contents (Elt F) → (⟨S16x512, .f32⟩ : BufTy).Contents (Elt F)),
    StableHlo.nullary main_while1b_cst_20 (constant S_ .f32 0x3F800000#32),
    StableHlo.unary main_while1b_cst_20 main_while1b_v85 (broadcastInDim S16x512 ![] bcast_S_S16x512 : (⟨S_, .f32⟩ : BufTy).Contents (Elt F) → (⟨S16x512, .f32⟩ : BufTy).Contents (Elt F)),
    StableHlo.binary main_while1b_v85 main_while1b_v84 main_while1b_v86 (addf : (⟨S16x512, .f32⟩ : BufTy).Contents (Elt F) → (⟨S16x512, .f32⟩ : BufTy).Contents (Elt F) → (⟨S16x512, .f32⟩ : BufTy).Contents (Elt F)),
    StableHlo.nullary main_while1b_cst_21 (constant S_ .f32 0x3F800000#32),
    StableHlo.unary main_while1b_cst_21 main_while1b_v87 (broadcastInDim S16x512 ![] bcast_S_S16x512 : (⟨S_, .f32⟩ : BufTy).Contents (Elt F) → (⟨S16x512, .f32⟩ : BufTy).Contents (Elt F)),
    StableHlo.binary main_while1b_v87 main_while1b_v86 main_while1b_v88 (Host.divf : (⟨S16x512, .f32⟩ : BufTy).Contents (Elt F) → (⟨S16x512, .f32⟩ : BufTy).Contents (Elt F) → (⟨S16x512, .f32⟩ : BufTy).Contents (Elt F)),
    StableHlo.unary main_while1b_v75 main_while1b_v89 (Host.tanh : (⟨S16x512, .f32⟩ : BufTy).Contents (Elt F) → (⟨S16x512, .f32⟩ : BufTy).Contents (Elt F)),
    StableHlo.unary main_while1b_v76 main_while1b_v90 (Host.negf : (⟨S16x512, .f32⟩ : BufTy).Contents (Elt F) → (⟨S16x512, .f32⟩ : BufTy).Contents (Elt F)),
    StableHlo.unary main_while1b_v90 main_while1b_v91 (Host.exp : (⟨S16x512, .f32⟩ : BufTy).Contents (Elt F) → (⟨S16x512, .f32⟩ : BufTy).Contents (Elt F)),
    StableHlo.nullary main_while1b_cst_22 (constant S_ .f32 0x3F800000#32),
    StableHlo.unary main_while1b_cst_22 main_while1b_v92 (broadcastInDim S16x512 ![] bcast_S_S16x512 : (⟨S_, .f32⟩ : BufTy).Contents (Elt F) → (⟨S16x512, .f32⟩ : BufTy).Contents (Elt F)),
    StableHlo.binary main_while1b_v92 main_while1b_v91 main_while1b_v93 (addf : (⟨S16x512, .f32⟩ : BufTy).Contents (Elt F) → (⟨S16x512, .f32⟩ : BufTy).Contents (Elt F) → (⟨S16x512, .f32⟩ : BufTy).Contents (Elt F)),
    StableHlo.nullary main_while1b_cst_23 (constant S_ .f32 0x3F800000#32),
    StableHlo.unary main_while1b_cst_23 main_while1b_v94 (broadcastInDim S16x512 ![] bcast_S_S16x512 : (⟨S_, .f32⟩ : BufTy).Contents (Elt F) → (⟨S16x512, .f32⟩ : BufTy).Contents (Elt F)),
    StableHlo.binary main_while1b_v94 main_while1b_v93 main_while1b_v95 (Host.divf : (⟨S16x512, .f32⟩ : BufTy).Contents (Elt F) → (⟨S16x512, .f32⟩ : BufTy).Contents (Elt F) → (⟨S16x512, .f32⟩ : BufTy).Contents (Elt F)),
    StableHlo.binary main_while1b_v88 main_v14_7 main_while1b_v96 (mulf : (⟨S16x512, .f32⟩ : BufTy).Contents (Elt F) → (⟨S16x512, .f32⟩ : BufTy).Contents (Elt F) → (⟨S16x512, .f32⟩ : BufTy).Contents (Elt F)),
    StableHlo.binary main_while1b_v82 main_while1b_v89 main_while1b_v97 (mulf : (⟨S16x512, .f32⟩ : BufTy).Contents (Elt F) → (⟨S16x512, .f32⟩ : BufTy).Contents (Elt F) → (⟨S16x512, .f32⟩ : BufTy).Contents (Elt F)),
    StableHlo.binary main_while1b_v96 main_while1b_v97 main_while1b_v98 (addf : (⟨S16x512, .f32⟩ : BufTy).Contents (Elt F) → (⟨S16x512, .f32⟩ : BufTy).Contents (Elt F) → (⟨S16x512, .f32⟩ : BufTy).Contents (Elt F)),
    StableHlo.unary main_while1b_v98 main_while1b_v99 (Host.tanh : (⟨S16x512, .f32⟩ : BufTy).Contents (Elt F) → (⟨S16x512, .f32⟩ : BufTy).Contents (Elt F)),
    StableHlo.binary main_while1b_v95 main_while1b_v99 main_while1b_v100 (mulf : (⟨S16x512, .f32⟩ : BufTy).Contents (Elt F) → (⟨S16x512, .f32⟩ : BufTy).Contents (Elt F) → (⟨S16x512, .f32⟩ : BufTy).Contents (Elt F)) ]

/-- The operations of `body1b` touch device buffers only. -/
theorem body1b_sub : (body1b : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩

/-- The buffers `body1b` writes, in order. -/
abbrev body1b_W : List (Ref sig .tc) := [main_while1b_v62, main_while1b_v63, main_while1b_v64, main_while1b_v65, main_while1b_v66, main_while1b_v67, main_while1b_v68, main_while1b_v69, main_while1b_v70, main_while1b_v71, main_while1b_v72, main_while1b_v73, main_while1b_v74, main_while1b_v75, main_while1b_v76, main_while1b_v77, main_while1b_v78, main_while1b_cst_18, main_while1b_v79, main_while1b_v80, main_while1b_cst_19, main_while1b_v81, main_while1b_v82, main_while1b_v83, main_while1b_v84, main_while1b_cst_20, main_while1b_v85, main_while1b_v86, main_while1b_cst_21, main_while1b_v87, main_while1b_v88, main_while1b_v89, main_while1b_v90, main_while1b_v91, main_while1b_cst_22, main_while1b_v92, main_while1b_v93, main_while1b_cst_23, main_while1b_v94, main_while1b_v95, main_while1b_v96, main_while1b_v97, main_while1b_v98, main_while1b_v99, main_while1b_v100]
/-- `body1b` writes nothing else. -/
theorem body1b_writes : (body1b : List (HloOp τ sig (Elt F))).Forall fun op => op.writes ⊆ (body1b_W.map (Proc.devRef (τ := τ) .tc)).toFinset :=
  StableHlo.forall_writes_sub_of_map rfl

/-- Loop 1: stores the new hidden state in the output sequence. -/
abbrev body1c : List (HloOp τ sig (Elt F)) :=
  [ StableHlo.TRef.unary (.of main_while1b_v100 : StableHlo.TRef sig ⟨S16x512, .f32⟩) (.of main_while1b_call3_v0 : StableHlo.TRef sig ⟨S1x16x512, .f32⟩) (broadcastInDim S1x16x512 ![1, 2] bcast_S16x512_S1x16x512_1_2),
    StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.binaryIndexed (.of main_v14_8 : StableHlo.TRef sig ⟨S1x16x512, .f32⟩) (.of main_while1b_call3_v0 : StableHlo.TRef sig ⟨S1x16x512, .f32⟩) ![(.of main_v14_5 : StableHlo.TRef sig ⟨S_, .i32⟩), (.of main_while1b_call3_c : StableHlo.TRef sig ⟨S_, .i32⟩), (.of main_while1b_call3_c_0 : StableHlo.TRef sig ⟨S_, .i32⟩)] (.of main_while1b_v101 : StableHlo.TRef sig ⟨S1x16x512, .f32⟩) (fun x u i => Host.dynamicUpdateSlice x u (fun k => (i k (Shape.Idx.first h_S_)).toInt) updateFits_S1x16x512_S1x16x512) ]

/-- The operations of `body1c` touch device buffers only. -/
theorem body1c_sub : (body1c : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- The buffers `body1c` writes, in order. -/
abbrev body1c_W : List (Ref sig .tc) := [main_while1b_call3_v0, main_while1b_call3_c, main_while1b_call3_c_0, main_while1b_v101]
/-- `body1c` writes nothing else. -/
theorem body1c_writes : (body1c : List (HloOp τ sig (Elt F))).Forall fun op => op.writes ⊆ (body1c_W.map (Proc.devRef (τ := τ) .tc)).toFinset :=
  StableHlo.forall_writes_sub_of_map rfl

/-- Loop 1: advances the counter and copies the results into the carried buffers. -/
abbrev body1d : List (HloOp τ sig (Elt F)) :=
  [ StableHlo.nullary main_while1b_c_24 (constantI S_ 32 1#32),
    StableHlo.binary main_v14_5 main_while1b_c_24 main_while1b_v102 (addi : (⟨S_, .i32⟩ : BufTy).Contents (Elt F) → (⟨S_, .i32⟩ : BufTy).Contents (Elt F) → (⟨S_, .i32⟩ : BufTy).Contents (Elt F)),
    StableHlo.unary main_while1b_v102 main_v14_5 id,
    StableHlo.unary main_while1b_v100 main_v14_6 id,
    StableHlo.unary main_while1b_v98 main_v14_7 id,
    StableHlo.unary main_while1b_v101 main_v14_8 id ]

/-- The operations of `body1d` touch device buffers only. -/
theorem body1d_sub : (body1d : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- The buffers `body1d` writes, in order. -/
abbrev body1d_W : List (Ref sig .tc) := [main_while1b_c_24, main_while1b_v102, main_v14_5, main_v14_6, main_v14_7, main_v14_8]
/-- `body1d` writes nothing else. -/
theorem body1d_writes : (body1d : List (HloOp τ sig (Elt F))).Forall fun op => op.writes ⊆ (body1d_W.map (Proc.devRef (τ := τ) .tc)).toFinset :=
  StableHlo.forall_writes_sub_of_map rfl

/-- Loop 1: the test of the counter. -/
abbrev cond1 : List (HloOp τ sig (Elt F)) :=
  [ StableHlo.nullary main_while1c_c_18 (constantI S_ 32 1#32),
    StableHlo.binary main_v14_5 main_while1c_c_18 main_while1c_v61 (cmpi .slt : (⟨S_, .i32⟩ : BufTy).Contents (Elt F) → (⟨S_, .i32⟩ : BufTy).Contents (Elt F) → (⟨S_, .i1⟩ : BufTy).Contents (Elt F)) ]

/-- The operations of `cond1` touch device buffers only. -/
theorem cond1_sub : (cond1 : List (HloOp τ sig (Elt F))).Forall fun op => op.bufs ⊆ StableHlo.tcRefs τ sig :=
  ⟨StableHlo.nullary_bufs_sub .., StableHlo.binary_bufs_sub ..⟩

/-- The buffers `cond1` writes, in order. -/
abbrev cond1_W : List (Ref sig .tc) := [main_while1c_c_18, main_while1c_v61]
/-- `cond1` writes nothing else. -/
theorem cond1_writes : (cond1 : List (HloOp τ sig (Elt F))).Forall fun op => op.writes ⊆ (cond1_W.map (Proc.devRef (τ := τ) .tc)).toFinset :=
  StableHlo.forall_writes_sub_of_map rfl

/-- Loop 2: reads the trip's input. -/
abbrev body2a : List (HloOp τ sig (Elt F)) :=
  [ StableHlo.TRef.nullary (.of main_while2b_call5_c : StableHlo.TRef sig ⟨S_, .i32⟩) (constantI S_ 32 0#32),
    StableHlo.TRef.nullary (.of main_while2b_call5_c_0 : StableHlo.TRef sig ⟨S_, .i32⟩) (constantI S_ 32 0#32),
    StableHlo.TRef.unaryIndexed (.of main_v28_0 : StableHlo.TRef sig ⟨S512x16x512, .f32⟩) ![(.of main_v28_5 : StableHlo.TRef sig ⟨S_, .i32⟩), (.of main_while2b_call5_c : StableHlo.TRef sig ⟨S_, .i32⟩), (.of main_while2b_call5_c_0 : StableHlo.TRef sig ⟨S_, .i32⟩)] (.of main_while2b_call5_v0 : StableHlo.TRef sig ⟨S1x16x512, .f32⟩) (fun x i => Host.dynamicSlice S1x16x512 x (fun k => (i k (Shape.Idx.first h_S_)).toInt) sliceFits_S512x16x512_S1x16x512),
    StableHlo.TRef.reshape (.of main_while2b_call5_v0 : StableHlo.TRef sig ⟨S1x16x512, .f32⟩) (.of main_while2b_v61 : StableHlo.TRef sig ⟨S16x512, .f32⟩) (rfl : (.f32 : EltTy) = .f32) shapeCasts_S1x16x512_S16x512 ]

/-- The operations of `body2a` touch device buffers only. -/
theorem body2a_sub : (body2a : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- The buffers `body2a` writes, in order. -/
abbrev body2a_W : List (Ref sig .tc) := [main_while2b_call5_c, main_while2b_call5_c_0, main_while2b_call5_v0, main_while2b_v61]
/-- `body2a` writes nothing else. -/
theorem body2a_writes : (body2a : List (HloOp τ sig (Elt F))).Forall fun op => op.writes ⊆ (body2a_W.map (Proc.devRef (τ := τ) .tc)).toFinset :=
  StableHlo.forall_writes_sub_of_map rfl

/-- Loop 2: computes the gates and the new state. -/
abbrev body2b : List (HloOp τ sig (Elt F)) :=
  [ StableHlo.unary main_v28_1 main_while2b_v62 ((transpose S512x2048 [1, 0] · transposes_S2048x512_S512x2048_1_0) : (⟨S2048x512, .f32⟩ : BufTy).Contents (Elt F) → (⟨S512x2048, .f32⟩ : BufTy).Contents (Elt F)),
    StableHlo.binary main_while2b_v61 main_while2b_v62 main_while2b_v63 ((fun l r => Host.dotGeneral dot_S16x512_S512x2048_S16x2048_1_0_0_1_n_n none l r) : (⟨S16x512, .f32⟩ : BufTy).Contents (Elt F) → (⟨S512x2048, .f32⟩ : BufTy).Contents (Elt F) → (⟨S16x2048, .f32⟩ : BufTy).Contents (Elt F)),
    StableHlo.unary main_v28_2 main_while2b_v64 ((transpose S512x2048 [1, 0] · transposes_S2048x512_S512x2048_1_0) : (⟨S2048x512, .f32⟩ : BufTy).Contents (Elt F) → (⟨S512x2048, .f32⟩ : BufTy).Contents (Elt F)),
    StableHlo.binary main_v28_6 main_while2b_v64 main_while2b_v65 ((fun l r => Host.dotGeneral dot_S16x512_S512x2048_S16x2048_1_0_0_1_n_n none l r) : (⟨S16x512, .f32⟩ : BufTy).Contents (Elt F) → (⟨S512x2048, .f32⟩ : BufTy).Contents (Elt F) → (⟨S16x2048, .f32⟩ : BufTy).Contents (Elt F)),
    StableHlo.binary main_while2b_v63 main_while2b_v65 main_while2b_v66 (addf : (⟨S16x2048, .f32⟩ : BufTy).Contents (Elt F) → (⟨S16x2048, .f32⟩ : BufTy).Contents (Elt F) → (⟨S16x2048, .f32⟩ : BufTy).Contents (Elt F)),
    StableHlo.unary main_v28_3 main_while2b_v67 (broadcastInDim S1x2048 ![1] bcast_S2048_S1x2048_1 : (⟨S2048, .f32⟩ : BufTy).Contents (Elt F) → (⟨S1x2048, .f32⟩ : BufTy).Contents (Elt F)),
    StableHlo.unary main_while2b_v67 main_while2b_v68 (broadcastInDim S16x2048 ![0, 1] bcast_S1x2048_S16x2048_0_1 : (⟨S1x2048, .f32⟩ : BufTy).Contents (Elt F) → (⟨S16x2048, .f32⟩ : BufTy).Contents (Elt F)),
    StableHlo.binary main_while2b_v66 main_while2b_v68 main_while2b_v69 (addf : (⟨S16x2048, .f32⟩ : BufTy).Contents (Elt F) → (⟨S16x2048, .f32⟩ : BufTy).Contents (Elt F) → (⟨S16x2048, .f32⟩ : BufTy).Contents (Elt F)),
    StableHlo.unary main_v28_4 main_while2b_v70 (broadcastInDim S1x2048 ![1] bcast_S2048_S1x2048_1 : (⟨S2048, .f32⟩ : BufTy).Contents (Elt F) → (⟨S1x2048, .f32⟩ : BufTy).Contents (Elt F)),
    StableHlo.unary main_while2b_v70 main_while2b_v71 (broadcastInDim S16x2048 ![0, 1] bcast_S1x2048_S16x2048_0_1 : (⟨S1x2048, .f32⟩ : BufTy).Contents (Elt F) → (⟨S16x2048, .f32⟩ : BufTy).Contents (Elt F)),
    StableHlo.binary main_while2b_v69 main_while2b_v71 main_while2b_v72 (addf : (⟨S16x2048, .f32⟩ : BufTy).Contents (Elt F) → (⟨S16x2048, .f32⟩ : BufTy).Contents (Elt F) → (⟨S16x2048, .f32⟩ : BufTy).Contents (Elt F)),
    StableHlo.unary main_while2b_v72 main_while2b_v73 ((extractStridedSlice S16x512 ![0, 0] · slices_S16x2048_S16x512_0_0) : (⟨S16x2048, .f32⟩ : BufTy).Contents (Elt F) → (⟨S16x512, .f32⟩ : BufTy).Contents (Elt F)),
    StableHlo.unary main_while2b_v72 main_while2b_v74 ((extractStridedSlice S16x512 ![0, 512] · slices_S16x2048_S16x512_0_512) : (⟨S16x2048, .f32⟩ : BufTy).Contents (Elt F) → (⟨S16x512, .f32⟩ : BufTy).Contents (Elt F)),
    StableHlo.unary main_while2b_v72 main_while2b_v75 ((extractStridedSlice S16x512 ![0, 1024] · slices_S16x2048_S16x512_0_1024) : (⟨S16x2048, .f32⟩ : BufTy).Contents (Elt F) → (⟨S16x512, .f32⟩ : BufTy).Contents (Elt F)),
    StableHlo.unary main_while2b_v72 main_while2b_v76 ((extractStridedSlice S16x512 ![0, 1536] · slices_S16x2048_S16x512_0_1536) : (⟨S16x2048, .f32⟩ : BufTy).Contents (Elt F) → (⟨S16x512, .f32⟩ : BufTy).Contents (Elt F)),
    StableHlo.unary main_while2b_v73 main_while2b_v77 (Host.negf : (⟨S16x512, .f32⟩ : BufTy).Contents (Elt F) → (⟨S16x512, .f32⟩ : BufTy).Contents (Elt F)),
    StableHlo.unary main_while2b_v77 main_while2b_v78 (Host.exp : (⟨S16x512, .f32⟩ : BufTy).Contents (Elt F) → (⟨S16x512, .f32⟩ : BufTy).Contents (Elt F)),
    StableHlo.nullary main_while2b_cst_18 (constant S_ .f32 0x3F800000#32),
    StableHlo.unary main_while2b_cst_18 main_while2b_v79 (broadcastInDim S16x512 ![] bcast_S_S16x512 : (⟨S_, .f32⟩ : BufTy).Contents (Elt F) → (⟨S16x512, .f32⟩ : BufTy).Contents (Elt F)),
    StableHlo.binary main_while2b_v79 main_while2b_v78 main_while2b_v80 (addf : (⟨S16x512, .f32⟩ : BufTy).Contents (Elt F) → (⟨S16x512, .f32⟩ : BufTy).Contents (Elt F) → (⟨S16x512, .f32⟩ : BufTy).Contents (Elt F)),
    StableHlo.nullary main_while2b_cst_19 (constant S_ .f32 0x3F800000#32),
    StableHlo.unary main_while2b_cst_19 main_while2b_v81 (broadcastInDim S16x512 ![] bcast_S_S16x512 : (⟨S_, .f32⟩ : BufTy).Contents (Elt F) → (⟨S16x512, .f32⟩ : BufTy).Contents (Elt F)),
    StableHlo.binary main_while2b_v81 main_while2b_v80 main_while2b_v82 (Host.divf : (⟨S16x512, .f32⟩ : BufTy).Contents (Elt F) → (⟨S16x512, .f32⟩ : BufTy).Contents (Elt F) → (⟨S16x512, .f32⟩ : BufTy).Contents (Elt F)),
    StableHlo.unary main_while2b_v74 main_while2b_v83 (Host.negf : (⟨S16x512, .f32⟩ : BufTy).Contents (Elt F) → (⟨S16x512, .f32⟩ : BufTy).Contents (Elt F)),
    StableHlo.unary main_while2b_v83 main_while2b_v84 (Host.exp : (⟨S16x512, .f32⟩ : BufTy).Contents (Elt F) → (⟨S16x512, .f32⟩ : BufTy).Contents (Elt F)),
    StableHlo.nullary main_while2b_cst_20 (constant S_ .f32 0x3F800000#32),
    StableHlo.unary main_while2b_cst_20 main_while2b_v85 (broadcastInDim S16x512 ![] bcast_S_S16x512 : (⟨S_, .f32⟩ : BufTy).Contents (Elt F) → (⟨S16x512, .f32⟩ : BufTy).Contents (Elt F)),
    StableHlo.binary main_while2b_v85 main_while2b_v84 main_while2b_v86 (addf : (⟨S16x512, .f32⟩ : BufTy).Contents (Elt F) → (⟨S16x512, .f32⟩ : BufTy).Contents (Elt F) → (⟨S16x512, .f32⟩ : BufTy).Contents (Elt F)),
    StableHlo.nullary main_while2b_cst_21 (constant S_ .f32 0x3F800000#32),
    StableHlo.unary main_while2b_cst_21 main_while2b_v87 (broadcastInDim S16x512 ![] bcast_S_S16x512 : (⟨S_, .f32⟩ : BufTy).Contents (Elt F) → (⟨S16x512, .f32⟩ : BufTy).Contents (Elt F)),
    StableHlo.binary main_while2b_v87 main_while2b_v86 main_while2b_v88 (Host.divf : (⟨S16x512, .f32⟩ : BufTy).Contents (Elt F) → (⟨S16x512, .f32⟩ : BufTy).Contents (Elt F) → (⟨S16x512, .f32⟩ : BufTy).Contents (Elt F)),
    StableHlo.unary main_while2b_v75 main_while2b_v89 (Host.tanh : (⟨S16x512, .f32⟩ : BufTy).Contents (Elt F) → (⟨S16x512, .f32⟩ : BufTy).Contents (Elt F)),
    StableHlo.unary main_while2b_v76 main_while2b_v90 (Host.negf : (⟨S16x512, .f32⟩ : BufTy).Contents (Elt F) → (⟨S16x512, .f32⟩ : BufTy).Contents (Elt F)),
    StableHlo.unary main_while2b_v90 main_while2b_v91 (Host.exp : (⟨S16x512, .f32⟩ : BufTy).Contents (Elt F) → (⟨S16x512, .f32⟩ : BufTy).Contents (Elt F)),
    StableHlo.nullary main_while2b_cst_22 (constant S_ .f32 0x3F800000#32),
    StableHlo.unary main_while2b_cst_22 main_while2b_v92 (broadcastInDim S16x512 ![] bcast_S_S16x512 : (⟨S_, .f32⟩ : BufTy).Contents (Elt F) → (⟨S16x512, .f32⟩ : BufTy).Contents (Elt F)),
    StableHlo.binary main_while2b_v92 main_while2b_v91 main_while2b_v93 (addf : (⟨S16x512, .f32⟩ : BufTy).Contents (Elt F) → (⟨S16x512, .f32⟩ : BufTy).Contents (Elt F) → (⟨S16x512, .f32⟩ : BufTy).Contents (Elt F)),
    StableHlo.nullary main_while2b_cst_23 (constant S_ .f32 0x3F800000#32),
    StableHlo.unary main_while2b_cst_23 main_while2b_v94 (broadcastInDim S16x512 ![] bcast_S_S16x512 : (⟨S_, .f32⟩ : BufTy).Contents (Elt F) → (⟨S16x512, .f32⟩ : BufTy).Contents (Elt F)),
    StableHlo.binary main_while2b_v94 main_while2b_v93 main_while2b_v95 (Host.divf : (⟨S16x512, .f32⟩ : BufTy).Contents (Elt F) → (⟨S16x512, .f32⟩ : BufTy).Contents (Elt F) → (⟨S16x512, .f32⟩ : BufTy).Contents (Elt F)),
    StableHlo.binary main_while2b_v88 main_v28_7 main_while2b_v96 (mulf : (⟨S16x512, .f32⟩ : BufTy).Contents (Elt F) → (⟨S16x512, .f32⟩ : BufTy).Contents (Elt F) → (⟨S16x512, .f32⟩ : BufTy).Contents (Elt F)),
    StableHlo.binary main_while2b_v82 main_while2b_v89 main_while2b_v97 (mulf : (⟨S16x512, .f32⟩ : BufTy).Contents (Elt F) → (⟨S16x512, .f32⟩ : BufTy).Contents (Elt F) → (⟨S16x512, .f32⟩ : BufTy).Contents (Elt F)),
    StableHlo.binary main_while2b_v96 main_while2b_v97 main_while2b_v98 (addf : (⟨S16x512, .f32⟩ : BufTy).Contents (Elt F) → (⟨S16x512, .f32⟩ : BufTy).Contents (Elt F) → (⟨S16x512, .f32⟩ : BufTy).Contents (Elt F)),
    StableHlo.unary main_while2b_v98 main_while2b_v99 (Host.tanh : (⟨S16x512, .f32⟩ : BufTy).Contents (Elt F) → (⟨S16x512, .f32⟩ : BufTy).Contents (Elt F)),
    StableHlo.binary main_while2b_v95 main_while2b_v99 main_while2b_v100 (mulf : (⟨S16x512, .f32⟩ : BufTy).Contents (Elt F) → (⟨S16x512, .f32⟩ : BufTy).Contents (Elt F) → (⟨S16x512, .f32⟩ : BufTy).Contents (Elt F)) ]

/-- The operations of `body2b` touch device buffers only. -/
theorem body2b_sub : (body2b : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩

/-- The buffers `body2b` writes, in order. -/
abbrev body2b_W : List (Ref sig .tc) := [main_while2b_v62, main_while2b_v63, main_while2b_v64, main_while2b_v65, main_while2b_v66, main_while2b_v67, main_while2b_v68, main_while2b_v69, main_while2b_v70, main_while2b_v71, main_while2b_v72, main_while2b_v73, main_while2b_v74, main_while2b_v75, main_while2b_v76, main_while2b_v77, main_while2b_v78, main_while2b_cst_18, main_while2b_v79, main_while2b_v80, main_while2b_cst_19, main_while2b_v81, main_while2b_v82, main_while2b_v83, main_while2b_v84, main_while2b_cst_20, main_while2b_v85, main_while2b_v86, main_while2b_cst_21, main_while2b_v87, main_while2b_v88, main_while2b_v89, main_while2b_v90, main_while2b_v91, main_while2b_cst_22, main_while2b_v92, main_while2b_v93, main_while2b_cst_23, main_while2b_v94, main_while2b_v95, main_while2b_v96, main_while2b_v97, main_while2b_v98, main_while2b_v99, main_while2b_v100]
/-- `body2b` writes nothing else. -/
theorem body2b_writes : (body2b : List (HloOp τ sig (Elt F))).Forall fun op => op.writes ⊆ (body2b_W.map (Proc.devRef (τ := τ) .tc)).toFinset :=
  StableHlo.forall_writes_sub_of_map rfl

/-- Loop 2: stores the new hidden state in the output sequence. -/
abbrev body2c : List (HloOp τ sig (Elt F)) :=
  [ StableHlo.TRef.unary (.of main_while2b_v100 : StableHlo.TRef sig ⟨S16x512, .f32⟩) (.of main_while2b_call6_v0 : StableHlo.TRef sig ⟨S1x16x512, .f32⟩) (broadcastInDim S1x16x512 ![1, 2] bcast_S16x512_S1x16x512_1_2),
    StableHlo.TRef.nullary (.of main_while2b_call6_c : StableHlo.TRef sig ⟨S_, .i32⟩) (constantI S_ 32 0#32),
    StableHlo.TRef.nullary (.of main_while2b_call6_c_0 : StableHlo.TRef sig ⟨S_, .i32⟩) (constantI S_ 32 0#32),
    StableHlo.TRef.binaryIndexed (.of main_v28_8 : StableHlo.TRef sig ⟨S512x16x512, .f32⟩) (.of main_while2b_call6_v0 : StableHlo.TRef sig ⟨S1x16x512, .f32⟩) ![(.of main_v28_5 : StableHlo.TRef sig ⟨S_, .i32⟩), (.of main_while2b_call6_c : StableHlo.TRef sig ⟨S_, .i32⟩), (.of main_while2b_call6_c_0 : StableHlo.TRef sig ⟨S_, .i32⟩)] (.of main_while2b_v101 : StableHlo.TRef sig ⟨S512x16x512, .f32⟩) (fun x u i => Host.dynamicUpdateSlice x u (fun k => (i k (Shape.Idx.first h_S_)).toInt) updateFits_S512x16x512_S1x16x512) ]

/-- The operations of `body2c` touch device buffers only. -/
theorem body2c_sub : (body2c : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- The buffers `body2c` writes, in order. -/
abbrev body2c_W : List (Ref sig .tc) := [main_while2b_call6_v0, main_while2b_call6_c, main_while2b_call6_c_0, main_while2b_v101]
/-- `body2c` writes nothing else. -/
theorem body2c_writes : (body2c : List (HloOp τ sig (Elt F))).Forall fun op => op.writes ⊆ (body2c_W.map (Proc.devRef (τ := τ) .tc)).toFinset :=
  StableHlo.forall_writes_sub_of_map rfl

/-- Loop 2: advances the counter and copies the results into the carried buffers. -/
abbrev body2d : List (HloOp τ sig (Elt F)) :=
  [ StableHlo.nullary main_while2b_c_24 (constantI S_ 32 1#32),
    StableHlo.binary main_v28_5 main_while2b_c_24 main_while2b_v102 (addi : (⟨S_, .i32⟩ : BufTy).Contents (Elt F) → (⟨S_, .i32⟩ : BufTy).Contents (Elt F) → (⟨S_, .i32⟩ : BufTy).Contents (Elt F)),
    StableHlo.unary main_while2b_v102 main_v28_5 id,
    StableHlo.unary main_while2b_v100 main_v28_6 id,
    StableHlo.unary main_while2b_v98 main_v28_7 id,
    StableHlo.unary main_while2b_v101 main_v28_8 id ]

/-- The operations of `body2d` touch device buffers only. -/
theorem body2d_sub : (body2d : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- The buffers `body2d` writes, in order. -/
abbrev body2d_W : List (Ref sig .tc) := [main_while2b_c_24, main_while2b_v102, main_v28_5, main_v28_6, main_v28_7, main_v28_8]
/-- `body2d` writes nothing else. -/
theorem body2d_writes : (body2d : List (HloOp τ sig (Elt F))).Forall fun op => op.writes ⊆ (body2d_W.map (Proc.devRef (τ := τ) .tc)).toFinset :=
  StableHlo.forall_writes_sub_of_map rfl

/-- Loop 2: the test of the counter. -/
abbrev cond2 : List (HloOp τ sig (Elt F)) :=
  [ StableHlo.nullary main_while2c_c_18 (constantI S_ 32 512#32),
    StableHlo.binary main_v28_5 main_while2c_c_18 main_while2c_v61 (cmpi .slt : (⟨S_, .i32⟩ : BufTy).Contents (Elt F) → (⟨S_, .i32⟩ : BufTy).Contents (Elt F) → (⟨S_, .i1⟩ : BufTy).Contents (Elt F)) ]

/-- The operations of `cond2` touch device buffers only. -/
theorem cond2_sub : (cond2 : List (HloOp τ sig (Elt F))).Forall fun op => op.bufs ⊆ StableHlo.tcRefs τ sig :=
  ⟨StableHlo.nullary_bufs_sub .., StableHlo.binary_bufs_sub ..⟩

/-- The buffers `cond2` writes, in order. -/
abbrev cond2_W : List (Ref sig .tc) := [main_while2c_c_18, main_while2c_v61]
/-- `cond2` writes nothing else. -/
theorem cond2_writes : (cond2 : List (HloOp τ sig (Elt F))).Forall fun op => op.writes ⊆ (cond2_W.map (Proc.devRef (τ := τ) .tc)).toFinset :=
  StableHlo.forall_writes_sub_of_map rfl

/-- Loop 3: reads the trip's input. -/
abbrev body3a : List (HloOp τ sig (Elt F)) :=
  [ StableHlo.TRef.nullary (.of main_while3b_call7_c : StableHlo.TRef sig ⟨S_, .i32⟩) (constantI S_ 32 0#32),
    StableHlo.TRef.nullary (.of main_while3b_call7_c_0 : StableHlo.TRef sig ⟨S_, .i32⟩) (constantI S_ 32 0#32),
    StableHlo.TRef.unaryIndexed (.of main_v34_0 : StableHlo.TRef sig ⟨S512x16x512, .f32⟩) ![(.of main_v34_5 : StableHlo.TRef sig ⟨S_, .i32⟩), (.of main_while3b_call7_c : StableHlo.TRef sig ⟨S_, .i32⟩), (.of main_while3b_call7_c_0 : StableHlo.TRef sig ⟨S_, .i32⟩)] (.of main_while3b_call7_v0 : StableHlo.TRef sig ⟨S1x16x512, .f32⟩) (fun x i => Host.dynamicSlice S1x16x512 x (fun k => (i k (Shape.Idx.first h_S_)).toInt) sliceFits_S512x16x512_S1x16x512),
    StableHlo.TRef.reshape (.of main_while3b_call7_v0 : StableHlo.TRef sig ⟨S1x16x512, .f32⟩) (.of main_while3b_v61 : StableHlo.TRef sig ⟨S16x512, .f32⟩) (rfl : (.f32 : EltTy) = .f32) shapeCasts_S1x16x512_S16x512 ]

/-- The operations of `body3a` touch device buffers only. -/
theorem body3a_sub : (body3a : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- The buffers `body3a` writes, in order. -/
abbrev body3a_W : List (Ref sig .tc) := [main_while3b_call7_c, main_while3b_call7_c_0, main_while3b_call7_v0, main_while3b_v61]
/-- `body3a` writes nothing else. -/
theorem body3a_writes : (body3a : List (HloOp τ sig (Elt F))).Forall fun op => op.writes ⊆ (body3a_W.map (Proc.devRef (τ := τ) .tc)).toFinset :=
  StableHlo.forall_writes_sub_of_map rfl

/-- Loop 3: computes the gates and the new state. -/
abbrev body3b : List (HloOp τ sig (Elt F)) :=
  [ StableHlo.unary main_v34_1 main_while3b_v62 ((transpose S512x2048 [1, 0] · transposes_S2048x512_S512x2048_1_0) : (⟨S2048x512, .f32⟩ : BufTy).Contents (Elt F) → (⟨S512x2048, .f32⟩ : BufTy).Contents (Elt F)),
    StableHlo.binary main_while3b_v61 main_while3b_v62 main_while3b_v63 ((fun l r => Host.dotGeneral dot_S16x512_S512x2048_S16x2048_1_0_0_1_n_n none l r) : (⟨S16x512, .f32⟩ : BufTy).Contents (Elt F) → (⟨S512x2048, .f32⟩ : BufTy).Contents (Elt F) → (⟨S16x2048, .f32⟩ : BufTy).Contents (Elt F)),
    StableHlo.unary main_v34_2 main_while3b_v64 ((transpose S512x2048 [1, 0] · transposes_S2048x512_S512x2048_1_0) : (⟨S2048x512, .f32⟩ : BufTy).Contents (Elt F) → (⟨S512x2048, .f32⟩ : BufTy).Contents (Elt F)),
    StableHlo.binary main_v34_6 main_while3b_v64 main_while3b_v65 ((fun l r => Host.dotGeneral dot_S16x512_S512x2048_S16x2048_1_0_0_1_n_n none l r) : (⟨S16x512, .f32⟩ : BufTy).Contents (Elt F) → (⟨S512x2048, .f32⟩ : BufTy).Contents (Elt F) → (⟨S16x2048, .f32⟩ : BufTy).Contents (Elt F)),
    StableHlo.binary main_while3b_v63 main_while3b_v65 main_while3b_v66 (addf : (⟨S16x2048, .f32⟩ : BufTy).Contents (Elt F) → (⟨S16x2048, .f32⟩ : BufTy).Contents (Elt F) → (⟨S16x2048, .f32⟩ : BufTy).Contents (Elt F)),
    StableHlo.unary main_v34_3 main_while3b_v67 (broadcastInDim S1x2048 ![1] bcast_S2048_S1x2048_1 : (⟨S2048, .f32⟩ : BufTy).Contents (Elt F) → (⟨S1x2048, .f32⟩ : BufTy).Contents (Elt F)),
    StableHlo.unary main_while3b_v67 main_while3b_v68 (broadcastInDim S16x2048 ![0, 1] bcast_S1x2048_S16x2048_0_1 : (⟨S1x2048, .f32⟩ : BufTy).Contents (Elt F) → (⟨S16x2048, .f32⟩ : BufTy).Contents (Elt F)),
    StableHlo.binary main_while3b_v66 main_while3b_v68 main_while3b_v69 (addf : (⟨S16x2048, .f32⟩ : BufTy).Contents (Elt F) → (⟨S16x2048, .f32⟩ : BufTy).Contents (Elt F) → (⟨S16x2048, .f32⟩ : BufTy).Contents (Elt F)),
    StableHlo.unary main_v34_4 main_while3b_v70 (broadcastInDim S1x2048 ![1] bcast_S2048_S1x2048_1 : (⟨S2048, .f32⟩ : BufTy).Contents (Elt F) → (⟨S1x2048, .f32⟩ : BufTy).Contents (Elt F)),
    StableHlo.unary main_while3b_v70 main_while3b_v71 (broadcastInDim S16x2048 ![0, 1] bcast_S1x2048_S16x2048_0_1 : (⟨S1x2048, .f32⟩ : BufTy).Contents (Elt F) → (⟨S16x2048, .f32⟩ : BufTy).Contents (Elt F)),
    StableHlo.binary main_while3b_v69 main_while3b_v71 main_while3b_v72 (addf : (⟨S16x2048, .f32⟩ : BufTy).Contents (Elt F) → (⟨S16x2048, .f32⟩ : BufTy).Contents (Elt F) → (⟨S16x2048, .f32⟩ : BufTy).Contents (Elt F)),
    StableHlo.unary main_while3b_v72 main_while3b_v73 ((extractStridedSlice S16x512 ![0, 0] · slices_S16x2048_S16x512_0_0) : (⟨S16x2048, .f32⟩ : BufTy).Contents (Elt F) → (⟨S16x512, .f32⟩ : BufTy).Contents (Elt F)),
    StableHlo.unary main_while3b_v72 main_while3b_v74 ((extractStridedSlice S16x512 ![0, 512] · slices_S16x2048_S16x512_0_512) : (⟨S16x2048, .f32⟩ : BufTy).Contents (Elt F) → (⟨S16x512, .f32⟩ : BufTy).Contents (Elt F)),
    StableHlo.unary main_while3b_v72 main_while3b_v75 ((extractStridedSlice S16x512 ![0, 1024] · slices_S16x2048_S16x512_0_1024) : (⟨S16x2048, .f32⟩ : BufTy).Contents (Elt F) → (⟨S16x512, .f32⟩ : BufTy).Contents (Elt F)),
    StableHlo.unary main_while3b_v72 main_while3b_v76 ((extractStridedSlice S16x512 ![0, 1536] · slices_S16x2048_S16x512_0_1536) : (⟨S16x2048, .f32⟩ : BufTy).Contents (Elt F) → (⟨S16x512, .f32⟩ : BufTy).Contents (Elt F)),
    StableHlo.unary main_while3b_v73 main_while3b_v77 (Host.negf : (⟨S16x512, .f32⟩ : BufTy).Contents (Elt F) → (⟨S16x512, .f32⟩ : BufTy).Contents (Elt F)),
    StableHlo.unary main_while3b_v77 main_while3b_v78 (Host.exp : (⟨S16x512, .f32⟩ : BufTy).Contents (Elt F) → (⟨S16x512, .f32⟩ : BufTy).Contents (Elt F)),
    StableHlo.nullary main_while3b_cst_18 (constant S_ .f32 0x3F800000#32),
    StableHlo.unary main_while3b_cst_18 main_while3b_v79 (broadcastInDim S16x512 ![] bcast_S_S16x512 : (⟨S_, .f32⟩ : BufTy).Contents (Elt F) → (⟨S16x512, .f32⟩ : BufTy).Contents (Elt F)),
    StableHlo.binary main_while3b_v79 main_while3b_v78 main_while3b_v80 (addf : (⟨S16x512, .f32⟩ : BufTy).Contents (Elt F) → (⟨S16x512, .f32⟩ : BufTy).Contents (Elt F) → (⟨S16x512, .f32⟩ : BufTy).Contents (Elt F)),
    StableHlo.nullary main_while3b_cst_19 (constant S_ .f32 0x3F800000#32),
    StableHlo.unary main_while3b_cst_19 main_while3b_v81 (broadcastInDim S16x512 ![] bcast_S_S16x512 : (⟨S_, .f32⟩ : BufTy).Contents (Elt F) → (⟨S16x512, .f32⟩ : BufTy).Contents (Elt F)),
    StableHlo.binary main_while3b_v81 main_while3b_v80 main_while3b_v82 (Host.divf : (⟨S16x512, .f32⟩ : BufTy).Contents (Elt F) → (⟨S16x512, .f32⟩ : BufTy).Contents (Elt F) → (⟨S16x512, .f32⟩ : BufTy).Contents (Elt F)),
    StableHlo.unary main_while3b_v74 main_while3b_v83 (Host.negf : (⟨S16x512, .f32⟩ : BufTy).Contents (Elt F) → (⟨S16x512, .f32⟩ : BufTy).Contents (Elt F)),
    StableHlo.unary main_while3b_v83 main_while3b_v84 (Host.exp : (⟨S16x512, .f32⟩ : BufTy).Contents (Elt F) → (⟨S16x512, .f32⟩ : BufTy).Contents (Elt F)),
    StableHlo.nullary main_while3b_cst_20 (constant S_ .f32 0x3F800000#32),
    StableHlo.unary main_while3b_cst_20 main_while3b_v85 (broadcastInDim S16x512 ![] bcast_S_S16x512 : (⟨S_, .f32⟩ : BufTy).Contents (Elt F) → (⟨S16x512, .f32⟩ : BufTy).Contents (Elt F)),
    StableHlo.binary main_while3b_v85 main_while3b_v84 main_while3b_v86 (addf : (⟨S16x512, .f32⟩ : BufTy).Contents (Elt F) → (⟨S16x512, .f32⟩ : BufTy).Contents (Elt F) → (⟨S16x512, .f32⟩ : BufTy).Contents (Elt F)),
    StableHlo.nullary main_while3b_cst_21 (constant S_ .f32 0x3F800000#32),
    StableHlo.unary main_while3b_cst_21 main_while3b_v87 (broadcastInDim S16x512 ![] bcast_S_S16x512 : (⟨S_, .f32⟩ : BufTy).Contents (Elt F) → (⟨S16x512, .f32⟩ : BufTy).Contents (Elt F)),
    StableHlo.binary main_while3b_v87 main_while3b_v86 main_while3b_v88 (Host.divf : (⟨S16x512, .f32⟩ : BufTy).Contents (Elt F) → (⟨S16x512, .f32⟩ : BufTy).Contents (Elt F) → (⟨S16x512, .f32⟩ : BufTy).Contents (Elt F)),
    StableHlo.unary main_while3b_v75 main_while3b_v89 (Host.tanh : (⟨S16x512, .f32⟩ : BufTy).Contents (Elt F) → (⟨S16x512, .f32⟩ : BufTy).Contents (Elt F)),
    StableHlo.unary main_while3b_v76 main_while3b_v90 (Host.negf : (⟨S16x512, .f32⟩ : BufTy).Contents (Elt F) → (⟨S16x512, .f32⟩ : BufTy).Contents (Elt F)),
    StableHlo.unary main_while3b_v90 main_while3b_v91 (Host.exp : (⟨S16x512, .f32⟩ : BufTy).Contents (Elt F) → (⟨S16x512, .f32⟩ : BufTy).Contents (Elt F)),
    StableHlo.nullary main_while3b_cst_22 (constant S_ .f32 0x3F800000#32),
    StableHlo.unary main_while3b_cst_22 main_while3b_v92 (broadcastInDim S16x512 ![] bcast_S_S16x512 : (⟨S_, .f32⟩ : BufTy).Contents (Elt F) → (⟨S16x512, .f32⟩ : BufTy).Contents (Elt F)),
    StableHlo.binary main_while3b_v92 main_while3b_v91 main_while3b_v93 (addf : (⟨S16x512, .f32⟩ : BufTy).Contents (Elt F) → (⟨S16x512, .f32⟩ : BufTy).Contents (Elt F) → (⟨S16x512, .f32⟩ : BufTy).Contents (Elt F)),
    StableHlo.nullary main_while3b_cst_23 (constant S_ .f32 0x3F800000#32),
    StableHlo.unary main_while3b_cst_23 main_while3b_v94 (broadcastInDim S16x512 ![] bcast_S_S16x512 : (⟨S_, .f32⟩ : BufTy).Contents (Elt F) → (⟨S16x512, .f32⟩ : BufTy).Contents (Elt F)),
    StableHlo.binary main_while3b_v94 main_while3b_v93 main_while3b_v95 (Host.divf : (⟨S16x512, .f32⟩ : BufTy).Contents (Elt F) → (⟨S16x512, .f32⟩ : BufTy).Contents (Elt F) → (⟨S16x512, .f32⟩ : BufTy).Contents (Elt F)),
    StableHlo.binary main_while3b_v88 main_v34_7 main_while3b_v96 (mulf : (⟨S16x512, .f32⟩ : BufTy).Contents (Elt F) → (⟨S16x512, .f32⟩ : BufTy).Contents (Elt F) → (⟨S16x512, .f32⟩ : BufTy).Contents (Elt F)),
    StableHlo.binary main_while3b_v82 main_while3b_v89 main_while3b_v97 (mulf : (⟨S16x512, .f32⟩ : BufTy).Contents (Elt F) → (⟨S16x512, .f32⟩ : BufTy).Contents (Elt F) → (⟨S16x512, .f32⟩ : BufTy).Contents (Elt F)),
    StableHlo.binary main_while3b_v96 main_while3b_v97 main_while3b_v98 (addf : (⟨S16x512, .f32⟩ : BufTy).Contents (Elt F) → (⟨S16x512, .f32⟩ : BufTy).Contents (Elt F) → (⟨S16x512, .f32⟩ : BufTy).Contents (Elt F)),
    StableHlo.unary main_while3b_v98 main_while3b_v99 (Host.tanh : (⟨S16x512, .f32⟩ : BufTy).Contents (Elt F) → (⟨S16x512, .f32⟩ : BufTy).Contents (Elt F)),
    StableHlo.binary main_while3b_v95 main_while3b_v99 main_while3b_v100 (mulf : (⟨S16x512, .f32⟩ : BufTy).Contents (Elt F) → (⟨S16x512, .f32⟩ : BufTy).Contents (Elt F) → (⟨S16x512, .f32⟩ : BufTy).Contents (Elt F)) ]

/-- The operations of `body3b` touch device buffers only. -/
theorem body3b_sub : (body3b : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩

/-- The buffers `body3b` writes, in order. -/
abbrev body3b_W : List (Ref sig .tc) := [main_while3b_v62, main_while3b_v63, main_while3b_v64, main_while3b_v65, main_while3b_v66, main_while3b_v67, main_while3b_v68, main_while3b_v69, main_while3b_v70, main_while3b_v71, main_while3b_v72, main_while3b_v73, main_while3b_v74, main_while3b_v75, main_while3b_v76, main_while3b_v77, main_while3b_v78, main_while3b_cst_18, main_while3b_v79, main_while3b_v80, main_while3b_cst_19, main_while3b_v81, main_while3b_v82, main_while3b_v83, main_while3b_v84, main_while3b_cst_20, main_while3b_v85, main_while3b_v86, main_while3b_cst_21, main_while3b_v87, main_while3b_v88, main_while3b_v89, main_while3b_v90, main_while3b_v91, main_while3b_cst_22, main_while3b_v92, main_while3b_v93, main_while3b_cst_23, main_while3b_v94, main_while3b_v95, main_while3b_v96, main_while3b_v97, main_while3b_v98, main_while3b_v99, main_while3b_v100]
/-- `body3b` writes nothing else. -/
theorem body3b_writes : (body3b : List (HloOp τ sig (Elt F))).Forall fun op => op.writes ⊆ (body3b_W.map (Proc.devRef (τ := τ) .tc)).toFinset :=
  StableHlo.forall_writes_sub_of_map rfl

/-- Loop 3: stores the new hidden state in the output sequence. -/
abbrev body3c : List (HloOp τ sig (Elt F)) :=
  [ StableHlo.TRef.unary (.of main_while3b_v100 : StableHlo.TRef sig ⟨S16x512, .f32⟩) (.of main_while3b_call8_v0 : StableHlo.TRef sig ⟨S1x16x512, .f32⟩) (broadcastInDim S1x16x512 ![1, 2] bcast_S16x512_S1x16x512_1_2),
    StableHlo.TRef.nullary (.of main_while3b_call8_c : StableHlo.TRef sig ⟨S_, .i32⟩) (constantI S_ 32 0#32),
    StableHlo.TRef.nullary (.of main_while3b_call8_c_0 : StableHlo.TRef sig ⟨S_, .i32⟩) (constantI S_ 32 0#32),
    StableHlo.TRef.binaryIndexed (.of main_v34_8 : StableHlo.TRef sig ⟨S512x16x512, .f32⟩) (.of main_while3b_call8_v0 : StableHlo.TRef sig ⟨S1x16x512, .f32⟩) ![(.of main_v34_5 : StableHlo.TRef sig ⟨S_, .i32⟩), (.of main_while3b_call8_c : StableHlo.TRef sig ⟨S_, .i32⟩), (.of main_while3b_call8_c_0 : StableHlo.TRef sig ⟨S_, .i32⟩)] (.of main_while3b_v101 : StableHlo.TRef sig ⟨S512x16x512, .f32⟩) (fun x u i => Host.dynamicUpdateSlice x u (fun k => (i k (Shape.Idx.first h_S_)).toInt) updateFits_S512x16x512_S1x16x512) ]

/-- The operations of `body3c` touch device buffers only. -/
theorem body3c_sub : (body3c : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- The buffers `body3c` writes, in order. -/
abbrev body3c_W : List (Ref sig .tc) := [main_while3b_call8_v0, main_while3b_call8_c, main_while3b_call8_c_0, main_while3b_v101]
/-- `body3c` writes nothing else. -/
theorem body3c_writes : (body3c : List (HloOp τ sig (Elt F))).Forall fun op => op.writes ⊆ (body3c_W.map (Proc.devRef (τ := τ) .tc)).toFinset :=
  StableHlo.forall_writes_sub_of_map rfl

/-- Loop 3: advances the counter and copies the results into the carried buffers. -/
abbrev body3d : List (HloOp τ sig (Elt F)) :=
  [ StableHlo.nullary main_while3b_c_24 (constantI S_ 32 1#32),
    StableHlo.binary main_v34_5 main_while3b_c_24 main_while3b_v102 (addi : (⟨S_, .i32⟩ : BufTy).Contents (Elt F) → (⟨S_, .i32⟩ : BufTy).Contents (Elt F) → (⟨S_, .i32⟩ : BufTy).Contents (Elt F)),
    StableHlo.unary main_while3b_v102 main_v34_5 id,
    StableHlo.unary main_while3b_v100 main_v34_6 id,
    StableHlo.unary main_while3b_v98 main_v34_7 id,
    StableHlo.unary main_while3b_v101 main_v34_8 id ]

/-- The operations of `body3d` touch device buffers only. -/
theorem body3d_sub : (body3d : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- The buffers `body3d` writes, in order. -/
abbrev body3d_W : List (Ref sig .tc) := [main_while3b_c_24, main_while3b_v102, main_v34_5, main_v34_6, main_v34_7, main_v34_8]
/-- `body3d` writes nothing else. -/
theorem body3d_writes : (body3d : List (HloOp τ sig (Elt F))).Forall fun op => op.writes ⊆ (body3d_W.map (Proc.devRef (τ := τ) .tc)).toFinset :=
  StableHlo.forall_writes_sub_of_map rfl

/-- Loop 3: the test of the counter. -/
abbrev cond3 : List (HloOp τ sig (Elt F)) :=
  [ StableHlo.nullary main_while3c_c_18 (constantI S_ 32 512#32),
    StableHlo.binary main_v34_5 main_while3c_c_18 main_while3c_v61 (cmpi .slt : (⟨S_, .i32⟩ : BufTy).Contents (Elt F) → (⟨S_, .i32⟩ : BufTy).Contents (Elt F) → (⟨S_, .i1⟩ : BufTy).Contents (Elt F)) ]

/-- The operations of `cond3` touch device buffers only. -/
theorem cond3_sub : (cond3 : List (HloOp τ sig (Elt F))).Forall fun op => op.bufs ⊆ StableHlo.tcRefs τ sig :=
  ⟨StableHlo.nullary_bufs_sub .., StableHlo.binary_bufs_sub ..⟩

/-- The buffers `cond3` writes, in order. -/
abbrev cond3_W : List (Ref sig .tc) := [main_while3c_c_18, main_while3c_v61]
/-- `cond3` writes nothing else. -/
theorem cond3_writes : (cond3 : List (HloOp τ sig (Elt F))).Forall fun op => op.writes ⊆ (cond3_W.map (Proc.devRef (τ := τ) .tc)).toFinset :=
  StableHlo.forall_writes_sub_of_map rfl

/-- Stretch 0 of the main function. -/
abbrev host0 : List (HloOp τ sig (Elt F)) :=
  [ StableHlo.nullary main_cst (constant S_ .f32 0x00000000#32),
    StableHlo.unary main_cst main_v0 (broadcastInDim S2x16x512 ![] bcast_S_S2x16x512 : (⟨S_, .f32⟩ : BufTy).Contents (Elt F) → (⟨S2x16x512, .f32⟩ : BufTy).Contents (Elt F)),
    StableHlo.nullary main_cst_0 (constant S_ .f32 0x00000000#32),
    StableHlo.unary main_cst_0 main_v1 (broadcastInDim S2x16x512 ![] bcast_S_S2x16x512 : (⟨S_, .f32⟩ : BufTy).Contents (Elt F) → (⟨S2x16x512, .f32⟩ : BufTy).Contents (Elt F)),
    StableHlo.unary main_arg0 main_v2 (broadcastInDim S1x16x512 ![1, 2] bcast_S16x512_S1x16x512_1_2 : (⟨S16x512, .f32⟩ : BufTy).Contents (Elt F) → (⟨S1x16x512, .f32⟩ : BufTy).Contents (Elt F)),
    StableHlo.unary main_v0 main_v3 ((extractStridedSlice S1x16x512 ![0, 0, 0] · slices_S2x16x512_S1x16x512_0_0_0) : (⟨S2x16x512, .f32⟩ : BufTy).Contents (Elt F) → (⟨S1x16x512, .f32⟩ : BufTy).Contents (Elt F)),
    StableHlo.reshape main_v3 main_v4 (rfl : (.f32 : EltTy) = .f32) shapeCasts_S1x16x512_S16x512,
    StableHlo.unary main_v1 main_v5 ((extractStridedSlice S1x16x512 ![0, 0, 0] · slices_S2x16x512_S1x16x512_0_0_0) : (⟨S2x16x512, .f32⟩ : BufTy).Contents (Elt F) → (⟨S1x16x512, .f32⟩ : BufTy).Contents (Elt F)),
    StableHlo.reshape main_v5 main_v6 (rfl : (.f32 : EltTy) = .f32) shapeCasts_S1x16x512_S16x512,
    StableHlo.nullary main_cst_1 (constant S_ .f32 0x00000000#32),
    StableHlo.unary main_cst_1 main_v7 (broadcastInDim S1x16x512 ![] bcast_S_S1x16x512 : (⟨S_, .f32⟩ : BufTy).Contents (Elt F) → (⟨S1x16x512, .f32⟩ : BufTy).Contents (Elt F)),
    StableHlo.nullary main_c (constantI S_ 32 0#32),
    StableHlo.unary main_v2 main_v8_0 id,
    StableHlo.unary main_arg3 main_v8_1 id,
    StableHlo.unary main_arg4 main_v8_2 id,
    StableHlo.unary main_arg5 main_v8_3 id,
    StableHlo.unary main_arg6 main_v8_4 id,
    StableHlo.unary main_c main_v8_5 id,
    StableHlo.unary main_v4 main_v8_6 id,
    StableHlo.unary main_v6 main_v8_7 id,
    StableHlo.unary main_v7 main_v8_8 id ]

/-- The operations of `host0` touch device buffers only. -/
theorem host0_sub : (host0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The buffers `host0` writes, in order. -/
abbrev host0_W : List (Ref sig .tc) := [main_cst, main_v0, main_cst_0, main_v1, main_v2, main_v3, main_v4, main_v5, main_v6, main_cst_1, main_v7, main_c, main_v8_0, main_v8_1, main_v8_2, main_v8_3, main_v8_4, main_v8_5, main_v8_6, main_v8_7, main_v8_8]
/-- `host0` writes nothing else. -/
theorem host0_writes : (host0 : List (HloOp τ sig (Elt F))).Forall fun op => op.writes ⊆ (host0_W.map (Proc.devRef (τ := τ) .tc)).toFinset :=
  StableHlo.forall_writes_sub_of_map rfl

/-- Stretch 2 of the main function. -/
abbrev host2 : List (HloOp τ sig (Elt F)) :=
  [ StableHlo.unary main_v0 main_v9 ((extractStridedSlice S1x16x512 ![1, 0, 0] · slices_S2x16x512_S1x16x512_1_0_0) : (⟨S2x16x512, .f32⟩ : BufTy).Contents (Elt F) → (⟨S1x16x512, .f32⟩ : BufTy).Contents (Elt F)),
    StableHlo.reshape main_v9 main_v10 (rfl : (.f32 : EltTy) = .f32) shapeCasts_S1x16x512_S16x512,
    StableHlo.unary main_v1 main_v11 ((extractStridedSlice S1x16x512 ![1, 0, 0] · slices_S2x16x512_S1x16x512_1_0_0) : (⟨S2x16x512, .f32⟩ : BufTy).Contents (Elt F) → (⟨S1x16x512, .f32⟩ : BufTy).Contents (Elt F)),
    StableHlo.reshape main_v11 main_v12 (rfl : (.f32 : EltTy) = .f32) shapeCasts_S1x16x512_S16x512,
    StableHlo.nullary main_cst_2 (constant S_ .f32 0x00000000#32),
    StableHlo.unary main_cst_2 main_v13 (broadcastInDim S1x16x512 ![] bcast_S_S1x16x512 : (⟨S_, .f32⟩ : BufTy).Contents (Elt F) → (⟨S1x16x512, .f32⟩ : BufTy).Contents (Elt F)),
    StableHlo.nullary main_c_3 (constantI S_ 32 0#32),
    StableHlo.unary main_v8_8 main_v14_0 id,
    StableHlo.unary main_arg7 main_v14_1 id,
    StableHlo.unary main_arg8 main_v14_2 id,
    StableHlo.unary main_arg9 main_v14_3 id,
    StableHlo.unary main_arg10 main_v14_4 id,
    StableHlo.unary main_c_3 main_v14_5 id,
    StableHlo.unary main_v10 main_v14_6 id,
    StableHlo.unary main_v12 main_v14_7 id,
    StableHlo.unary main_v13 main_v14_8 id ]

/-- The operations of `host2` touch device buffers only. -/
theorem host2_sub : (host2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The buffers `host2` writes, in order. -/
abbrev host2_W : List (Ref sig .tc) := [main_v9, main_v10, main_v11, main_v12, main_cst_2, main_v13, main_c_3, main_v14_0, main_v14_1, main_v14_2, main_v14_3, main_v14_4, main_v14_5, main_v14_6, main_v14_7, main_v14_8]
/-- `host2` writes nothing else. -/
theorem host2_writes : (host2 : List (HloOp τ sig (Elt F))).Forall fun op => op.writes ⊆ (host2_W.map (Proc.devRef (τ := τ) .tc)).toFinset :=
  StableHlo.forall_writes_sub_of_map rfl

/-- Stretch 4 of the main function. -/
abbrev host4 : List (HloOp τ sig (Elt F)) :=
  [ StableHlo.unary main_v8_6 main_v15 (broadcastInDim S1x16x512 ![1, 2] bcast_S16x512_S1x16x512_1_2 : (⟨S16x512, .f32⟩ : BufTy).Contents (Elt F) → (⟨S1x16x512, .f32⟩ : BufTy).Contents (Elt F)),
    StableHlo.unary main_v14_6 main_v16 (broadcastInDim S1x16x512 ![1, 2] bcast_S16x512_S1x16x512_1_2 : (⟨S16x512, .f32⟩ : BufTy).Contents (Elt F) → (⟨S1x16x512, .f32⟩ : BufTy).Contents (Elt F)),
    StableHlo.binary main_v15 main_v16 main_v17 ((fun a b => concatenate S2x16x512 0 [⟨S1x16x512, a⟩, ⟨S1x16x512, b⟩] concatenates_S1x16x512_S1x16x512_S2x16x512_d0) : (⟨S1x16x512, .f32⟩ : BufTy).Contents (Elt F) → (⟨S1x16x512, .f32⟩ : BufTy).Contents (Elt F) → (⟨S2x16x512, .f32⟩ : BufTy).Contents (Elt F)),
    StableHlo.unary main_v8_7 main_v18 (broadcastInDim S1x16x512 ![1, 2] bcast_S16x512_S1x16x512_1_2 : (⟨S16x512, .f32⟩ : BufTy).Contents (Elt F) → (⟨S1x16x512, .f32⟩ : BufTy).Contents (Elt F)),
    StableHlo.unary main_v14_7 main_v19 (broadcastInDim S1x16x512 ![1, 2] bcast_S16x512_S1x16x512_1_2 : (⟨S16x512, .f32⟩ : BufTy).Contents (Elt F) → (⟨S1x16x512, .f32⟩ : BufTy).Contents (Elt F)),
    StableHlo.binary main_v18 main_v19 main_v20 ((fun a b => concatenate S2x16x512 0 [⟨S1x16x512, a⟩, ⟨S1x16x512, b⟩] concatenates_S1x16x512_S1x16x512_S2x16x512_d0) : (⟨S1x16x512, .f32⟩ : BufTy).Contents (Elt F) → (⟨S1x16x512, .f32⟩ : BufTy).Contents (Elt F) → (⟨S2x16x512, .f32⟩ : BufTy).Contents (Elt F)) ]

/-- The operations of `host4` touch device buffers only. -/
theorem host4_sub : (host4 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- The buffers `host4` writes, in order. -/
abbrev host4_W : List (Ref sig .tc) := [main_v15, main_v16, main_v17, main_v18, main_v19, main_v20]
/-- `host4` writes nothing else. -/
theorem host4_writes : (host4 : List (HloOp τ sig (Elt F))).Forall fun op => op.writes ⊆ (host4_W.map (Proc.devRef (τ := τ) .tc)).toFinset :=
  StableHlo.forall_writes_sub_of_map rfl

/-- Stretch 5 of the main function. -/
abbrev host5 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S16x512, .i32⟩) (broadcastInDim S16x512 ![] bcast_S_S16x512),
    StableHlo.TRef.binary (.of main_arg1 : StableHlo.TRef sig ⟨S16x512, .i32⟩) (.of main_call4_v0 : StableHlo.TRef sig ⟨S16x512, .i32⟩) (.of main_call4_v1 : StableHlo.TRef sig ⟨S16x512, .i1⟩) (cmpi .slt),
    StableHlo.TRef.nullary (.of main_call4_c_0 : StableHlo.TRef sig ⟨S_, .i32⟩) (constantI S_ 32 64#32),
    StableHlo.TRef.unary (.of main_call4_c_0 : StableHlo.TRef sig ⟨S_, .i32⟩) (.of main_call4_v2 : StableHlo.TRef sig ⟨S16x512, .i32⟩) (broadcastInDim S16x512 ![] bcast_S_S16x512),
    StableHlo.TRef.binary (.of main_arg1 : StableHlo.TRef sig ⟨S16x512, .i32⟩) (.of main_call4_v2 : StableHlo.TRef sig ⟨S16x512, .i32⟩) (.of main_call4_v3 : StableHlo.TRef sig ⟨S16x512, .i32⟩) addi,
    StableHlo.TRef.ternary (.of main_call4_v1 : StableHlo.TRef sig ⟨S16x512, .i1⟩) (.of main_call4_v3 : StableHlo.TRef sig ⟨S16x512, .i32⟩) (.of main_arg1 : StableHlo.TRef sig ⟨S16x512, .i32⟩) (.of main_call4_v4 : StableHlo.TRef sig ⟨S16x512, .i32⟩) select,
    StableHlo.TRef.unary (.of main_call4_v4 : StableHlo.TRef sig ⟨S16x512, .i32⟩) (.of main_call4_v5 : StableHlo.TRef sig ⟨S16x512x1, .i32⟩) (broadcastInDim S16x512x1 ![0, 1] bcast_S16x512_S16x512x1_0_1),
    StableHlo.TRef.nullary (.of main_call4_c_1 : StableHlo.TRef sig ⟨S1, .i32⟩) (constantI S1 32 63#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S16x512x1, .i32⟩) (broadcastInDim S16x512x1 ![] bcast_S_S16x512x1),
    StableHlo.TRef.binary (.of main_call4_v5 : StableHlo.TRef sig ⟨S16x512x1, .i32⟩) (.of main_call4_v6 : StableHlo.TRef sig ⟨S16x512x1, .i32⟩) (.of main_call4_v7 : StableHlo.TRef sig ⟨S16x512x1, .i1⟩) (cmpi .sge),
    StableHlo.TRef.unary (.of main_call4_c_1 : StableHlo.TRef sig ⟨S1, .i32⟩) (.of main_call4_v8 : StableHlo.TRef sig ⟨S1x1x1, .i32⟩) (broadcastInDim S1x1x1 ![2] bcast_S1_S1x1x1_2),
    StableHlo.TRef.unary (.of main_call4_v8 : StableHlo.TRef sig ⟨S1x1x1, .i32⟩) (.of main_call4_v9 : StableHlo.TRef sig ⟨S16x512x1, .i32⟩) (broadcastInDim S16x512x1 ![0, 1, 2] bcast_S1x1x1_S16x512x1_0_1_2),
    StableHlo.TRef.binary (.of main_call4_v5 : StableHlo.TRef sig ⟨S16x512x1, .i32⟩) (.of main_call4_v9 : StableHlo.TRef sig ⟨S16x512x1, .i32⟩) (.of main_call4_v10 : StableHlo.TRef sig ⟨S16x512x1, .i1⟩) (cmpi .sle),
    StableHlo.TRef.binary (.of main_call4_v7 : StableHlo.TRef sig ⟨S16x512x1, .i1⟩) (.of main_call4_v10 : StableHlo.TRef sig ⟨S16x512x1, .i1⟩) (.of main_call4_v11 : StableHlo.TRef sig ⟨S16x512x1, .i1⟩) andi,
    StableHlo.TRef.nullary (.of main_call4_c_3 : StableHlo.TRef sig ⟨S_, .i1⟩) (constantI S_ 1 1#1),
    StableHlo.TRef.binary (.of main_call4_v11 : StableHlo.TRef sig ⟨S16x512x1, .i1⟩) (.of main_call4_c_3 : StableHlo.TRef sig ⟨S_, .i1⟩) (.of main_call4_v12 : StableHlo.TRef sig ⟨S16x512, .i1⟩) (fun x v => Host.reduce IntOp.andi x v reducesTo_S16x512x1_S16x512_d2 h_S_),
    StableHlo.TRef.binary (.of main_arg2 : StableHlo.TRef sig ⟨S64x512, .f32⟩) (.of main_call4_v5 : StableHlo.TRef sig ⟨S16x512x1, .i32⟩) (.of main_call4_v13 : StableHlo.TRef sig ⟨S16x512x512, .f32⟩) (fun x i => Host.gather gather_S64x512_S16x512x1_S16x512x512_2_0_n_n_0_2_1512 x i),
    StableHlo.TRef.unary (.of main_call4_v12 : StableHlo.TRef sig ⟨S16x512, .i1⟩) (.of main_call4_v14 : StableHlo.TRef sig ⟨S16x512x512, .i1⟩) (broadcastInDim S16x512x512 ![0, 1] bcast_S16x512_S16x512x512_0_1),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v15 : StableHlo.TRef sig ⟨S16x512x512, .f32⟩) (broadcastInDim S16x512x512 ![] bcast_S_S16x512x512),
    StableHlo.TRef.ternary (.of main_call4_v14 : StableHlo.TRef sig ⟨S16x512x512, .i1⟩) (.of main_call4_v13 : StableHlo.TRef sig ⟨S16x512x512, .f32⟩) (.of main_call4_v15 : StableHlo.TRef sig ⟨S16x512x512, .f32⟩) (.of main_v21 : StableHlo.TRef sig ⟨S16x512x512, .f32⟩) select ]

/-- The operations of `host5` touch device buffers only. -/
theorem host5_sub : (host5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- The buffers `host5` writes, in order. -/
abbrev host5_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v21]
/-- `host5` writes nothing else. -/
theorem host5_writes : (host5 : List (HloOp τ sig (Elt F))).Forall fun op => op.writes ⊆ (host5_W.map (Proc.devRef (τ := τ) .tc)).toFinset :=
  StableHlo.forall_writes_sub_of_map rfl

/-- Stretch 6 of the main function. -/
abbrev host6 : List (HloOp τ sig (Elt F)) :=
  [ StableHlo.unary main_v21 main_v22 ((transpose S512x16x512 [1, 0, 2] · transposes_S16x512x512_S512x16x512_1_0_2) : (⟨S16x512x512, .f32⟩ : BufTy).Contents (Elt F) → (⟨S512x16x512, .f32⟩ : BufTy).Contents (Elt F)),
    StableHlo.unary main_v17 main_v23 ((extractStridedSlice S1x16x512 ![0, 0, 0] · slices_S2x16x512_S1x16x512_0_0_0) : (⟨S2x16x512, .f32⟩ : BufTy).Contents (Elt F) → (⟨S1x16x512, .f32⟩ : BufTy).Contents (Elt F)),
    StableHlo.reshape main_v23 main_v24 (rfl : (.f32 : EltTy) = .f32) shapeCasts_S1x16x512_S16x512,
    StableHlo.unary main_v20 main_v25 ((extractStridedSlice S1x16x512 ![0, 0, 0] · slices_S2x16x512_S1x16x512_0_0_0) : (⟨S2x16x512, .f32⟩ : BufTy).Contents (Elt F) → (⟨S1x16x512, .f32⟩ : BufTy).Contents (Elt F)),
    StableHlo.reshape main_v25 main_v26 (rfl : (.f32 : EltTy) = .f32) shapeCasts_S1x16x512_S16x512,
    StableHlo.nullary main_cst_4 (constant S_ .f32 0x00000000#32),
    StableHlo.unary main_cst_4 main_v27 (broadcastInDim S512x16x512 ![] bcast_S_S512x16x512 : (⟨S_, .f32⟩ : BufTy).Contents (Elt F) → (⟨S512x16x512, .f32⟩ : BufTy).Contents (Elt F)),
    StableHlo.nullary main_c_5 (constantI S_ 32 0#32),
    StableHlo.unary main_v22 main_v28_0 id,
    StableHlo.unary main_arg3 main_v28_1 id,
    StableHlo.unary main_arg4 main_v28_2 id,
    StableHlo.unary main_arg5 main_v28_3 id,
    StableHlo.unary main_arg6 main_v28_4 id,
    StableHlo.unary main_c_5 main_v28_5 id ]

/-- The operations of `host6` touch device buffers only. -/
theorem host6_sub : (host6 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- The buffers `host6` writes, in order. -/
abbrev host6_W : List (Ref sig .tc) := [main_v22, main_v23, main_v24, main_v25, main_v26, main_cst_4, main_v27, main_c_5, main_v28_0, main_v28_1, main_v28_2, main_v28_3, main_v28_4, main_v28_5]
/-- `host6` writes nothing else. -/
theorem host6_writes : (host6 : List (HloOp τ sig (Elt F))).Forall fun op => op.writes ⊆ (host6_W.map (Proc.devRef (τ := τ) .tc)).toFinset :=
  StableHlo.forall_writes_sub_of_map rfl

/-- Stretch 7 of the main function. -/
abbrev host7 : List (HloOp τ sig (Elt F)) :=
  [ StableHlo.unary main_v24 main_v28_6 id,
    StableHlo.unary main_v26 main_v28_7 id,
    StableHlo.unary main_v27 main_v28_8 id ]

/-- The operations of `host7` touch device buffers only. -/
theorem host7_sub : (host7 : List (HloOp τ sig (Elt F))).Forall fun op => op.bufs ⊆ StableHlo.tcRefs τ sig :=
  ⟨StableHlo.unary_bufs_sub .., StableHlo.unary_bufs_sub .., StableHlo.unary_bufs_sub ..⟩

/-- The buffers `host7` writes, in order. -/
abbrev host7_W : List (Ref sig .tc) := [main_v28_6, main_v28_7, main_v28_8]
/-- `host7` writes nothing else. -/
theorem host7_writes : (host7 : List (HloOp τ sig (Elt F))).Forall fun op => op.writes ⊆ (host7_W.map (Proc.devRef (τ := τ) .tc)).toFinset :=
  StableHlo.forall_writes_sub_of_map rfl

/-- Stretch 9 of the main function. -/
abbrev host9 : List (HloOp τ sig (Elt F)) :=
  [ StableHlo.unary main_v17 main_v29 ((extractStridedSlice S1x16x512 ![1, 0, 0] · slices_S2x16x512_S1x16x512_1_0_0) : (⟨S2x16x512, .f32⟩ : BufTy).Contents (Elt F) → (⟨S1x16x512, .f32⟩ : BufTy).Contents (Elt F)),
    StableHlo.reshape main_v29 main_v30 (rfl : (.f32 : EltTy) = .f32) shapeCasts_S1x16x512_S16x512,
    StableHlo.unary main_v20 main_v31 ((extractStridedSlice S1x16x512 ![1, 0, 0] · slices_S2x16x512_S1x16x512_1_0_0) : (⟨S2x16x512, .f32⟩ : BufTy).Contents (Elt F) → (⟨S1x16x512, .f32⟩ : BufTy).Contents (Elt F)),
    StableHlo.reshape main_v31 main_v32 (rfl : (.f32 : EltTy) = .f32) shapeCasts_S1x16x512_S16x512,
    StableHlo.nullary main_cst_6 (constant S_ .f32 0x00000000#32),
    StableHlo.unary main_cst_6 main_v33 (broadcastInDim S512x16x512 ![] bcast_S_S512x16x512 : (⟨S_, .f32⟩ : BufTy).Contents (Elt F) → (⟨S512x16x512, .f32⟩ : BufTy).Contents (Elt F)),
    StableHlo.nullary main_c_7 (constantI S_ 32 0#32),
    StableHlo.unary main_v28_8 main_v34_0 id,
    StableHlo.unary main_arg7 main_v34_1 id,
    StableHlo.unary main_arg8 main_v34_2 id,
    StableHlo.unary main_arg9 main_v34_3 id,
    StableHlo.unary main_arg10 main_v34_4 id,
    StableHlo.unary main_c_7 main_v34_5 id,
    StableHlo.unary main_v30 main_v34_6 id,
    StableHlo.unary main_v32 main_v34_7 id,
    StableHlo.unary main_v33 main_v34_8 id ]

/-- The operations of `host9` touch device buffers only. -/
theorem host9_sub : (host9 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The buffers `host9` writes, in order. -/
abbrev host9_W : List (Ref sig .tc) := [main_v29, main_v30, main_v31, main_v32, main_cst_6, main_v33, main_c_7, main_v34_0, main_v34_1, main_v34_2, main_v34_3, main_v34_4, main_v34_5, main_v34_6, main_v34_7, main_v34_8]
/-- `host9` writes nothing else. -/
theorem host9_writes : (host9 : List (HloOp τ sig (Elt F))).Forall fun op => op.writes ⊆ (host9_W.map (Proc.devRef (τ := τ) .tc)).toFinset :=
  StableHlo.forall_writes_sub_of_map rfl

/-- Stretch 11 of the main function. -/
abbrev host11 : List (HloOp τ sig (Elt F)) :=
  [ StableHlo.unary main_v28_6 main_v35 (broadcastInDim S1x16x512 ![1, 2] bcast_S16x512_S1x16x512_1_2 : (⟨S16x512, .f32⟩ : BufTy).Contents (Elt F) → (⟨S1x16x512, .f32⟩ : BufTy).Contents (Elt F)),
    StableHlo.unary main_v34_6 main_v36 (broadcastInDim S1x16x512 ![1, 2] bcast_S16x512_S1x16x512_1_2 : (⟨S16x512, .f32⟩ : BufTy).Contents (Elt F) → (⟨S1x16x512, .f32⟩ : BufTy).Contents (Elt F)),
    StableHlo.binary main_v35 main_v36 main_v37 ((fun a b => concatenate S2x16x512 0 [⟨S1x16x512, a⟩, ⟨S1x16x512, b⟩] concatenates_S1x16x512_S1x16x512_S2x16x512_d0) : (⟨S1x16x512, .f32⟩ : BufTy).Contents (Elt F) → (⟨S1x16x512, .f32⟩ : BufTy).Contents (Elt F) → (⟨S2x16x512, .f32⟩ : BufTy).Contents (Elt F)),
    StableHlo.unary main_v28_7 main_v38 (broadcastInDim S1x16x512 ![1, 2] bcast_S16x512_S1x16x512_1_2 : (⟨S16x512, .f32⟩ : BufTy).Contents (Elt F) → (⟨S1x16x512, .f32⟩ : BufTy).Contents (Elt F)),
    StableHlo.unary main_v34_7 main_v39 (broadcastInDim S1x16x512 ![1, 2] bcast_S16x512_S1x16x512_1_2 : (⟨S16x512, .f32⟩ : BufTy).Contents (Elt F) → (⟨S1x16x512, .f32⟩ : BufTy).Contents (Elt F)),
    StableHlo.binary main_v38 main_v39 main_v40 ((fun a b => concatenate S2x16x512 0 [⟨S1x16x512, a⟩, ⟨S1x16x512, b⟩] concatenates_S1x16x512_S1x16x512_S2x16x512_d0) : (⟨S1x16x512, .f32⟩ : BufTy).Contents (Elt F) → (⟨S1x16x512, .f32⟩ : BufTy).Contents (Elt F) → (⟨S2x16x512, .f32⟩ : BufTy).Contents (Elt F)),
    StableHlo.unary main_arg11 main_v41 ((transpose S512x64 [1, 0] · transposes_S64x512_S512x64_1_0) : (⟨S64x512, .f32⟩ : BufTy).Contents (Elt F) → (⟨S512x64, .f32⟩ : BufTy).Contents (Elt F)),
    StableHlo.binary main_v34_8 main_v41 main_v42 ((fun l r => Host.dotGeneral dot_S512x16x512_S512x64_S512x16x64_2_0_01_1_n_n none l r) : (⟨S512x16x512, .f32⟩ : BufTy).Contents (Elt F) → (⟨S512x64, .f32⟩ : BufTy).Contents (Elt F) → (⟨S512x16x64, .f32⟩ : BufTy).Contents (Elt F)),
    StableHlo.unary main_arg12 main_v43 (broadcastInDim S1x1x64 ![2] bcast_S64_S1x1x64_2 : (⟨S64, .f32⟩ : BufTy).Contents (Elt F) → (⟨S1x1x64, .f32⟩ : BufTy).Contents (Elt F)),
    StableHlo.unary main_v43 main_v44 (broadcastInDim S512x16x64 ![0, 1, 2] bcast_S1x1x64_S512x16x64_0_1_2 : (⟨S1x1x64, .f32⟩ : BufTy).Contents (Elt F) → (⟨S512x16x64, .f32⟩ : BufTy).Contents (Elt F)),
    StableHlo.binary main_v42 main_v44 main_v45 (addf : (⟨S512x16x64, .f32⟩ : BufTy).Contents (Elt F) → (⟨S512x16x64, .f32⟩ : BufTy).Contents (Elt F) → (⟨S512x16x64, .f32⟩ : BufTy).Contents (Elt F)),
    StableHlo.unary main_v45 main_v46 ((extractStridedSlice S511x16x64 ![0, 0, 0] · slices_S512x16x64_S511x16x64_0_0_0) : (⟨S512x16x64, .f32⟩ : BufTy).Contents (Elt F) → (⟨S511x16x64, .f32⟩ : BufTy).Contents (Elt F)),
    StableHlo.unary main_arg1 main_v47 ((transpose S512x16 [1, 0] · transposes_S16x512_S512x16_1_0) : (⟨S16x512, .i32⟩ : BufTy).Contents (Elt F) → (⟨S512x16, .i32⟩ : BufTy).Contents (Elt F)),
    StableHlo.unary main_v47 main_v48 ((extractStridedSlice S511x16 ![1, 0] · slices_S512x16_S511x16_1_0) : (⟨S512x16, .i32⟩ : BufTy).Contents (Elt F) → (⟨S511x16, .i32⟩ : BufTy).Contents (Elt F)) ]

/-- The operations of `host11` touch device buffers only. -/
theorem host11_sub : (host11 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub ..⟩

/-- The buffers `host11` writes, in order. -/
abbrev host11_W : List (Ref sig .tc) := [main_v35, main_v36, main_v37, main_v38, main_v39, main_v40, main_v41, main_v42, main_v43, main_v44, main_v45, main_v46, main_v47, main_v48]
/-- `host11` writes nothing else. -/
theorem host11_writes : (host11 : List (HloOp τ sig (Elt F))).Forall fun op => op.writes ⊆ (host11_W.map (Proc.devRef (τ := τ) .tc)).toFinset :=
  StableHlo.forall_writes_sub_of_map rfl

/-- Stretch 12 of the main function. -/
abbrev host12 : List (HloOp τ sig (Elt F)) :=
  [ StableHlo.TRef.nullary (.of main_call9_cst : StableHlo.TRef sig ⟨S_, .f32⟩) (constant S_ .f32 0xFF800000#32),
    StableHlo.TRef.binary (.of main_v46 : StableHlo.TRef sig ⟨S511x16x64, .f32⟩) (.of main_call9_cst : StableHlo.TRef sig ⟨S_, .f32⟩) (.of main_call9_v0 : StableHlo.TRef sig ⟨S511x16, .f32⟩) (fun x v => Host.reduce FloatOps.maximumf x v reducesTo_S511x16x64_S511x16_d2 h_S_),
    StableHlo.TRef.nullary (.of main_call9_cst_0 : StableHlo.TRef sig ⟨S_, .f32⟩) (constant S_ .f32 0xFF800000#32),
    StableHlo.TRef.unary (.of main_call9_cst_0 : StableHlo.TRef sig ⟨S_, .f32⟩) (.of main_call9_v1 : StableHlo.TRef sig ⟨S511x16, .f32⟩) (broadcastInDim S511x16 ![] bcast_S_S511x16),
    StableHlo.TRef.binary (.of main_call9_v1 : StableHlo.TRef sig ⟨S511x16, .f32⟩) (.of main_call9_v0 : StableHlo.TRef sig ⟨S511x16, .f32⟩) (.of main_call9_v2 : StableHlo.TRef sig ⟨S511x16, .f32⟩) maximumf,
    StableHlo.TRef.unary (.of main_call9_v2 : StableHlo.TRef sig ⟨S511x16, .f32⟩) (.of main_call9_v3 : StableHlo.TRef sig ⟨S511x16x1, .f32⟩) (broadcastInDim S511x16x1 ![0, 1] bcast_S511x16_S511x16x1_0_1),
    StableHlo.TRef.unary (.of main_call9_v3 : StableHlo.TRef sig ⟨S511x16x1, .f32⟩) (.of main_call9_v4 : StableHlo.TRef sig ⟨S511x16x64, .f32⟩) (broadcastInDim S511x16x64 ![0, 1, 2] bcast_S511x16x1_S511x16x64_0_1_2),
    StableHlo.TRef.binary (.of main_v46 : StableHlo.TRef sig ⟨S511x16x64, .f32⟩) (.of main_call9_v4 : StableHlo.TRef sig ⟨S511x16x64, .f32⟩) (.of main_call9_v5 : StableHlo.TRef sig ⟨S511x16x64, .f32⟩) subf,
    StableHlo.TRef.unary (.of main_call9_v5 : StableHlo.TRef sig ⟨S511x16x64, .f32⟩) (.of main_call9_v6 : StableHlo.TRef sig ⟨S511x16x64, .f32⟩) Host.exp,
    StableHlo.TRef.nullary (.of main_call9_cst_1 : StableHlo.TRef sig ⟨S_, .f32⟩) (constant S_ .f32 0x00000000#32),
    StableHlo.TRef.binary (.of main_call9_v6 : StableHlo.TRef sig ⟨S511x16x64, .f32⟩) (.of main_call9_cst_1 : StableHlo.TRef sig ⟨S_, .f32⟩) (.of main_call9_v7 : StableHlo.TRef sig ⟨S511x16, .f32⟩) (fun x v => Host.reduceAdd x v reducesTo_S511x16x64_S511x16_d2 h_S_),
    StableHlo.TRef.unary (.of main_call9_v7 : StableHlo.TRef sig ⟨S511x16, .f32⟩) (.of main_call9_v8 : StableHlo.TRef sig ⟨S511x16x1, .f32⟩) (broadcastInDim S511x16x1 ![0, 1] bcast_S511x16_S511x16x1_0_1),
    StableHlo.TRef.unary (.of main_call9_v8 : StableHlo.TRef sig ⟨S511x16x1, .f32⟩) (.of main_call9_v9 : StableHlo.TRef sig ⟨S511x16x1, .f32⟩) Host.log,
    StableHlo.TRef.unary (.of main_call9_v9 : StableHlo.TRef sig ⟨S511x16x1, .f32⟩) (.of main_call9_v10 : StableHlo.TRef sig ⟨S511x16x64, .f32⟩) (broadcastInDim S511x16x64 ![0, 1, 2] bcast_S511x16x1_S511x16x64_0_1_2),
    StableHlo.TRef.binary (.of main_call9_v5 : StableHlo.TRef sig ⟨S511x16x64, .f32⟩) (.of main_call9_v10 : StableHlo.TRef sig ⟨S511x16x64, .f32⟩) (.of main_v49 : StableHlo.TRef sig ⟨S511x16x64, .f32⟩) subf ]

/-- The operations of `host12` touch device buffers only. -/
theorem host12_sub : (host12 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

/-- The buffers `host12` writes, in order. -/
abbrev host12_W : List (Ref sig .tc) := [main_call9_cst, main_call9_v0, main_call9_cst_0, main_call9_v1, main_call9_v2, main_call9_v3, main_call9_v4, main_call9_v5, main_call9_v6, main_call9_cst_1, main_call9_v7, main_call9_v8, main_call9_v9, main_call9_v10, main_v49]
/-- `host12` writes nothing else. -/
theorem host12_writes : (host12 : List (HloOp τ sig (Elt F))).Forall fun op => op.writes ⊆ (host12_W.map (Proc.devRef (τ := τ) .tc)).toFinset :=
  StableHlo.forall_writes_sub_of_map rfl

/-- Stretch 13 of the main function. -/
abbrev host13 : List (HloOp τ sig (Elt F)) :=
  [ StableHlo.unary main_v48 main_v50 (broadcastInDim S511x16x1 ![0, 1] bcast_S511x16_S511x16x1_0_1 : (⟨S511x16, .i32⟩ : BufTy).Contents (Elt F) → (⟨S511x16x1, .i32⟩ : BufTy).Contents (Elt F)) ]

/-- The operations of `host13` touch device buffers only. -/
theorem host13_sub : (host13 : List (HloOp τ sig (Elt F))).Forall fun op => op.bufs ⊆ StableHlo.tcRefs τ sig :=
  StableHlo.unary_bufs_sub ..

/-- The buffers `host13` writes, in order. -/
abbrev host13_W : List (Ref sig .tc) := [main_v50]
/-- `host13` writes nothing else. -/
theorem host13_writes : (host13 : List (HloOp τ sig (Elt F))).Forall fun op => op.writes ⊆ (host13_W.map (Proc.devRef (τ := τ) .tc)).toFinset :=
  StableHlo.forall_writes_sub_of_map rfl

/-- Stretch 14 of the main function. -/
abbrev host14 : List (HloOp τ sig (Elt F)) :=
  [ StableHlo.TRef.nullary (.of main_call10_c : StableHlo.TRef sig ⟨S_, .i32⟩) (constantI S_ 32 0#32),
    StableHlo.TRef.unary (.of main_call10_c : StableHlo.TRef sig ⟨S_, .i32⟩) (.of main_call10_v0 : StableHlo.TRef sig ⟨S511x16x1, .i32⟩) (broadcastInDim S511x16x1 ![] bcast_S_S511x16x1),
    StableHlo.TRef.binary (.of main_v50 : StableHlo.TRef sig ⟨S511x16x1, .i32⟩) (.of main_call10_v0 : StableHlo.TRef sig ⟨S511x16x1, .i32⟩) (.of main_call10_v1 : StableHlo.TRef sig ⟨S511x16x1, .i1⟩) (cmpi .slt),
    StableHlo.TRef.nullary (.of main_call10_c_0 : StableHlo.TRef sig ⟨S_, .i32⟩) (constantI S_ 32 64#32),
    StableHlo.TRef.unary (.of main_call10_c_0 : StableHlo.TRef sig ⟨S_, .i32⟩) (.of main_call10_v2 : StableHlo.TRef sig ⟨S511x16x1, .i32⟩) (broadcastInDim S511x16x1 ![] bcast_S_S511x16x1),
    StableHlo.TRef.binary (.of main_v50 : StableHlo.TRef sig ⟨S511x16x1, .i32⟩) (.of main_call10_v2 : StableHlo.TRef sig ⟨S511x16x1, .i32⟩) (.of main_call10_v3 : StableHlo.TRef sig ⟨S511x16x1, .i32⟩) addi,
    StableHlo.TRef.ternary (.of main_call10_v1 : StableHlo.TRef sig ⟨S511x16x1, .i1⟩) (.of main_call10_v3 : StableHlo.TRef sig ⟨S511x16x1, .i32⟩) (.of main_v50 : StableHlo.TRef sig ⟨S511x16x1, .i32⟩) (.of main_call10_v4 : StableHlo.TRef sig ⟨S511x16x1, .i32⟩) select,
    StableHlo.TRef.reshape (.of main_call10_v4 : StableHlo.TRef sig ⟨S511x16x1, .i32⟩) (.of main_call10_v5 : StableHlo.TRef sig ⟨S511x16x1x1, .i32⟩) (rfl : (.i32 : EltTy) = .i32) shapeCasts_S511x16x1_S511x16x1x1,
    StableHlo.TRef.nullary (.of main_call10_c_1 : StableHlo.TRef sig ⟨S1, .i32⟩) (constantI S1 32 63#32),
    StableHlo.TRef.nullary (.of main_call10_c_2 : StableHlo.TRef sig ⟨S_, .i32⟩) (constantI S_ 32 0#32),
    StableHlo.TRef.unary (.of main_call10_c_2 : StableHlo.TRef sig ⟨S_, .i32⟩) (.of main_call10_v6 : StableHlo.TRef sig ⟨S511x16x1x1, .i32⟩) (broadcastInDim S511x16x1x1 ![] bcast_S_S511x16x1x1),
    StableHlo.TRef.binary (.of main_call10_v5 : StableHlo.TRef sig ⟨S511x16x1x1, .i32⟩) (.of main_call10_v6 : StableHlo.TRef sig ⟨S511x16x1x1, .i32⟩) (.of main_call10_v7 : StableHlo.TRef sig ⟨S511x16x1x1, .i1⟩) (cmpi .sge),
    StableHlo.TRef.unary (.of main_call10_c_1 : StableHlo.TRef sig ⟨S1, .i32⟩) (.of main_call10_v8 : StableHlo.TRef sig ⟨S1x1x1x1, .i32⟩) (broadcastInDim S1x1x1x1 ![3] bcast_S1_S1x1x1x1_3),
    StableHlo.TRef.unary (.of main_call10_v8 : StableHlo.TRef sig ⟨S1x1x1x1, .i32⟩) (.of main_call10_v9 : StableHlo.TRef sig ⟨S511x16x1x1, .i32⟩) (broadcastInDim S511x16x1x1 ![0, 1, 2, 3] bcast_S1x1x1x1_S511x16x1x1_0_1_2_3),
    StableHlo.TRef.binary (.of main_call10_v5 : StableHlo.TRef sig ⟨S511x16x1x1, .i32⟩) (.of main_call10_v9 : StableHlo.TRef sig ⟨S511x16x1x1, .i32⟩) (.of main_call10_v10 : StableHlo.TRef sig ⟨S511x16x1x1, .i1⟩) (cmpi .sle),
    StableHlo.TRef.binary (.of main_call10_v7 : StableHlo.TRef sig ⟨S511x16x1x1, .i1⟩) (.of main_call10_v10 : StableHlo.TRef sig ⟨S511x16x1x1, .i1⟩) (.of main_call10_v11 : StableHlo.TRef sig ⟨S511x16x1x1, .i1⟩) andi,
    StableHlo.TRef.nullary (.of main_call10_c_3 : StableHlo.TRef sig ⟨S_, .i1⟩) (constantI S_ 1 1#1),
    StableHlo.TRef.binary (.of main_call10_v11 : StableHlo.TRef sig ⟨S511x16x1x1, .i1⟩) (.of main_call10_c_3 : StableHlo.TRef sig ⟨S_, .i1⟩) (.of main_call10_v12 : StableHlo.TRef sig ⟨S511x16x1, .i1⟩) (fun x v => Host.reduce IntOp.andi x v reducesTo_S511x16x1x1_S511x16x1_d3 h_S_),
    StableHlo.TRef.binary (.of main_v49 : StableHlo.TRef sig ⟨S511x16x64, .f32⟩) (.of main_call10_v5 : StableHlo.TRef sig ⟨S511x16x1x1, .i32⟩) (.of main_call10_v13 : StableHlo.TRef sig ⟨S511x16x1, .f32⟩) (fun x i => Host.gather gather_S511x16x64_S511x16x1x1_S511x16x1_n_2_01_01_2_3_111 x i),
    StableHlo.TRef.nullary (.of main_call10_cst : StableHlo.TRef sig ⟨S_, .f32⟩) (constant S_ .f32 0x7FC00000#32),
    StableHlo.TRef.unary (.of main_call10_cst : StableHlo.TRef sig ⟨S_, .f32⟩) (.of main_call10_v14 : StableHlo.TRef sig ⟨S511x16x1, .f32⟩) (broadcastInDim S511x16x1 ![] bcast_S_S511x16x1),
    StableHlo.TRef.ternary (.of main_call10_v12 : StableHlo.TRef sig ⟨S511x16x1, .i1⟩) (.of main_call10_v13 : StableHlo.TRef sig ⟨S511x16x1, .f32⟩) (.of main_call10_v14 : StableHlo.TRef sig ⟨S511x16x1, .f32⟩) (.of main_v51 : StableHlo.TRef sig ⟨S511x16x1, .f32⟩) select ]

/-- The operations of `host14` touch device buffers only. -/
theorem host14_sub : (host14 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- The buffers `host14` writes, in order. -/
abbrev host14_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_cst, main_call10_v14, main_v51]
/-- `host14` writes nothing else. -/
theorem host14_writes : (host14 : List (HloOp τ sig (Elt F))).Forall fun op => op.writes ⊆ (host14_W.map (Proc.devRef (τ := τ) .tc)).toFinset :=
  StableHlo.forall_writes_sub_of_map rfl

/-- Stretch 15 of the main function. -/
abbrev host15 : List (HloOp τ sig (Elt F)) :=
  [ StableHlo.reshape main_v51 main_v52 (rfl : (.f32 : EltTy) = .f32) shapeCasts_S511x16x1_S511x16,
    StableHlo.unary main_v52 main_v53 (Host.negf : (⟨S511x16, .f32⟩ : BufTy).Contents (Elt F) → (⟨S511x16, .f32⟩ : BufTy).Contents (Elt F)),
    StableHlo.nullary main_c_8 (constantI S_ 32 0#32),
    StableHlo.unary main_c_8 main_v54 (broadcastInDim S511x16 ![] bcast_S_S511x16 : (⟨S_, .i32⟩ : BufTy).Contents (Elt F) → (⟨S511x16, .i32⟩ : BufTy).Contents (Elt F)),
    StableHlo.binary main_v48 main_v54 main_v55 (cmpi .ne : (⟨S511x16, .i32⟩ : BufTy).Contents (Elt F) → (⟨S511x16, .i32⟩ : BufTy).Contents (Elt F) → (⟨S511x16, .i1⟩ : BufTy).Contents (Elt F)),
    StableHlo.unary main_v55 main_v56 (uitofp .f32 : (⟨S511x16, .i1⟩ : BufTy).Contents (Elt F) → (⟨S511x16, .f32⟩ : BufTy).Contents (Elt F)),
    StableHlo.binary main_v53 main_v56 main_v57 (mulf : (⟨S511x16, .f32⟩ : BufTy).Contents (Elt F) → (⟨S511x16, .f32⟩ : BufTy).Contents (Elt F) → (⟨S511x16, .f32⟩ : BufTy).Contents (Elt F)),
    StableHlo.nullary main_cst_9 (constant S_ .f32 0x00000000#32),
    StableHlo.binary main_v57 main_cst_9 main_v58 ((fun x v => Host.reduceAdd x v reducesTo_S511x16_S16_d0 h_S_) : (⟨S511x16, .f32⟩ : BufTy).Contents (Elt F) → (⟨S_, .f32⟩ : BufTy).Contents (Elt F) → (⟨S16, .f32⟩ : BufTy).Contents (Elt F)),
    StableHlo.reshape main_v58 main_v59 (rfl : (.f32 : EltTy) = .f32) shapeCasts_S16_S16x1,
    StableHlo.unary main_v59 main_v60 (Host.negf : (⟨S16x1, .f32⟩ : BufTy).Contents (Elt F) → (⟨S16x1, .f32⟩ : BufTy).Contents (Elt F)) ]

/-- The operations of `host15` touch device buffers only. -/
theorem host15_sub : (host15 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub ..⟩

/-- The buffers `host15` writes, in order. -/
abbrev host15_W : List (Ref sig .tc) := [main_v52, main_v53, main_c_8, main_v54, main_v55, main_v56, main_v57, main_cst_9, main_v58, main_v59, main_v60]
/-- `host15` writes nothing else. -/
theorem host15_writes : (host15 : List (HloOp τ sig (Elt F))).Forall fun op => op.writes ⊆ (host15_W.map (Proc.devRef (τ := τ) .tc)).toFinset :=
  StableHlo.forall_writes_sub_of_map rfl

/-- Loop 0's body, in stretches. -/
abbrev body0 : List (List (HloOp τ sig (Elt F))) := [body0a, body0b, body0c, body0d]
theorem body0_chain : main_while0_body (F := F)
    = (Pipeline.chain [StableHlo.seq body0a, StableHlo.seq body0b, StableHlo.seq body0c, StableHlo.seq body0d] : HostProg F) := by
  rewrite [StableHlo.chain_seq_cons, Pipeline.chain_cons, StableHlo.chain_seq_cons]
  chain_rfl

/-- Loop 1's body, in stretches. -/
abbrev body1 : List (List (HloOp τ sig (Elt F))) := [body1a, body1b, body1c, body1d]
theorem body1_chain : main_while1_body (F := F)
    = (Pipeline.chain [StableHlo.seq body1a, StableHlo.seq body1b, StableHlo.seq body1c, StableHlo.seq body1d] : HostProg F) := by
  rewrite [StableHlo.chain_seq_cons, Pipeline.chain_cons, StableHlo.chain_seq_cons]
  chain_rfl

/-- Loop 2's body, in stretches. -/
abbrev body2 : List (List (HloOp τ sig (Elt F))) := [body2a, body2b, body2c, body2d]
theorem body2_chain : main_while2_body (F := F)
    = (Pipeline.chain [StableHlo.seq body2a, StableHlo.seq body2b, StableHlo.seq body2c, StableHlo.seq body2d] : HostProg F) := by
  rewrite [StableHlo.chain_seq_cons, Pipeline.chain_cons, StableHlo.chain_seq_cons]
  chain_rfl

/-- Loop 3's body, in stretches. -/
abbrev body3 : List (List (HloOp τ sig (Elt F))) := [body3a, body3b, body3c, body3d]
theorem body3_chain : main_while3_body (F := F)
    = (Pipeline.chain [StableHlo.seq body3a, StableHlo.seq body3b, StableHlo.seq body3c, StableHlo.seq body3d] : HostProg F) := by
  rewrite [StableHlo.chain_seq_cons, Pipeline.chain_cons, StableHlo.chain_seq_cons]
  chain_rfl

/-- The main function's first window. -/
theorem part0_chain (c : Dev nD) : main_part0 (F := F) c = (Pipeline.chainK
    [StableHlo.seq host0, HostLoop.enter 0, StableHlo.seq host2, HostLoop.enter 1, StableHlo.seq host4, StableHlo.seq host5] (StableHlo.seq host6) : HostProg F) := by
  chain_rfl
/-- The main function's second window. -/
theorem part1_chain (c : Dev nD) : main_part1 (F := F) c = (Pipeline.chain
    [StableHlo.seq host7, HostLoop.enter 2, StableHlo.seq host9, HostLoop.enter 3, StableHlo.seq host11, StableHlo.seq host12, StableHlo.seq host13, StableHlo.seq host14, StableHlo.seq host15] : HostProg F) := by
  chain_rfl
/-- The main function as the chain of its stretches and loops. -/
theorem main_chain (c : Dev nD) : main (F := F) c = (Pipeline.chain
    [StableHlo.seq host0, HostLoop.enter 0, StableHlo.seq host2, HostLoop.enter 1, StableHlo.seq host4, StableHlo.seq host5, StableHlo.seq host6, StableHlo.seq host7, HostLoop.enter 2, StableHlo.seq host9, HostLoop.enter 3, StableHlo.seq host11, StableHlo.seq host12, StableHlo.seq host13, StableHlo.seq host14, StableHlo.seq host15] : HostProg F) := by
  show (main_part0 (F := F) c >>= fun _ => main_part1 (F := F) c) = _
  rewrite [part1_chain, part0_chain, Pipeline.chainK_bind_chain]
  chain_rfl

end Cert.ReferenceIdeal.Hand

end
-- ==== Proof.RefRun.lean ====
/- The run of the reference program: four counted loops between stretches of host operations. -/
module

public import proofs.«01_k».proof.Proof.RefOps
public import Idealize.ShloMosaic.Lib.Scf.ExitTest
public import Idealize.ShloMosaic.Lib.Scf.Counter

@[expose] public section

set_option maxRecDepth 100000

noncomputable section

namespace Cert.ReferenceIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.StableHlo Cert.ReferenceIdeal.Gen
open Idealize.ShloMosaic.Pipeline (CSeg Ticket PCfg ucRefs sub_ucRefs)

variable {F : FTy → Type} [FloatOps F]

local notation "𝕄" => MT nD τ sig Unit (Elt F) ℕ (Option PUnit) ℕ

/-! ## The contents between the stretches -/

variable (m : (ℓ : Loc nD τ sig) → Buf (Elt F) ℓ) (ρ : Dev nD → PrngReg)

/-- The buffers at the entry of the initial step of the layer below. -/
abbrev E0 (c : Dev nD) : Valuation τ sig (Elt F) := afterL [host0] (launchContents m c)
/-- The buffers at its exit. -/
abbrev X0 (c : Dev nD) : Valuation τ sig (Elt F) := after cond0 (atTrip cond0 body0 (E0 m) 1 c)
/-- The buffers at the entry of the initial step of the layer above. -/
abbrev E1 (c : Dev nD) : Valuation τ sig (Elt F) := afterL [host2] (X0 m c)
/-- The buffers at its exit. -/
abbrev X1 (c : Dev nD) : Valuation τ sig (Elt F) := after cond1 (atTrip cond1 body1 (E1 m) 1 c)
/-- The buffers at the entry of the scan of the layer below over the tokens. -/
abbrev E2 (c : Dev nD) : Valuation τ sig (Elt F) := afterL [host4, host5, host6, host7] (X1 m c)
/-- The buffers at its exit. -/
abbrev X2 (c : Dev nD) : Valuation τ sig (Elt F) := after cond2 (atTrip cond2 body2 (E2 m) 512 c)
/-- The buffers at the entry of the scan of the layer above. -/
abbrev E3 (c : Dev nD) : Valuation τ sig (Elt F) := afterL [host9] (X2 m c)
/-- The buffers at its exit. -/
abbrev X3 (c : Dev nD) : Valuation τ sig (Elt F) := after cond3 (atTrip cond3 body3 (E3 m) 512 c)
/-- The buffers at the end of the program. -/
abbrev Z (c : Dev nD) : Valuation τ sig (Elt F) := afterL [host11, host12, host13, host14, host15] (X3 m c)

/-! ## The counters -/

/-- A trip of loop 0 adds one to its counter. -/
theorem ctr0_step (V : Valuation τ sig (Elt F)) : afterL body0 (after cond0 V) (Proc.devRef .tc main_v8_5)
    = addi (V (Proc.devRef .tc main_v8_5)) (constantI S_ 32 1#32) := by
  simp only [afterL_cons, afterL_nil]; after_reads_simp; rfl
/-- A trip of loop 1 adds one to its counter. -/
theorem ctr1_step (V : Valuation τ sig (Elt F)) : afterL body1 (after cond1 V) (Proc.devRef .tc main_v14_5)
    = addi (V (Proc.devRef .tc main_v14_5)) (constantI S_ 32 1#32) := by
  simp only [afterL_cons, afterL_nil]; after_reads_simp; rfl
/-- A trip of loop 2 adds one to its counter. -/
theorem ctr2_step (V : Valuation τ sig (Elt F)) : afterL body2 (after cond2 V) (Proc.devRef .tc main_v28_5)
    = addi (V (Proc.devRef .tc main_v28_5)) (constantI S_ 32 1#32) := by
  simp only [afterL_cons, afterL_nil]; after_reads_simp; rfl
/-- A trip of loop 3 adds one to its counter. -/
theorem ctr3_step (V : Valuation τ sig (Elt F)) : afterL body3 (after cond3 V) (Proc.devRef .tc main_v34_5)
    = addi (V (Proc.devRef .tc main_v34_5)) (constantI S_ 32 1#32) := by
  simp only [afterL_cons, afterL_nil]; after_reads_simp; rfl

/-- Loop 0 starts at zero, whatever came before. -/
theorem ctr0_entry (V : Valuation τ sig (Elt F)) : afterL [host0] V (Proc.devRef .tc main_v8_5) = fun _ => (0#32 : BitVec 32) := by
  simp only [afterL_cons, afterL_nil]; after_reads_simp; rfl
/-- Loop 1 starts at zero. -/
theorem ctr1_entry (V : Valuation τ sig (Elt F)) : afterL [host2] V (Proc.devRef .tc main_v14_5) = fun _ => (0#32 : BitVec 32) := by
  simp only [afterL_cons, afterL_nil]; after_reads_simp; rfl
/-- Loop 2 starts at zero. -/
theorem ctr2_entry (V : Valuation τ sig (Elt F)) : afterL [host4, host5, host6, host7] V (Proc.devRef .tc main_v28_5) = fun _ => (0#32 : BitVec 32) := by
  simp only [afterL_cons, afterL_nil]; after_reads_simp; rfl
/-- Loop 3 starts at zero. -/
theorem ctr3_entry (V : Valuation τ sig (Elt F)) : afterL [host9] V (Proc.devRef .tc main_v34_5) = fun _ => (0#32 : BitVec 32) := by
  simp only [afterL_cons, afterL_nil]; after_reads_simp; rfl

/-- A buffer that starts at zero and that every trip moves one step on counts the trips. -/
theorem counts {condOps : List (HloOp τ sig (Elt F))} {bodyI : List (List (HloOp τ sig (Elt F)))} {W : Dev nD → Valuation τ sig (Elt F)}
    {T : Type} (rd : Valuation τ sig (Elt F) → T → BitVec 32) (c : Dev nD) (h0 : rd (W c) = fun _ => 0#32)
    (hs : ∀ V, rd (afterL bodyI (after condOps V)) = fun i => rd V i + 1#32) :
    ∀ k, rd (atTrip condOps bodyI W k c) = fun _ => Scf.iv 0#32 1#32 k
  | 0 => by rw [atTrip_zero, h0, Scf.iv_zero]
  | k + 1 => by rw [atTrip_succ, hs, counts rd c h0 hs k, Scf.iv_succ]

theorem ctr0 (c : Dev nD) (k : ℕ) : atTrip cond0 body0 (E0 m) k c (Proc.devRef .tc main_v8_5) = fun _ => Scf.iv 0#32 1#32 k :=
  counts (fun V => V (Proc.devRef .tc main_v8_5)) c (ctr0_entry _) ctr0_step k
theorem ctr1 (c : Dev nD) (k : ℕ) : atTrip cond1 body1 (E1 m) k c (Proc.devRef .tc main_v14_5) = fun _ => Scf.iv 0#32 1#32 k :=
  counts (fun V => V (Proc.devRef .tc main_v14_5)) c (ctr1_entry _) ctr1_step k
theorem ctr2 (c : Dev nD) (k : ℕ) : atTrip cond2 body2 (E2 m) k c (Proc.devRef .tc main_v28_5) = fun _ => Scf.iv 0#32 1#32 k :=
  counts (fun V => V (Proc.devRef .tc main_v28_5)) c (ctr2_entry _) ctr2_step k
theorem ctr3 (c : Dev nD) (k : ℕ) : atTrip cond3 body3 (E3 m) k c (Proc.devRef .tc main_v34_5) = fun _ => Scf.iv 0#32 1#32 k :=
  counts (fun V => V (Proc.devRef .tc main_v34_5)) c (ctr3_entry _) ctr3_step k

/-! ## The conditions -/

set_option backward.isDefEq.respectTransparency.types false in
/-- A condition of two operations whose element says whether `k < n` meets the loop kit's specification. -/
theorem condSpec_of (o₁ o₂ : HloOp τ sig (Elt F)) (h₁ : o₁.bufs ⊆ tcRefs τ sig) (h₂ : o₂.bufs ⊆ tcRefs τ sig)
    (f₁ : o₁.fresh = ∅) (f₂ : o₂.fresh = ∅)
    (rd : ((b : o₂.writes) → b.1.ty.Contents (Elt F)) →
      Prog (TpuEff nD τ sig (Elt F) (HostLoop.Sig (Pipeline.Sig Λ₀ (Fin 0) fun p => (pcfgs (F := F) p).Adm) 4) .tc) (Elt F .i1))
    (bodyI : List (List (HloOp τ sig (Elt F)))) (W : Dev nD → Valuation τ sig (Elt F)) (n : ℕ)
    (hv : ∀ k ≤ n, ∀ c, ∃ v, rd (o₂.fn fun b => o₁.result (atTrip [o₁, o₂] bodyI W k c) b.1) = .ret v ∧ (v = 1#1 ↔ k < n)) :
    CondSpec (pcfgs (F := F)) defs₀ loops ((hlo rfl o₁ fun _ => .ret PUnit.unit) >>= fun _ => hlo rfl o₂ rd) [o₁, o₂] bodyI W n := by
  intro k hk c bd
  obtain ⟨v, hrd, hv⟩ := hv k hk c
  rw [wp_bind]
  iintro ⟨Hb, Hh⟩
  iapply (wp_hlo_within (Variants.lift Variants.none) (c : Thread nD τ) bd Set.univ (sub_ucRefs _ h₁) f₁) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ h₂) f₂) $$ [Hb Hh]
  · isplitl [Hb]; · iexact Hb
    iexact Hh
  iintro ⟨Hb, Hh⟩
  rw [hrd, wp_ret]; imodintro
  isplitr
  · ipureintro; exact hv
  isplitl [Hb]; · iexact Hb
  rw [after_cons, after_cons, after_nil]; iexact Hh

/-- Loop 0 makes 1 trips. -/
theorem cond0_spec : CondSpec (pcfgs (F := F)) defs₀ loops (main_while0_cond (F := F)) cond0 body0 (E0 m) 1 :=
  condSpec_of _ _ (nullary_bufs_sub ..) (binary_bufs_sub ..) rfl rfl (HostLoop.elt main_while0c_v61) body0 (E0 m) 1 fun k hk c => by
    refine ⟨_, HostLoop.elt_apply .., ?_⟩
    show Iff (IntOp.cmpi .slt (HloOp.result _ (atTrip cond0 body0 (E0 m) k c) main_v8_5 HostLoop.idx0)
      (HloOp.result _ (atTrip cond0 body0 (E0 m) k c) main_while0c_c_18 HostLoop.idx0) = 1#1) (k < 1)
    rw [nullary_result_ne _ _ _ _ (by decide), nullary_result, ctr0]
    exact Scf.cmpi_slt_iv_ub_iff (lb := 0#32) (ub := 1#32) (st := 1#32) (by decide) (show k ≤ Scf.trips 0#32 1#32 1#32 from hk)

/-- Loop 1 makes 1 trips. -/
theorem cond1_spec : CondSpec (pcfgs (F := F)) defs₀ loops (main_while1_cond (F := F)) cond1 body1 (E1 m) 1 :=
  condSpec_of _ _ (nullary_bufs_sub ..) (binary_bufs_sub ..) rfl rfl (HostLoop.elt main_while1c_v61) body1 (E1 m) 1 fun k hk c => by
    refine ⟨_, HostLoop.elt_apply .., ?_⟩
    show Iff (IntOp.cmpi .slt (HloOp.result _ (atTrip cond1 body1 (E1 m) k c) main_v14_5 HostLoop.idx0)
      (HloOp.result _ (atTrip cond1 body1 (E1 m) k c) main_while1c_c_18 HostLoop.idx0) = 1#1) (k < 1)
    rw [nullary_result_ne _ _ _ _ (by decide), nullary_result, ctr1]
    exact Scf.cmpi_slt_iv_ub_iff (lb := 0#32) (ub := 1#32) (st := 1#32) (by decide) (show k ≤ Scf.trips 0#32 1#32 1#32 from hk)

/-- Loop 2 makes 512 trips. -/
theorem cond2_spec : CondSpec (pcfgs (F := F)) defs₀ loops (main_while2_cond (F := F)) cond2 body2 (E2 m) 512 :=
  condSpec_of _ _ (nullary_bufs_sub ..) (binary_bufs_sub ..) rfl rfl (HostLoop.elt main_while2c_v61) body2 (E2 m) 512 fun k hk c => by
    refine ⟨_, HostLoop.elt_apply .., ?_⟩
    show Iff (IntOp.cmpi .slt (HloOp.result _ (atTrip cond2 body2 (E2 m) k c) main_v28_5 HostLoop.idx0)
      (HloOp.result _ (atTrip cond2 body2 (E2 m) k c) main_while2c_c_18 HostLoop.idx0) = 1#1) (k < 512)
    rw [nullary_result_ne _ _ _ _ (by decide), nullary_result, ctr2]
    exact Scf.cmpi_slt_iv_ub_iff (lb := 0#32) (ub := 512#32) (st := 1#32) (by decide) (show k ≤ Scf.trips 0#32 512#32 1#32 from hk)

/-- Loop 3 makes 512 trips. -/
theorem cond3_spec : CondSpec (pcfgs (F := F)) defs₀ loops (main_while3_cond (F := F)) cond3 body3 (E3 m) 512 :=
  condSpec_of _ _ (nullary_bufs_sub ..) (binary_bufs_sub ..) rfl rfl (HostLoop.elt main_while3c_v61) body3 (E3 m) 512 fun k hk c => by
    refine ⟨_, HostLoop.elt_apply .., ?_⟩
    show Iff (IntOp.cmpi .slt (HloOp.result _ (atTrip cond3 body3 (E3 m) k c) main_v34_5 HostLoop.idx0)
      (HloOp.result _ (atTrip cond3 body3 (E3 m) k c) main_while3c_c_18 HostLoop.idx0) = 1#1) (k < 512)
    rw [nullary_result_ne _ _ _ _ (by decide), nullary_result, ctr3]
    exact Scf.cmpi_slt_iv_ub_iff (lb := 0#32) (ub := 512#32) (st := 1#32) (by decide) (show k ≤ Scf.trips 0#32 512#32 1#32 from hk)

/-! ## The run -/

/-- None of the stretches allocates and each touches device buffers only. -/
theorem pre_plain : Plain ([host0] : List (List (HloOp τ sig (Elt F)))) := .cons host0_sub .nil
theorem mid1_plain : Plain ([host2] : List (List (HloOp τ sig (Elt F)))) := .cons host2_sub .nil
theorem mid2_plain : Plain ([host4, host5, host6, host7] : List (List (HloOp τ sig (Elt F)))) := .cons host4_sub (.cons host5_sub (.cons host6_sub (.cons host7_sub .nil)))
theorem mid3_plain : Plain ([host9] : List (List (HloOp τ sig (Elt F)))) := .cons host9_sub .nil
theorem post_plain : Plain ([host11, host12, host13, host14, host15] : List (List (HloOp τ sig (Elt F)))) := .cons host11_sub (.cons host12_sub (.cons host13_sub (.cons host14_sub (.cons host15_sub .nil))))
theorem body0_plain : Plain (body0 : List (List (HloOp τ sig (Elt F)))) := .cons body0a_sub (.cons body0b_sub (.cons body0c_sub (.cons body0d_sub .nil)))
theorem body1_plain : Plain (body1 : List (List (HloOp τ sig (Elt F)))) := .cons body1a_sub (.cons body1b_sub (.cons body1c_sub (.cons body1d_sub .nil)))
theorem body2_plain : Plain (body2 : List (List (HloOp τ sig (Elt F)))) := .cons body2a_sub (.cons body2b_sub (.cons body2c_sub (.cons body2d_sub .nil)))
theorem body3_plain : Plain (body3 : List (List (HloOp τ sig (Elt F)))) := .cons body3a_sub (.cons body3b_sub (.cons body3c_sub (.cons body3d_sub .nil)))

/-- What a core keeps beside its buffers. -/
abbrev Keep (c : Dev nD) : sProp 𝕄 := iprop(∃ W, owes (c : Thread nD τ) (0 : CellTallies nD τ sig Unit) W)

/-- No pipeline takes part. -/
abbrev noAdm : (p : Fin 0) → (pcfgs (F := F) p).Adm := fun p => p.elim0
/-- No ticket is issued. -/
abbrev noTk : Fin 0 → Ticket (Ix := Unit) (Name := ℕ) (U := Option PUnit) (Lvl := ℕ) (nD := nD) (τ := τ) (pcfgs (F := F)) noAdm := fun j => j.elim0
/-- No semaphore is indexed. -/
abbrev noIx : GSem nD τ sig → Finset Unit := fun _ => ∅
/-- Every level is zero. -/
abbrev lev : GSem nD τ sig → Unit → ℕ := fun _ _ => 0

/-- A condition that meets its specification meets it with anything kept beside. -/
theorem keeps {cond : Prog (TpuEff nD τ sig (Elt F) (HostLoop.Sig (Pipeline.Sig Λ₀ (Fin 0) fun p => (pcfgs (F := F) p).Adm) 4) .tc) (Elt F .i1)}
    {condOps : List (HloOp τ sig (Elt F))} {bodyI : List (List (HloOp τ sig (Elt F)))} {W : Dev nD → Valuation τ sig (Elt F)} {n : ℕ}
    (h : CondSpec (pcfgs (F := F)) defs₀ loops cond condOps bodyI W n) :
    LoopCond (pcfgs (F := F)) defs₀ Variants.none loops Keep cond condOps bodyI W n := fun k hk c bd => by
  refine BIBase.Entails.trans ?_ (((Laws.sep_mono_left (Q := Keep c) (h k hk c bd)).trans (wp_frame_r _ _ _)).trans (wp_mono _ _ _ fun v => ?_))
  · iintro ⟨Hb, Hh, HR⟩
    isplitl [Hb Hh]
    · isplitl [Hb] <;> iassumption
    · iexact HR
  · iintro ⟨⟨%hv, Hb, Hh⟩, HR⟩
    isplitr; · ipureintro; exact hv
    isplitl [Hb]; · iexact Hb
    isplitl [Hh] <;> iassumption

/-- Loop `l` as a segment of the run. -/
abbrev theLoop (l : Fin 4) {cond body} (hl : loops (F := F) l = HostLoop.step l cond body) {condOps} {bodyI : List (List (HloOp τ sig (Elt F)))}
    (hp : Plain bodyI) (hb : body = Pipeline.chain (bodyI.map fun ops => (seq ops : Prog _ PUnit))) {n : ℕ} {W : Dev nD → Valuation τ sig (Elt F)}
    (h : CondSpec (pcfgs (F := F)) defs₀ loops cond condOps bodyI W n) :
    CSeg (pcfgs (F := F)) noAdm defs₀ Variants.none noIx lev loops noTk :=
  loopSeg _ _ _ _ _ _ _ _ l cond body hl condOps bodyI hp hb n W Keep (keeps h)

/-- The stretches `items` as segments of the run. -/
abbrev stretch (items : List (List (HloOp τ sig (Elt F)))) (h : Plain items) (V : Dev nD → Valuation τ sig (Elt F)) :
    List (CSeg (pcfgs (F := F)) noAdm defs₀ Variants.none noIx lev loops noTk) :=
  segsOf _ _ _ _ _ _ _ _ Keep items h V

/-- The main function's segments. -/
def segs : List (CSeg (pcfgs (F := F)) noAdm defs₀ Variants.none noIx lev loops noTk) :=
  stretch _ pre_plain (launchContents m) ++ theLoop 0 rfl body0_plain body0_chain (cond0_spec m) ::
    (stretch _ mid1_plain (X0 m) ++ theLoop 1 rfl body1_plain body1_chain (cond1_spec m) ::
      (stretch _ mid2_plain (X1 m) ++ theLoop 2 rfl body2_plain body2_chain (cond2_spec m) ::
        (stretch _ mid3_plain (X2 m) ++ theLoop 3 rfl body3_plain body3_chain (cond3_spec m) ::
          stretch _ post_plain (X3 m))))

/-- The segments run the main function. -/
theorem segs_prog (c : Dev nD) : main (F := F) c = Pipeline.chain ((segs m).map CSeg.prog) := by
  rw [main_chain]
  simp only [segs, List.map_append, List.map_cons, segsOf_prog]
  rfl

/-- The segments lead from the launch contents to the final ones. -/
theorem segs_chains : CSeg.Chains (fun c => iprop(held (c : Thread nD τ) (ucRefs τ sig) (launchContents m c) ∗ Keep c)) (segs m)
    (fun c => iprop(held (c : Thread nD τ) (ucRefs τ sig) (Z m c) ∗ Keep c)) :=
  .append (segsOf_chains _ _ _ _ _ _ _ _ Keep _ pre_plain _) ⟨fun _ => .rfl,
    .append (segsOf_chains _ _ _ _ _ _ _ _ Keep _ mid1_plain _) ⟨fun _ => .rfl,
      .append (segsOf_chains _ _ _ _ _ _ _ _ Keep _ mid2_plain _) ⟨fun _ => .rfl,
        .append (segsOf_chains _ _ _ _ _ _ _ _ Keep _ mid3_plain _) ⟨fun _ => .rfl, segsOf_chains _ _ _ _ _ _ _ _ Keep _ post_plain _⟩⟩⟩⟩

/-- From any memory with zero counters the program terminates with every buffer of a tensor value at its final contents. -/
theorem run_all : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = Z m c (Proc.devRef .tc b)) :=
  Pipeline.θ_run_regions_loop_kit (Ix := Unit) (Name := ℕ) (U := Option PUnit) (Lvl := ℕ) (J := Fin 0) (P := Fin 0) (Val := Elt F)
    pcfgs noAdm (fun k => k.1.elim0) defs₀ Variants.none noIx lev loops noTk m ρ main (segs m)
    (fun c Q => by
      rw [segs_prog m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Keep c))
    (Tₙ := fun c => iprop(held (c : Thread nD τ) (ucRefs τ sig) (Z m c)))
    (hch := segs_chains m)
    (hinit := by
      refine Pipeline.initEach noIx lev fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Z m c b)
    (hfin := fun c s' => by
      unfold held
      iintro ⟨Hh, HS⟩
      ihave Hr := (pointsTo_read_all (ucRefs τ sig) (fun b => ((c : Dev nD), b)) (fun b => Z m c b) s') $$ [Hh HS]
      · isplitl [Hh] <;> iassumption
      icases Hr with ⟨%h, HS⟩
      imodintro
      isplitr; · ipureintro; exact h
      iexact HS)
    (hQ := fun _ h c b hb => h c _ (devRef_mem_ucRefs b hb))

end Cert.ReferenceIdeal.Hand

end
-- ==== Proof.RefScan.lean ====
/- What a loop of the reference carries, and reads and writes of one plane of a stack. -/
module

public import proofs.«01_k».proof.Proof.RefOps
public import proofs.«01_k».proof.Proof.Scalar
public import Idealize.ShloMosaic.Lib.Pointwise
public import Idealize.ShloMosaic.Lib.StableHlo.ReadAt
public import Idealize.ShloMosaic.Lib.Scf.Counter

@[expose] public section

set_option maxRecDepth 16384

noncomputable section

namespace Cert.ReferenceIdeal.Hand

open Idealize.ShloMosaic Idealize.ShloMosaic.TcCoe Idealize.SL.Sem Cert.ReferenceIdeal.Gen
open Idealize.ShloMosaic.StableHlo Lstm

/-- A stack of `N` planes of 16 rows of 512. -/
abbrev Planes (N : ℕ) : Shape := ⟨3, ![N, 16, 512]⟩

/-- A triple of coordinates given by their values. -/
theorem ix3_congr {A B C a b c : ℕ} {la : a < A} {lb : b < B} {lc : c < C} {a' : Fin A} {b' : Fin B} {c' : Fin C}
    (ha : a = a'.val) (hb : b = b'.val) (hc : c = c'.val) : ix3 (⟨a, la⟩ : Fin A) (⟨b, lb⟩ : Fin B) (⟨c, lc⟩ : Fin C) = ix3 a' b' c' := by
  subst ha hb hc; rfl

section Clamp

variable {N : ℕ} (hr : S1x16x512.rank = (Planes N).rank) (start : Fin 3 → ℤ)

/-- A plane's start inside the stack is not clamped. -/
theorem clamp0 (n : Fin N) (hs : start 0 = (n.val : ℤ)) : Host.clampedStart (Planes N) S1x16x512 hr start 0 = n.val := by
  unfold Host.clampedStart
  show (min (max (start 0) 0) ((N - 1 : ℕ) : ℤ)).toNat = n.val
  omega
/-- The row start is clamped to zero: a plane has all the rows. -/
theorem clamp1 : Host.clampedStart (Planes N) S1x16x512 hr start 1 = 0 := by
  unfold Host.clampedStart
  show (min (max (start 1) 0) ((16 - 16 : ℕ) : ℤ)).toNat = 0
  omega
/-- The unit start is clamped to zero. -/
theorem clamp2 : Host.clampedStart (Planes N) S1x16x512 hr start 2 = 0 := by
  unfold Host.clampedStart
  show (min (max (start 2) 0) ((512 - 512 : ℕ) : ℤ)).toNat = 0
  omega

end Clamp

/-- The counter of a loop at trip `n`, as a number. -/
theorem iv_toInt : ∀ n : ℕ, n < 512 → (Scf.iv 0#32 1#32 n).toInt = (n : ℤ) := by
  intro n h
  have e : ∀ n : ℕ, Scf.iv 0#32 1#32 n = BitVec.ofNat 32 n := by
    intro n
    induction n with
    | zero => exact Scf.iv_zero _ _
    | succ n ih => rw [Scf.iv_succ, ih]; exact (BitVec.ofNat_add n 1).symm
  rw [e, BitVec.toInt_eq_toNat_cond, BitVec.toNat_ofNat]
  omega

/-- A write of one plane, read at an index: the new plane at the start, the old stack elsewhere. -/
theorem plane_write {N : ℕ} (hr : S1x16x512.rank = (Planes N).rank) (start : Fin 3 → ℤ) (n : Fin N) (hs : start 0 = (n.val : ℤ)) (t : Fin N) (b : Fin 16) (j : Fin 512)
    (u : S16x512.Idx → EReal) (o : EReal) :
    (if _h : (Host.clampedStart (Planes N) S1x16x512 hr start 0 ≤ t.val ∧ t.val < Host.clampedStart (Planes N) S1x16x512 hr start 0 + 1)
          ∧ Host.clampedStart (Planes N) S1x16x512 hr start 1 ≤ b.val ∧ Host.clampedStart (Planes N) S1x16x512 hr start 2 ≤ j.val
      then u (ix2 ⟨b.val - Host.clampedStart (Planes N) S1x16x512 hr start 1, (Nat.sub_le _ _).trans_lt b.isLt⟩ ⟨j.val - Host.clampedStart (Planes N) S1x16x512 hr start 2, (Nat.sub_le _ _).trans_lt j.isLt⟩)
      else o) = if t = n then u (ix2 b j) else o := by
  by_cases e : t = n
  · subst e
    rw [if_pos rfl, dif_pos (by rw [clamp0 hr start t hs, clamp1, clamp2]; omega)]
    exact congrArg u (congrArg₂ ix2 (Fin.ext (by show b.val - _ = b.val; rw [clamp1, Nat.sub_zero])) (Fin.ext (by show j.val - _ = j.val; rw [clamp2, Nat.sub_zero])))
  · rw [if_neg e, dif_neg (by rw [clamp0 hr start n hs]; rintro ⟨⟨h1, h2⟩, -⟩; exact e (Fin.ext (by omega)))]

/-! ## Reading arrays as functions -/

/-- A matrix as a function of row and column. -/
abbrev mat {A B : ℕ} (x : (⟨2, ![A, B]⟩ : Shape).Idx → EReal) (i : Fin A) (j : Fin B) : EReal := x (ix2 i j)
/-- A stack of planes as a function of its three coordinates. -/
abbrev cube {N : ℕ} (x : (Planes N).Idx → EReal) (t : Fin N) (b : Fin 16) (j : Fin 512) : EReal := x (ix3 t b j)
/-- A layer from its four arrays. -/
abbrev layerOf (wi wh : S2048x512.Idx → EReal) (bi bh : S2048.Idx → EReal) : Layer :=
  ⟨mat wi, mat wh, fun r => bi (ix1 r), fun r => bh (ix1 r)⟩

/-- What a loop carries: the inputs, the layer, the hidden state, the memory and the outputs. -/
@[ext] structure Scan (N : ℕ) where
  /-- the inputs, one plane per step -/
  x : Fin N → Fin 16 → Fin 512 → EReal
  /-- the layer -/
  L : Layer
  /-- the hidden state -/
  h : Fin 16 → Fin 512 → EReal
  /-- the memory -/
  c : Fin 16 → Fin 512 → EReal
  /-- the outputs, one plane per step -/
  ys : Fin N → Fin 16 → Fin 512 → EReal

/-- One step of the loop, at input `n`. -/
def Scan.trip {N : ℕ} (s : Scan N) (n : Fin N) : Scan N :=
  { s with
    h := fun b => (s.L.step (s.x n b) (s.h b, s.c b)).1
    c := fun b => (s.L.step (s.x n b) (s.h b, s.c b)).2
    ys := fun t b j => if t = n then (s.L.step (s.x n b) (s.h b, s.c b)).1 j else s.ys t b j }

end Cert.ReferenceIdeal.Hand

end
-- ==== Proof.RefTrip0.lean ====
/- One trip of loop 0, the initial step of the layer below. -/
module

public import proofs.«01_k».proof.Proof.RefScan

@[expose] public section

set_option maxRecDepth 16384

noncomputable section

namespace Cert.ReferenceIdeal.Hand

open Idealize.ShloMosaic Idealize.ShloMosaic.TcCoe Idealize.SL.Sem Cert.ReferenceIdeal.Gen
open Idealize.ShloMosaic.StableHlo Lstm

/-! ## Loop 0 -/

/-- What loop 0 carries. -/
def scan0 (V : Valuation τ sig (Elt Ideal)) : Scan 1 :=
  ⟨cube (V (Proc.devRef .tc main_v8_0)), layerOf (V (Proc.devRef .tc main_v8_1)) (V (Proc.devRef .tc main_v8_2)) (V (Proc.devRef .tc main_v8_3)) (V (Proc.devRef .tc main_v8_4)),
    mat (V (Proc.devRef .tc main_v8_6)), mat (V (Proc.devRef .tc main_v8_7)), cube (V (Proc.devRef .tc main_v8_8))⟩

section
variable (V : Valuation τ sig (Elt Ideal))

/-- The step's input is the plane the counter points at. -/
theorem input0 (n : Fin 1) (hc : V (Proc.devRef .tc main_v8_5) = fun _ => Scf.iv 0#32 1#32 n.val) (b : Fin 16) (j : Fin 512) :
    (after body0a V (Proc.devRef .tc main_while0b_v61) : (⟨S16x512, .f32⟩ : BufTy).Contents (Elt Ideal)) (ix2 b j)
      = (V (Proc.devRef .tc main_v8_0) : (⟨S1x16x512, .f32⟩ : BufTy).Contents (Elt Ideal)) (ix3 n b j) := by
  have hs : upto body0a V 2 (Proc.devRef .tc main_v8_5) = V (Proc.devRef .tc main_v8_5) := by
    unfold upto; simp only [List.take]; after_results
  after_reads_at
  refine congrArg (V (Proc.devRef .tc main_v8_0)) (ix3_congr ?_ ?_ ?_)
  · refine clamp0 (N := 1) _ _ n ?_
    show BitVec.toInt (upto body0a V 2 (Proc.devRef .tc main_v8_5) (Shape.Idx.first h_S_)) = _
    rw [hs, hc]
    exact iv_toInt n.val (by omega)
  · exact (congrArg (· + b.val) (clamp1 (N := 1) _ _)).trans (Nat.zero_add _)
  · exact (congrArg (· + j.val) (clamp2 (N := 1) _ _)).trans (Nat.zero_add _)

set_option maxHeartbeats 800000 in
/-- The new memory, from the buffers after the input is read. -/
theorem memory0 (b : Fin 16) (j : Fin 512) :
    mat (A := 16) (B := 512) (after body0b V (Proc.devRef .tc main_while0b_v98)) b j
      = ((layerOf (V (Proc.devRef .tc main_v8_1)) (V (Proc.devRef .tc main_v8_2)) (V (Proc.devRef .tc main_v8_3)) (V (Proc.devRef .tc main_v8_4))).step
          (mat (V (Proc.devRef .tc main_while0b_v61)) b) (mat (V (Proc.devRef .tc main_v8_6)) b, mat (V (Proc.devRef .tc main_v8_7)) b)).2 j := by
  unfold mat
  after_reads_at
  rfl

set_option maxHeartbeats 800000 in
/-- The new hidden state, from the buffers after the input is read. -/
theorem hidden0 (b : Fin 16) (j : Fin 512) :
    mat (A := 16) (B := 512) (after body0b V (Proc.devRef .tc main_while0b_v100)) b j
      = ((layerOf (V (Proc.devRef .tc main_v8_1)) (V (Proc.devRef .tc main_v8_2)) (V (Proc.devRef .tc main_v8_3)) (V (Proc.devRef .tc main_v8_4))).step
          (mat (V (Proc.devRef .tc main_while0b_v61)) b) (mat (V (Proc.devRef .tc main_v8_6)) b, mat (V (Proc.devRef .tc main_v8_7)) b)).1 j := by
  unfold mat
  after_reads_at
  rfl

set_option maxHeartbeats 800000 in
/-- The new outputs: the hidden state in the plane the counter points at. -/
theorem output0 (n : Fin 1) (hc : V (Proc.devRef .tc main_v8_5) = fun _ => Scf.iv 0#32 1#32 n.val) (t : Fin 1) (b : Fin 16) (j : Fin 512) :
    cube (N := 1) (after body0c V (Proc.devRef .tc main_while0b_v101)) t b j
      = if t = n then mat (A := 16) (B := 512) (V (Proc.devRef .tc main_while0b_v100)) b j else cube (N := 1) (V (Proc.devRef .tc main_v8_8)) t b j := by
  have hs : upto body0c V 3 (Proc.devRef .tc main_v8_5) = V (Proc.devRef .tc main_v8_5) := by
    unfold upto; simp only [List.take]; after_results
  have ht : t = 0 := Subsingleton.elim _ _
  subst ht
  unfold mat cube
  after_reads_at
  refine plane_write (N := 1) _ _ n ?_ 0 b j (V (Proc.devRef .tc main_while0b_v100)) _
  show BitVec.toInt (upto body0c V 3 (Proc.devRef .tc main_v8_5) (Shape.Idx.first h_S_)) = _
  rw [hs, hc]
  exact iv_toInt n.val (by omega)

/-- Up to the gates nothing that the loop carries changes. -/
theorem early0 (r : Ref sig .tc) (h : r ∉ cond0_W ++ body0a_W) :
    after body0a (after cond0 V) (Proc.devRef .tc r) = V (Proc.devRef .tc r) :=
  (after_of_writes_sub body0a _ body0a_writes fun e => h (List.mem_append_right _ e)).trans
    (after_of_writes_sub cond0 V cond0_writes fun e => h (List.mem_append_left _ e))
/-- A buffer that a trip does not write keeps its contents. -/
theorem kept0 (r : Ref sig .tc) (h : r ∉ cond0_W ++ body0a_W) (hb : r ∉ body0b_W) (hc : r ∉ body0c_W) (hd : r ∉ body0d_W) :
    afterL body0 (after cond0 V) (Proc.devRef .tc r) = V (Proc.devRef .tc r) :=
  (after_of_writes_sub body0d _ body0d_writes hd).trans <| (after_of_writes_sub body0c _ body0c_writes hc).trans <|
    (after_of_writes_sub body0b _ body0b_writes hb).trans (early0 V r h)

set_option maxHeartbeats 800000 in
/-- A trip of loop 0 is one step. -/
theorem trip0 (n : Fin 1) (hc : V (Proc.devRef .tc main_v8_5) = fun _ => Scf.iv 0#32 1#32 n.val) :
    scan0 (afterL body0 (after cond0 V)) = (scan0 V).trip n := by
  have cc : after cond0 V (Proc.devRef .tc main_v8_5) = fun _ => Scf.iv 0#32 1#32 n.val :=
    (after_of_writes_sub cond0 V cond0_writes (by decide +kernel)).trans hc
  have ce : ∀ r, r ∉ cond0_W → after cond0 V (Proc.devRef .tc r) = V (Proc.devRef .tc r) := fun r h => after_of_writes_sub cond0 V cond0_writes h
  have d6 : ∀ U : Valuation τ sig (Elt Ideal), after body0d U (Proc.devRef .tc main_v8_6) = U (Proc.devRef .tc main_while0b_v100) := fun U => by after_reads_simp; rfl
  have d7 : ∀ U : Valuation τ sig (Elt Ideal), after body0d U (Proc.devRef .tc main_v8_7) = U (Proc.devRef .tc main_while0b_v98) := fun U => by after_reads_simp; rfl
  have d8 : ∀ U : Valuation τ sig (Elt Ideal), after body0d U (Proc.devRef .tc main_v8_8) = U (Proc.devRef .tc main_while0b_v101) := fun U => by after_reads_simp; rfl
  have hin : ∀ b, mat (A := 16) (B := 512) (after body0a (after cond0 V) (Proc.devRef .tc main_while0b_v61)) b = cube (N := 1) (V (Proc.devRef .tc main_v8_0)) n b :=
    fun b => funext fun j => (input0 _ n cc b j).trans (by rw [ce _ (by decide +kernel)])
  have hh : ∀ b j, mat (A := 16) (B := 512) (after body0c (after body0b (after body0a (after cond0 V))) (Proc.devRef .tc main_while0b_v100)) b j
      = (((scan0 V).L).step ((scan0 V).x n b) ((scan0 V).h b, (scan0 V).c b)).1 j := fun b j => by
    rw [after_of_writes_sub body0c _ body0c_writes (by decide +kernel), hidden0, hin b]
    rw [early0 V main_v8_1 (by decide +kernel), early0 V main_v8_2 (by decide +kernel), early0 V main_v8_3 (by decide +kernel),
      early0 V main_v8_4 (by decide +kernel), early0 V main_v8_6 (by decide +kernel), early0 V main_v8_7 (by decide +kernel)]
    rfl
  have hm : ∀ b j, mat (A := 16) (B := 512) (after body0c (after body0b (after body0a (after cond0 V))) (Proc.devRef .tc main_while0b_v98)) b j
      = (((scan0 V).L).step ((scan0 V).x n b) ((scan0 V).h b, (scan0 V).c b)).2 j := fun b j => by
    rw [after_of_writes_sub body0c _ body0c_writes (by decide +kernel), memory0, hin b]
    rw [early0 V main_v8_1 (by decide +kernel), early0 V main_v8_2 (by decide +kernel), early0 V main_v8_3 (by decide +kernel),
      early0 V main_v8_4 (by decide +kernel), early0 V main_v8_6 (by decide +kernel), early0 V main_v8_7 (by decide +kernel)]
    rfl
  have keep : ∀ r, r ∉ cond0_W ++ body0a_W → r ∉ body0b_W → r ∉ body0c_W → r ∉ body0d_W →
      afterL body0 (after cond0 V) (Proc.devRef .tc r) = V (Proc.devRef .tc r) := kept0 V
  refine Scan.ext ?_ ?_ ?_ ?_ ?_
  · show cube (N := 1) (afterL body0 (after cond0 V) (Proc.devRef .tc main_v8_0)) = cube (N := 1) (V (Proc.devRef .tc main_v8_0))
    rw [keep main_v8_0 (by decide +kernel) (by decide +kernel) (by decide +kernel) (by decide +kernel)]
  · show layerOf (afterL body0 (after cond0 V) (Proc.devRef .tc main_v8_1)) (afterL body0 (after cond0 V) (Proc.devRef .tc main_v8_2))
      (afterL body0 (after cond0 V) (Proc.devRef .tc main_v8_3)) (afterL body0 (after cond0 V) (Proc.devRef .tc main_v8_4)) = (scan0 V).L
    rw [keep main_v8_1 (by decide +kernel) (by decide +kernel) (by decide +kernel) (by decide +kernel),
      keep main_v8_2 (by decide +kernel) (by decide +kernel) (by decide +kernel) (by decide +kernel),
      keep main_v8_3 (by decide +kernel) (by decide +kernel) (by decide +kernel) (by decide +kernel),
      keep main_v8_4 (by decide +kernel) (by decide +kernel) (by decide +kernel) (by decide +kernel)]
    rfl
  · funext b j
    exact (congrFun (d6 _) (ix2 b j)).trans (hh b j)
  · funext b j
    exact (congrFun (d7 _) (ix2 b j)).trans (hm b j)
  · funext t b j
    refine (congrFun (d8 _) (ix3 t b j)).trans ((output0 _ n ?_ t b j).trans ?_)
    · exact ((after_of_writes_sub body0b _ body0b_writes (by decide +kernel)).trans (early0 V _ (by decide +kernel))).trans hc
    · rw [after_of_writes_sub body0b _ body0b_writes (by decide +kernel) (r := main_v8_8), early0 V main_v8_8 (by decide +kernel)]
      have := hh b j
      rw [after_of_writes_sub body0c _ body0c_writes (by decide +kernel)] at this
      rw [this]
      rfl

end

end Cert.ReferenceIdeal.Hand

end
-- ==== Proof.RefTrip1.lean ====
/- One trip of loop 1, the initial step of the layer above. -/
module

public import proofs.«01_k».proof.Proof.RefScan

@[expose] public section

set_option maxRecDepth 16384

noncomputable section

namespace Cert.ReferenceIdeal.Hand

open Idealize.ShloMosaic Idealize.ShloMosaic.TcCoe Idealize.SL.Sem Cert.ReferenceIdeal.Gen
open Idealize.ShloMosaic.StableHlo Lstm

/-! ## Loop 1 -/

/-- What loop 1 carries. -/
def scan1 (V : Valuation τ sig (Elt Ideal)) : Scan 1 :=
  ⟨cube (V (Proc.devRef .tc main_v14_0)), layerOf (V (Proc.devRef .tc main_v14_1)) (V (Proc.devRef .tc main_v14_2)) (V (Proc.devRef .tc main_v14_3)) (V (Proc.devRef .tc main_v14_4)),
    mat (V (Proc.devRef .tc main_v14_6)), mat (V (Proc.devRef .tc main_v14_7)), cube (V (Proc.devRef .tc main_v14_8))⟩

section
variable (V : Valuation τ sig (Elt Ideal))

/-- The step's input is the plane the counter points at. -/
theorem input1 (n : Fin 1) (hc : V (Proc.devRef .tc main_v14_5) = fun _ => Scf.iv 0#32 1#32 n.val) (b : Fin 16) (j : Fin 512) :
    (after body1a V (Proc.devRef .tc main_while1b_v61) : (⟨S16x512, .f32⟩ : BufTy).Contents (Elt Ideal)) (ix2 b j)
      = (V (Proc.devRef .tc main_v14_0) : (⟨S1x16x512, .f32⟩ : BufTy).Contents (Elt Ideal)) (ix3 n b j) := by
  have hs : upto body1a V 2 (Proc.devRef .tc main_v14_5) = V (Proc.devRef .tc main_v14_5) := by
    unfold upto; simp only [List.take]; after_results
  after_reads_at
  refine congrArg (V (Proc.devRef .tc main_v14_0)) (ix3_congr ?_ ?_ ?_)
  · refine clamp0 (N := 1) _ _ n ?_
    show BitVec.toInt (upto body1a V 2 (Proc.devRef .tc main_v14_5) (Shape.Idx.first h_S_)) = _
    rw [hs, hc]
    exact iv_toInt n.val (by omega)
  · exact (congrArg (· + b.val) (clamp1 (N := 1) _ _)).trans (Nat.zero_add _)
  · exact (congrArg (· + j.val) (clamp2 (N := 1) _ _)).trans (Nat.zero_add _)

set_option maxHeartbeats 800000 in
/-- The new memory, from the buffers after the input is read. -/
theorem memory1 (b : Fin 16) (j : Fin 512) :
    mat (A := 16) (B := 512) (after body1b V (Proc.devRef .tc main_while1b_v98)) b j
      = ((layerOf (V (Proc.devRef .tc main_v14_1)) (V (Proc.devRef .tc main_v14_2)) (V (Proc.devRef .tc main_v14_3)) (V (Proc.devRef .tc main_v14_4))).step
          (mat (V (Proc.devRef .tc main_while1b_v61)) b) (mat (V (Proc.devRef .tc main_v14_6)) b, mat (V (Proc.devRef .tc main_v14_7)) b)).2 j := by
  unfold mat
  after_reads_at
  rfl

set_option maxHeartbeats 800000 in
/-- The new hidden state, from the buffers after the input is read. -/
theorem hidden1 (b : Fin 16) (j : Fin 512) :
    mat (A := 16) (B := 512) (after body1b V (Proc.devRef .tc main_while1b_v100)) b j
      = ((layerOf (V (Proc.devRef .tc main_v14_1)) (V (Proc.devRef .tc main_v14_2)) (V (Proc.devRef .tc main_v14_3)) (V (Proc.devRef .tc main_v14_4))).step
          (mat (V (Proc.devRef .tc main_while1b_v61)) b) (mat (V (Proc.devRef .tc main_v14_6)) b, mat (V (Proc.devRef .tc main_v14_7)) b)).1 j := by
  unfold mat
  after_reads_at
  rfl

set_option maxHeartbeats 800000 in
/-- The new outputs: the hidden state in the plane the counter points at. -/
theorem output1 (n : Fin 1) (hc : V (Proc.devRef .tc main_v14_5) = fun _ => Scf.iv 0#32 1#32 n.val) (t : Fin 1) (b : Fin 16) (j : Fin 512) :
    cube (N := 1) (after body1c V (Proc.devRef .tc main_while1b_v101)) t b j
      = if t = n then mat (A := 16) (B := 512) (V (Proc.devRef .tc main_while1b_v100)) b j else cube (N := 1) (V (Proc.devRef .tc main_v14_8)) t b j := by
  have hs : upto body1c V 3 (Proc.devRef .tc main_v14_5) = V (Proc.devRef .tc main_v14_5) := by
    unfold upto; simp only [List.take]; after_results
  have ht : t = 0 := Subsingleton.elim _ _
  subst ht
  unfold mat cube
  after_reads_at
  refine plane_write (N := 1) _ _ n ?_ 0 b j (V (Proc.devRef .tc main_while1b_v100)) _
  show BitVec.toInt (upto body1c V 3 (Proc.devRef .tc main_v14_5) (Shape.Idx.first h_S_)) = _
  rw [hs, hc]
  exact iv_toInt n.val (by omega)

/-- Up to the gates nothing that the loop carries changes. -/
theorem early1 (r : Ref sig .tc) (h : r ∉ cond1_W ++ body1a_W) :
    after body1a (after cond1 V) (Proc.devRef .tc r) = V (Proc.devRef .tc r) :=
  (after_of_writes_sub body1a _ body1a_writes fun e => h (List.mem_append_right _ e)).trans
    (after_of_writes_sub cond1 V cond1_writes fun e => h (List.mem_append_left _ e))
/-- A buffer that a trip does not write keeps its contents. -/
theorem kept1 (r : Ref sig .tc) (h : r ∉ cond1_W ++ body1a_W) (hb : r ∉ body1b_W) (hc : r ∉ body1c_W) (hd : r ∉ body1d_W) :
    afterL body1 (after cond1 V) (Proc.devRef .tc r) = V (Proc.devRef .tc r) :=
  (after_of_writes_sub body1d _ body1d_writes hd).trans <| (after_of_writes_sub body1c _ body1c_writes hc).trans <|
    (after_of_writes_sub body1b _ body1b_writes hb).trans (early1 V r h)

set_option maxHeartbeats 800000 in
/-- A trip of loop 1 is one step. -/
theorem trip1 (n : Fin 1) (hc : V (Proc.devRef .tc main_v14_5) = fun _ => Scf.iv 0#32 1#32 n.val) :
    scan1 (afterL body1 (after cond1 V)) = (scan1 V).trip n := by
  have cc : after cond1 V (Proc.devRef .tc main_v14_5) = fun _ => Scf.iv 0#32 1#32 n.val :=
    (after_of_writes_sub cond1 V cond1_writes (by decide +kernel)).trans hc
  have ce : ∀ r, r ∉ cond1_W → after cond1 V (Proc.devRef .tc r) = V (Proc.devRef .tc r) := fun r h => after_of_writes_sub cond1 V cond1_writes h
  have d6 : ∀ U : Valuation τ sig (Elt Ideal), after body1d U (Proc.devRef .tc main_v14_6) = U (Proc.devRef .tc main_while1b_v100) := fun U => by after_reads_simp; rfl
  have d7 : ∀ U : Valuation τ sig (Elt Ideal), after body1d U (Proc.devRef .tc main_v14_7) = U (Proc.devRef .tc main_while1b_v98) := fun U => by after_reads_simp; rfl
  have d8 : ∀ U : Valuation τ sig (Elt Ideal), after body1d U (Proc.devRef .tc main_v14_8) = U (Proc.devRef .tc main_while1b_v101) := fun U => by after_reads_simp; rfl
  have hin : ∀ b, mat (A := 16) (B := 512) (after body1a (after cond1 V) (Proc.devRef .tc main_while1b_v61)) b = cube (N := 1) (V (Proc.devRef .tc main_v14_0)) n b :=
    fun b => funext fun j => (input1 _ n cc b j).trans (by rw [ce _ (by decide +kernel)])
  have hh : ∀ b j, mat (A := 16) (B := 512) (after body1c (after body1b (after body1a (after cond1 V))) (Proc.devRef .tc main_while1b_v100)) b j
      = (((scan1 V).L).step ((scan1 V).x n b) ((scan1 V).h b, (scan1 V).c b)).1 j := fun b j => by
    rw [after_of_writes_sub body1c _ body1c_writes (by decide +kernel), hidden1, hin b]
    rw [early1 V main_v14_1 (by decide +kernel), early1 V main_v14_2 (by decide +kernel), early1 V main_v14_3 (by decide +kernel),
      early1 V main_v14_4 (by decide +kernel), early1 V main_v14_6 (by decide +kernel), early1 V main_v14_7 (by decide +kernel)]
    rfl
  have hm : ∀ b j, mat (A := 16) (B := 512) (after body1c (after body1b (after body1a (after cond1 V))) (Proc.devRef .tc main_while1b_v98)) b j
      = (((scan1 V).L).step ((scan1 V).x n b) ((scan1 V).h b, (scan1 V).c b)).2 j := fun b j => by
    rw [after_of_writes_sub body1c _ body1c_writes (by decide +kernel), memory1, hin b]
    rw [early1 V main_v14_1 (by decide +kernel), early1 V main_v14_2 (by decide +kernel), early1 V main_v14_3 (by decide +kernel),
      early1 V main_v14_4 (by decide +kernel), early1 V main_v14_6 (by decide +kernel), early1 V main_v14_7 (by decide +kernel)]
    rfl
  have keep : ∀ r, r ∉ cond1_W ++ body1a_W → r ∉ body1b_W → r ∉ body1c_W → r ∉ body1d_W →
      afterL body1 (after cond1 V) (Proc.devRef .tc r) = V (Proc.devRef .tc r) := kept1 V
  refine Scan.ext ?_ ?_ ?_ ?_ ?_
  · show cube (N := 1) (afterL body1 (after cond1 V) (Proc.devRef .tc main_v14_0)) = cube (N := 1) (V (Proc.devRef .tc main_v14_0))
    rw [keep main_v14_0 (by decide +kernel) (by decide +kernel) (by decide +kernel) (by decide +kernel)]
  · show layerOf (afterL body1 (after cond1 V) (Proc.devRef .tc main_v14_1)) (afterL body1 (after cond1 V) (Proc.devRef .tc main_v14_2))
      (afterL body1 (after cond1 V) (Proc.devRef .tc main_v14_3)) (afterL body1 (after cond1 V) (Proc.devRef .tc main_v14_4)) = (scan1 V).L
    rw [keep main_v14_1 (by decide +kernel) (by decide +kernel) (by decide +kernel) (by decide +kernel),
      keep main_v14_2 (by decide +kernel) (by decide +kernel) (by decide +kernel) (by decide +kernel),
      keep main_v14_3 (by decide +kernel) (by decide +kernel) (by decide +kernel) (by decide +kernel),
      keep main_v14_4 (by decide +kernel) (by decide +kernel) (by decide +kernel) (by decide +kernel)]
    rfl
  · funext b j
    exact (congrFun (d6 _) (ix2 b j)).trans (hh b j)
  · funext b j
    exact (congrFun (d7 _) (ix2 b j)).trans (hm b j)
  · funext t b j
    refine (congrFun (d8 _) (ix3 t b j)).trans ((output1 _ n ?_ t b j).trans ?_)
    · exact ((after_of_writes_sub body1b _ body1b_writes (by decide +kernel)).trans (early1 V _ (by decide +kernel))).trans hc
    · rw [after_of_writes_sub body1b _ body1b_writes (by decide +kernel) (r := main_v14_8), early1 V main_v14_8 (by decide +kernel)]
      have := hh b j
      rw [after_of_writes_sub body1c _ body1c_writes (by decide +kernel)] at this
      rw [this]
      rfl

end

end Cert.ReferenceIdeal.Hand

end
-- ==== Proof.RefTrip2.lean ====
/- One trip of loop 2, the scan of the layer below. -/
module

public import proofs.«01_k».proof.Proof.RefScan

@[expose] public section

set_option maxRecDepth 16384

noncomputable section

namespace Cert.ReferenceIdeal.Hand

open Idealize.ShloMosaic Idealize.ShloMosaic.TcCoe Idealize.SL.Sem Cert.ReferenceIdeal.Gen
open Idealize.ShloMosaic.StableHlo Lstm

/-! ## Loop 2 -/

/-- What loop 2 carries. -/
def scan2 (V : Valuation τ sig (Elt Ideal)) : Scan 512 :=
  ⟨cube (V (Proc.devRef .tc main_v28_0)), layerOf (V (Proc.devRef .tc main_v28_1)) (V (Proc.devRef .tc main_v28_2)) (V (Proc.devRef .tc main_v28_3)) (V (Proc.devRef .tc main_v28_4)),
    mat (V (Proc.devRef .tc main_v28_6)), mat (V (Proc.devRef .tc main_v28_7)), cube (V (Proc.devRef .tc main_v28_8))⟩

section
variable (V : Valuation τ sig (Elt Ideal))

/-- The step's input is the plane the counter points at. -/
theorem input2 (n : Fin 512) (hc : V (Proc.devRef .tc main_v28_5) = fun _ => Scf.iv 0#32 1#32 n.val) (b : Fin 16) (j : Fin 512) :
    (after body2a V (Proc.devRef .tc main_while2b_v61) : (⟨S16x512, .f32⟩ : BufTy).Contents (Elt Ideal)) (ix2 b j)
      = (V (Proc.devRef .tc main_v28_0) : (⟨S512x16x512, .f32⟩ : BufTy).Contents (Elt Ideal)) (ix3 n b j) := by
  have hs : upto body2a V 2 (Proc.devRef .tc main_v28_5) = V (Proc.devRef .tc main_v28_5) := by
    unfold upto; simp only [List.take]; after_results
  after_reads_at
  refine congrArg (V (Proc.devRef .tc main_v28_0)) (ix3_congr ?_ ?_ ?_)
  · refine clamp0 (N := 512) _ _ n ?_
    show BitVec.toInt (upto body2a V 2 (Proc.devRef .tc main_v28_5) (Shape.Idx.first h_S_)) = _
    rw [hs, hc]
    exact iv_toInt n.val (by omega)
  · exact (congrArg (· + b.val) (clamp1 (N := 512) _ _)).trans (Nat.zero_add _)
  · exact (congrArg (· + j.val) (clamp2 (N := 512) _ _)).trans (Nat.zero_add _)

set_option maxHeartbeats 800000 in
/-- The new memory, from the buffers after the input is read. -/
theorem memory2 (b : Fin 16) (j : Fin 512) :
    mat (A := 16) (B := 512) (after body2b V (Proc.devRef .tc main_while2b_v98)) b j
      = ((layerOf (V (Proc.devRef .tc main_v28_1)) (V (Proc.devRef .tc main_v28_2)) (V (Proc.devRef .tc main_v28_3)) (V (Proc.devRef .tc main_v28_4))).step
          (mat (V (Proc.devRef .tc main_while2b_v61)) b) (mat (V (Proc.devRef .tc main_v28_6)) b, mat (V (Proc.devRef .tc main_v28_7)) b)).2 j := by
  unfold mat
  after_reads_at
  rfl

set_option maxHeartbeats 800000 in
/-- The new hidden state, from the buffers after the input is read. -/
theorem hidden2 (b : Fin 16) (j : Fin 512) :
    mat (A := 16) (B := 512) (after body2b V (Proc.devRef .tc main_while2b_v100)) b j
      = ((layerOf (V (Proc.devRef .tc main_v28_1)) (V (Proc.devRef .tc main_v28_2)) (V (Proc.devRef .tc main_v28_3)) (V (Proc.devRef .tc main_v28_4))).step
          (mat (V (Proc.devRef .tc main_while2b_v61)) b) (mat (V (Proc.devRef .tc main_v28_6)) b, mat (V (Proc.devRef .tc main_v28_7)) b)).1 j := by
  unfold mat
  after_reads_at
  rfl

set_option maxHeartbeats 800000 in
/-- The new outputs: the hidden state in the plane the counter points at. -/
theorem output2 (n : Fin 512) (hc : V (Proc.devRef .tc main_v28_5) = fun _ => Scf.iv 0#32 1#32 n.val) (t : Fin 512) (b : Fin 16) (j : Fin 512) :
    cube (N := 512) (after body2c V (Proc.devRef .tc main_while2b_v101)) t b j
      = if t = n then mat (A := 16) (B := 512) (V (Proc.devRef .tc main_while2b_v100)) b j else cube (N := 512) (V (Proc.devRef .tc main_v28_8)) t b j := by
  have hs : upto body2c V 3 (Proc.devRef .tc main_v28_5) = V (Proc.devRef .tc main_v28_5) := by
    unfold upto; simp only [List.take]; after_results
  unfold mat cube
  after_reads_at
  refine plane_write (N := 512) _ _ n ?_ t b j (V (Proc.devRef .tc main_while2b_v100)) _
  show BitVec.toInt (upto body2c V 3 (Proc.devRef .tc main_v28_5) (Shape.Idx.first h_S_)) = _
  rw [hs, hc]
  exact iv_toInt n.val (by omega)

/-- Up to the gates nothing that the loop carries changes. -/
theorem early2 (r : Ref sig .tc) (h : r ∉ cond2_W ++ body2a_W) :
    after body2a (after cond2 V) (Proc.devRef .tc r) = V (Proc.devRef .tc r) :=
  (after_of_writes_sub body2a _ body2a_writes fun e => h (List.mem_append_right _ e)).trans
    (after_of_writes_sub cond2 V cond2_writes fun e => h (List.mem_append_left _ e))
/-- A buffer that a trip does not write keeps its contents. -/
theorem kept2 (r : Ref sig .tc) (h : r ∉ cond2_W ++ body2a_W) (hb : r ∉ body2b_W) (hc : r ∉ body2c_W) (hd : r ∉ body2d_W) :
    afterL body2 (after cond2 V) (Proc.devRef .tc r) = V (Proc.devRef .tc r) :=
  (after_of_writes_sub body2d _ body2d_writes hd).trans <| (after_of_writes_sub body2c _ body2c_writes hc).trans <|
    (after_of_writes_sub body2b _ body2b_writes hb).trans (early2 V r h)

set_option maxHeartbeats 800000 in
/-- A trip of loop 2 is one step. -/
theorem trip2 (n : Fin 512) (hc : V (Proc.devRef .tc main_v28_5) = fun _ => Scf.iv 0#32 1#32 n.val) :
    scan2 (afterL body2 (after cond2 V)) = (scan2 V).trip n := by
  have cc : after cond2 V (Proc.devRef .tc main_v28_5) = fun _ => Scf.iv 0#32 1#32 n.val :=
    (after_of_writes_sub cond2 V cond2_writes (by decide +kernel)).trans hc
  have ce : ∀ r, r ∉ cond2_W → after cond2 V (Proc.devRef .tc r) = V (Proc.devRef .tc r) := fun r h => after_of_writes_sub cond2 V cond2_writes h
  have d6 : ∀ U : Valuation τ sig (Elt Ideal), after body2d U (Proc.devRef .tc main_v28_6) = U (Proc.devRef .tc main_while2b_v100) := fun U => by after_reads_simp; rfl
  have d7 : ∀ U : Valuation τ sig (Elt Ideal), after body2d U (Proc.devRef .tc main_v28_7) = U (Proc.devRef .tc main_while2b_v98) := fun U => by after_reads_simp; rfl
  have d8 : ∀ U : Valuation τ sig (Elt Ideal), after body2d U (Proc.devRef .tc main_v28_8) = U (Proc.devRef .tc main_while2b_v101) := fun U => by after_reads_simp; rfl
  have hin : ∀ b, mat (A := 16) (B := 512) (after body2a (after cond2 V) (Proc.devRef .tc main_while2b_v61)) b = cube (N := 512) (V (Proc.devRef .tc main_v28_0)) n b :=
    fun b => funext fun j => (input2 _ n cc b j).trans (by rw [ce _ (by decide +kernel)])
  have hh : ∀ b j, mat (A := 16) (B := 512) (after body2c (after body2b (after body2a (after cond2 V))) (Proc.devRef .tc main_while2b_v100)) b j
      = (((scan2 V).L).step ((scan2 V).x n b) ((scan2 V).h b, (scan2 V).c b)).1 j := fun b j => by
    rw [after_of_writes_sub body2c _ body2c_writes (by decide +kernel), hidden2, hin b]
    rw [early2 V main_v28_1 (by decide +kernel), early2 V main_v28_2 (by decide +kernel), early2 V main_v28_3 (by decide +kernel),
      early2 V main_v28_4 (by decide +kernel), early2 V main_v28_6 (by decide +kernel), early2 V main_v28_7 (by decide +kernel)]
    rfl
  have hm : ∀ b j, mat (A := 16) (B := 512) (after body2c (after body2b (after body2a (after cond2 V))) (Proc.devRef .tc main_while2b_v98)) b j
      = (((scan2 V).L).step ((scan2 V).x n b) ((scan2 V).h b, (scan2 V).c b)).2 j := fun b j => by
    rw [after_of_writes_sub body2c _ body2c_writes (by decide +kernel), memory2, hin b]
    rw [early2 V main_v28_1 (by decide +kernel), early2 V main_v28_2 (by decide +kernel), early2 V main_v28_3 (by decide +kernel),
      early2 V main_v28_4 (by decide +kernel), early2 V main_v28_6 (by decide +kernel), early2 V main_v28_7 (by decide +kernel)]
    rfl
  have keep : ∀ r, r ∉ cond2_W ++ body2a_W → r ∉ body2b_W → r ∉ body2c_W → r ∉ body2d_W →
      afterL body2 (after cond2 V) (Proc.devRef .tc r) = V (Proc.devRef .tc r) := kept2 V
  refine Scan.ext ?_ ?_ ?_ ?_ ?_
  · show cube (N := 512) (afterL body2 (after cond2 V) (Proc.devRef .tc main_v28_0)) = cube (N := 512) (V (Proc.devRef .tc main_v28_0))
    rw [keep main_v28_0 (by decide +kernel) (by decide +kernel) (by decide +kernel) (by decide +kernel)]
  · show layerOf (afterL body2 (after cond2 V) (Proc.devRef .tc main_v28_1)) (afterL body2 (after cond2 V) (Proc.devRef .tc main_v28_2))
      (afterL body2 (after cond2 V) (Proc.devRef .tc main_v28_3)) (afterL body2 (after cond2 V) (Proc.devRef .tc main_v28_4)) = (scan2 V).L
    rw [keep main_v28_1 (by decide +kernel) (by decide +kernel) (by decide +kernel) (by decide +kernel),
      keep main_v28_2 (by decide +kernel) (by decide +kernel) (by decide +kernel) (by decide +kernel),
      keep main_v28_3 (by decide +kernel) (by decide +kernel) (by decide +kernel) (by decide +kernel),
      keep main_v28_4 (by decide +kernel) (by decide +kernel) (by decide +kernel) (by decide +kernel)]
    rfl
  · funext b j
    exact (congrFun (d6 _) (ix2 b j)).trans (hh b j)
  · funext b j
    exact (congrFun (d7 _) (ix2 b j)).trans (hm b j)
  · funext t b j
    refine (congrFun (d8 _) (ix3 t b j)).trans ((output2 _ n ?_ t b j).trans ?_)
    · exact ((after_of_writes_sub body2b _ body2b_writes (by decide +kernel)).trans (early2 V _ (by decide +kernel))).trans hc
    · rw [after_of_writes_sub body2b _ body2b_writes (by decide +kernel) (r := main_v28_8), early2 V main_v28_8 (by decide +kernel)]
      have := hh b j
      rw [after_of_writes_sub body2c _ body2c_writes (by decide +kernel)] at this
      rw [this]
      rfl

end

end Cert.ReferenceIdeal.Hand

end
-- ==== Proof.RefTrip3.lean ====
/- One trip of loop 3, the scan of the layer above. -/
module

public import proofs.«01_k».proof.Proof.RefScan

@[expose] public section

set_option maxRecDepth 16384

noncomputable section

namespace Cert.ReferenceIdeal.Hand

open Idealize.ShloMosaic Idealize.ShloMosaic.TcCoe Idealize.SL.Sem Cert.ReferenceIdeal.Gen
open Idealize.ShloMosaic.StableHlo Lstm

/-! ## Loop 3 -/

/-- What loop 3 carries. -/
def scan3 (V : Valuation τ sig (Elt Ideal)) : Scan 512 :=
  ⟨cube (V (Proc.devRef .tc main_v34_0)), layerOf (V (Proc.devRef .tc main_v34_1)) (V (Proc.devRef .tc main_v34_2)) (V (Proc.devRef .tc main_v34_3)) (V (Proc.devRef .tc main_v34_4)),
    mat (V (Proc.devRef .tc main_v34_6)), mat (V (Proc.devRef .tc main_v34_7)), cube (V (Proc.devRef .tc main_v34_8))⟩

section
variable (V : Valuation τ sig (Elt Ideal))

/-- The step's input is the plane the counter points at. -/
theorem input3 (n : Fin 512) (hc : V (Proc.devRef .tc main_v34_5) = fun _ => Scf.iv 0#32 1#32 n.val) (b : Fin 16) (j : Fin 512) :
    (after body3a V (Proc.devRef .tc main_while3b_v61) : (⟨S16x512, .f32⟩ : BufTy).Contents (Elt Ideal)) (ix2 b j)
      = (V (Proc.devRef .tc main_v34_0) : (⟨S512x16x512, .f32⟩ : BufTy).Contents (Elt Ideal)) (ix3 n b j) := by
  have hs : upto body3a V 2 (Proc.devRef .tc main_v34_5) = V (Proc.devRef .tc main_v34_5) := by
    unfold upto; simp only [List.take]; after_results
  after_reads_at
  refine congrArg (V (Proc.devRef .tc main_v34_0)) (ix3_congr ?_ ?_ ?_)
  · refine clamp0 (N := 512) _ _ n ?_
    show BitVec.toInt (upto body3a V 2 (Proc.devRef .tc main_v34_5) (Shape.Idx.first h_S_)) = _
    rw [hs, hc]
    exact iv_toInt n.val (by omega)
  · exact (congrArg (· + b.val) (clamp1 (N := 512) _ _)).trans (Nat.zero_add _)
  · exact (congrArg (· + j.val) (clamp2 (N := 512) _ _)).trans (Nat.zero_add _)

set_option maxHeartbeats 800000 in
/-- The new memory, from the buffers after the input is read. -/
theorem memory3 (b : Fin 16) (j : Fin 512) :
    mat (A := 16) (B := 512) (after body3b V (Proc.devRef .tc main_while3b_v98)) b j
      = ((layerOf (V (Proc.devRef .tc main_v34_1)) (V (Proc.devRef .tc main_v34_2)) (V (Proc.devRef .tc main_v34_3)) (V (Proc.devRef .tc main_v34_4))).step
          (mat (V (Proc.devRef .tc main_while3b_v61)) b) (mat (V (Proc.devRef .tc main_v34_6)) b, mat (V (Proc.devRef .tc main_v34_7)) b)).2 j := by
  unfold mat
  after_reads_at
  rfl

set_option maxHeartbeats 800000 in
/-- The new hidden state, from the buffers after the input is read. -/
theorem hidden3 (b : Fin 16) (j : Fin 512) :
    mat (A := 16) (B := 512) (after body3b V (Proc.devRef .tc main_while3b_v100)) b j
      = ((layerOf (V (Proc.devRef .tc main_v34_1)) (V (Proc.devRef .tc main_v34_2)) (V (Proc.devRef .tc main_v34_3)) (V (Proc.devRef .tc main_v34_4))).step
          (mat (V (Proc.devRef .tc main_while3b_v61)) b) (mat (V (Proc.devRef .tc main_v34_6)) b, mat (V (Proc.devRef .tc main_v34_7)) b)).1 j := by
  unfold mat
  after_reads_at
  rfl

set_option maxHeartbeats 800000 in
/-- The new outputs: the hidden state in the plane the counter points at. -/
theorem output3 (n : Fin 512) (hc : V (Proc.devRef .tc main_v34_5) = fun _ => Scf.iv 0#32 1#32 n.val) (t : Fin 512) (b : Fin 16) (j : Fin 512) :
    cube (N := 512) (after body3c V (Proc.devRef .tc main_while3b_v101)) t b j
      = if t = n then mat (A := 16) (B := 512) (V (Proc.devRef .tc main_while3b_v100)) b j else cube (N := 512) (V (Proc.devRef .tc main_v34_8)) t b j := by
  have hs : upto body3c V 3 (Proc.devRef .tc main_v34_5) = V (Proc.devRef .tc main_v34_5) := by
    unfold upto; simp only [List.take]; after_results
  unfold mat cube
  after_reads_at
  refine plane_write (N := 512) _ _ n ?_ t b j (V (Proc.devRef .tc main_while3b_v100)) _
  show BitVec.toInt (upto body3c V 3 (Proc.devRef .tc main_v34_5) (Shape.Idx.first h_S_)) = _
  rw [hs, hc]
  exact iv_toInt n.val (by omega)

/-- Up to the gates nothing that the loop carries changes. -/
theorem early3 (r : Ref sig .tc) (h : r ∉ cond3_W ++ body3a_W) :
    after body3a (after cond3 V) (Proc.devRef .tc r) = V (Proc.devRef .tc r) :=
  (after_of_writes_sub body3a _ body3a_writes fun e => h (List.mem_append_right _ e)).trans
    (after_of_writes_sub cond3 V cond3_writes fun e => h (List.mem_append_left _ e))
/-- A buffer that a trip does not write keeps its contents. -/
theorem kept3 (r : Ref sig .tc) (h : r ∉ cond3_W ++ body3a_W) (hb : r ∉ body3b_W) (hc : r ∉ body3c_W) (hd : r ∉ body3d_W) :
    afterL body3 (after cond3 V) (Proc.devRef .tc r) = V (Proc.devRef .tc r) :=
  (after_of_writes_sub body3d _ body3d_writes hd).trans <| (after_of_writes_sub body3c _ body3c_writes hc).trans <|
    (after_of_writes_sub body3b _ body3b_writes hb).trans (early3 V r h)

set_option maxHeartbeats 800000 in
/-- A trip of loop 3 is one step. -/
theorem trip3 (n : Fin 512) (hc : V (Proc.devRef .tc main_v34_5) = fun _ => Scf.iv 0#32 1#32 n.val) :
    scan3 (afterL body3 (after cond3 V)) = (scan3 V).trip n := by
  have cc : after cond3 V (Proc.devRef .tc main_v34_5) = fun _ => Scf.iv 0#32 1#32 n.val :=
    (after_of_writes_sub cond3 V cond3_writes (by decide +kernel)).trans hc
  have ce : ∀ r, r ∉ cond3_W → after cond3 V (Proc.devRef .tc r) = V (Proc.devRef .tc r) := fun r h => after_of_writes_sub cond3 V cond3_writes h
  have d6 : ∀ U : Valuation τ sig (Elt Ideal), after body3d U (Proc.devRef .tc main_v34_6) = U (Proc.devRef .tc main_while3b_v100) := fun U => by after_reads_simp; rfl
  have d7 : ∀ U : Valuation τ sig (Elt Ideal), after body3d U (Proc.devRef .tc main_v34_7) = U (Proc.devRef .tc main_while3b_v98) := fun U => by after_reads_simp; rfl
  have d8 : ∀ U : Valuation τ sig (Elt Ideal), after body3d U (Proc.devRef .tc main_v34_8) = U (Proc.devRef .tc main_while3b_v101) := fun U => by after_reads_simp; rfl
  have hin : ∀ b, mat (A := 16) (B := 512) (after body3a (after cond3 V) (Proc.devRef .tc main_while3b_v61)) b = cube (N := 512) (V (Proc.devRef .tc main_v34_0)) n b :=
    fun b => funext fun j => (input3 _ n cc b j).trans (by rw [ce _ (by decide +kernel)])
  have hh : ∀ b j, mat (A := 16) (B := 512) (after body3c (after body3b (after body3a (after cond3 V))) (Proc.devRef .tc main_while3b_v100)) b j
      = (((scan3 V).L).step ((scan3 V).x n b) ((scan3 V).h b, (scan3 V).c b)).1 j := fun b j => by
    rw [after_of_writes_sub body3c _ body3c_writes (by decide +kernel), hidden3, hin b]
    rw [early3 V main_v34_1 (by decide +kernel), early3 V main_v34_2 (by decide +kernel), early3 V main_v34_3 (by decide +kernel),
      early3 V main_v34_4 (by decide +kernel), early3 V main_v34_6 (by decide +kernel), early3 V main_v34_7 (by decide +kernel)]
    rfl
  have hm : ∀ b j, mat (A := 16) (B := 512) (after body3c (after body3b (after body3a (after cond3 V))) (Proc.devRef .tc main_while3b_v98)) b j
      = (((scan3 V).L).step ((scan3 V).x n b) ((scan3 V).h b, (scan3 V).c b)).2 j := fun b j => by
    rw [after_of_writes_sub body3c _ body3c_writes (by decide +kernel), memory3, hin b]
    rw [early3 V main_v34_1 (by decide +kernel), early3 V main_v34_2 (by decide +kernel), early3 V main_v34_3 (by decide +kernel),
      early3 V main_v34_4 (by decide +kernel), early3 V main_v34_6 (by decide +kernel), early3 V main_v34_7 (by decide +kernel)]
    rfl
  have keep : ∀ r, r ∉ cond3_W ++ body3a_W → r ∉ body3b_W → r ∉ body3c_W → r ∉ body3d_W →
      afterL body3 (after cond3 V) (Proc.devRef .tc r) = V (Proc.devRef .tc r) := kept3 V
  refine Scan.ext ?_ ?_ ?_ ?_ ?_
  · show cube (N := 512) (afterL body3 (after cond3 V) (Proc.devRef .tc main_v34_0)) = cube (N := 512) (V (Proc.devRef .tc main_v34_0))
    rw [keep main_v34_0 (by decide +kernel) (by decide +kernel) (by decide +kernel) (by decide +kernel)]
  · show layerOf (afterL body3 (after cond3 V) (Proc.devRef .tc main_v34_1)) (afterL body3 (after cond3 V) (Proc.devRef .tc main_v34_2))
      (afterL body3 (after cond3 V) (Proc.devRef .tc main_v34_3)) (afterL body3 (after cond3 V) (Proc.devRef .tc main_v34_4)) = (scan3 V).L
    rw [keep main_v34_1 (by decide +kernel) (by decide +kernel) (by decide +kernel) (by decide +kernel),
      keep main_v34_2 (by decide +kernel) (by decide +kernel) (by decide +kernel) (by decide +kernel),
      keep main_v34_3 (by decide +kernel) (by decide +kernel) (by decide +kernel) (by decide +kernel),
      keep main_v34_4 (by decide +kernel) (by decide +kernel) (by decide +kernel) (by decide +kernel)]
    rfl
  · funext b j
    exact (congrFun (d6 _) (ix2 b j)).trans (hh b j)
  · funext b j
    exact (congrFun (d7 _) (ix2 b j)).trans (hm b j)
  · funext t b j
    refine (congrFun (d8 _) (ix3 t b j)).trans ((output3 _ n ?_ t b j).trans ?_)
    · exact ((after_of_writes_sub body3b _ body3b_writes (by decide +kernel)).trans (early3 V _ (by decide +kernel))).trans hc
    · rw [after_of_writes_sub body3b _ body3b_writes (by decide +kernel) (r := main_v34_8), early3 V main_v34_8 (by decide +kernel)]
      have := hh b j
      rw [after_of_writes_sub body3c _ body3c_writes (by decide +kernel)] at this
      rw [this]
      rfl

end

end Cert.ReferenceIdeal.Hand

end
-- ==== Proof.RefLoops.lean ====
/- What the reference's loops hold after any number of trips. -/
module

public import proofs.«01_k».proof.Proof.RefRun
public import proofs.«01_k».proof.Proof.RefTrip0
public import proofs.«01_k».proof.Proof.RefTrip1
public import proofs.«01_k».proof.Proof.RefTrip2
public import proofs.«01_k».proof.Proof.RefTrip3

@[expose] public section

set_option maxRecDepth 16384

noncomputable section

namespace Cert.ReferenceIdeal.Hand

open Idealize.ShloMosaic Idealize.ShloMosaic.TcCoe Idealize.SL.Sem Cert.ReferenceIdeal.Gen
open Idealize.ShloMosaic.StableHlo Lstm

/-- A row's hidden state and memory after `n` steps from where the loop starts. -/
def Scan.state {N : ℕ} (s : Scan N) (b : Fin 16) : ℕ → (Fin 512 → EReal) × (Fin 512 → EReal)
  | 0 => (s.h b, s.c b)
  | n + 1 => if h : n < N then s.L.step (s.x ⟨n, h⟩ b) (s.state b n) else s.state b n

/-- The loop after `n` steps. -/
def Scan.stepped {N : ℕ} (s : Scan N) (n : ℕ) : Scan N :=
  { s with
    h := fun b => (s.state b n).1
    c := fun b => (s.state b n).2
    ys := fun t b j => if t.val < n then (s.state b (t.val + 1)).1 j else s.ys t b j }

/-- No step changes nothing. -/
theorem Scan.stepped_zero {N : ℕ} (s : Scan N) : s.stepped 0 = s := by
  refine Scan.ext rfl rfl rfl rfl ?_
  funext t b j
  show (if t.val < 0 then (s.state b (t.val + 1)).1 j else s.ys t b j) = s.ys t b j
  exact if_neg (Nat.not_lt_zero _)

/-- One step more. -/
theorem Scan.stepped_succ {N : ℕ} (s : Scan N) (n : Fin N) : (s.stepped n.val).trip n = s.stepped (n.val + 1) := by
  have e : ∀ b, s.state b (n.val + 1) = s.L.step (s.x n b) (s.state b n.val) := fun b => dif_pos n.isLt
  refine Scan.ext rfl rfl ?_ ?_ ?_
  · funext b; exact (congrArg Prod.fst (e b)).symm
  · funext b; exact (congrArg Prod.snd (e b)).symm
  · funext t b j
    show (if t = n then (s.L.step (s.x n b) (s.state b n.val)).1 j else if t.val < n.val then (s.state b (t.val + 1)).1 j else s.ys t b j)
      = if t.val < n.val + 1 then (s.state b (t.val + 1)).1 j else s.ys t b j
    by_cases ht : t = n
    · subst ht
      rw [if_pos rfl, if_pos (Nat.lt_succ_self _), e]
    · have : t.val ≠ n.val := fun h => ht (Fin.ext h)
      rw [if_neg ht]
      by_cases hl : t.val < n.val
      · rw [if_pos hl, if_pos (Nat.lt_succ_of_lt hl)]
      · rw [if_neg hl, if_neg (by omega)]

/-- A loop whose trips are steps has stepped as often as it has tripped. -/
theorem loop_steps {N : ℕ} {condOps : List (HloOp τ sig (Elt Ideal))} {bodyI : List (List (HloOp τ sig (Elt Ideal)))} {W : Dev nD → Valuation τ sig (Elt Ideal)}
    (rd : Valuation τ sig (Elt Ideal) → Scan N) (c : Dev nD)
    (hs : ∀ n : Fin N, rd (afterL bodyI (after condOps (atTrip condOps bodyI W n.val c))) = (rd (atTrip condOps bodyI W n.val c)).trip n) :
    ∀ k, k ≤ N → rd (atTrip condOps bodyI W k c) = (rd (W c)).stepped k
  | 0, _ => by rw [atTrip_zero, Scan.stepped_zero]
  | k + 1, h => by rw [atTrip_succ, hs ⟨k, h⟩, loop_steps rd c hs k (Nat.le_of_succ_le h)]; exact Scan.stepped_succ _ ⟨k, h⟩

/-- A buffer that no trip writes keeps its contents through a loop. -/
theorem loop_keeps {condOps : List (HloOp τ sig (Elt Ideal))} {bodyI : List (List (HloOp τ sig (Elt Ideal)))} {W : Dev nD → Valuation τ sig (Elt Ideal)}
    (c : Dev nD) (r : Ref sig .tc) (hs : ∀ V : Valuation τ sig (Elt Ideal), afterL bodyI (after condOps V) (Proc.devRef .tc r) = V (Proc.devRef .tc r)) :
    ∀ k, atTrip condOps bodyI W k c (Proc.devRef .tc r) = W c (Proc.devRef .tc r)
  | 0 => by rw [atTrip_zero]
  | k + 1 => by rw [atTrip_succ, hs, loop_keeps c r hs k]

variable (m : (ℓ : Loc nD τ sig) → Buf (Elt Ideal) ℓ) (c : Dev nD)

/-- What loop 0 leaves. -/
theorem exit0 : scan0 (X0 m c) = (scan0 (E0 m c)).stepped 1 := by
  have h : scan0 (X0 m c) = scan0 (atTrip cond0 body0 (E0 m) 1 c) := by
    unfold X0 scan0
    simp only [after_of_writes_sub cond0 _ cond0_writes (r := main_v8_0) (by decide +kernel), after_of_writes_sub cond0 _ cond0_writes (r := main_v8_1) (by decide +kernel),
      after_of_writes_sub cond0 _ cond0_writes (r := main_v8_2) (by decide +kernel), after_of_writes_sub cond0 _ cond0_writes (r := main_v8_3) (by decide +kernel),
      after_of_writes_sub cond0 _ cond0_writes (r := main_v8_4) (by decide +kernel), after_of_writes_sub cond0 _ cond0_writes (r := main_v8_6) (by decide +kernel),
      after_of_writes_sub cond0 _ cond0_writes (r := main_v8_7) (by decide +kernel), after_of_writes_sub cond0 _ cond0_writes (r := main_v8_8) (by decide +kernel)]
  rw [h]
  exact loop_steps scan0 c (fun n => trip0 _ n (ctr0 m c n.val)) 1 le_rfl

/-- What loop 0 does not write stays. -/
theorem kept_X0 (r : Ref sig .tc) (ha : r ∉ cond0_W ++ body0a_W) (hb : r ∉ body0b_W) (hc : r ∉ body0c_W) (hd : r ∉ body0d_W) :
    X0 m c (Proc.devRef .tc r) = E0 m c (Proc.devRef .tc r) :=
  (after_of_writes_sub cond0 _ cond0_writes fun h => ha (List.mem_append_left _ h)).trans (loop_keeps c r (fun V => kept0 V r ha hb hc hd) 1)

/-- What loop 1 leaves. -/
theorem exit1 : scan1 (X1 m c) = (scan1 (E1 m c)).stepped 1 := by
  have h : scan1 (X1 m c) = scan1 (atTrip cond1 body1 (E1 m) 1 c) := by
    unfold X1 scan1
    simp only [after_of_writes_sub cond1 _ cond1_writes (r := main_v14_0) (by decide +kernel), after_of_writes_sub cond1 _ cond1_writes (r := main_v14_1) (by decide +kernel),
      after_of_writes_sub cond1 _ cond1_writes (r := main_v14_2) (by decide +kernel), after_of_writes_sub cond1 _ cond1_writes (r := main_v14_3) (by decide +kernel),
      after_of_writes_sub cond1 _ cond1_writes (r := main_v14_4) (by decide +kernel), after_of_writes_sub cond1 _ cond1_writes (r := main_v14_6) (by decide +kernel),
      after_of_writes_sub cond1 _ cond1_writes (r := main_v14_7) (by decide +kernel), after_of_writes_sub cond1 _ cond1_writes (r := main_v14_8) (by decide +kernel)]
  rw [h]
  exact loop_steps scan1 c (fun n => trip1 _ n (ctr1 m c n.val)) 1 le_rfl

/-- What loop 1 does not write stays. -/
theorem kept_X1 (r : Ref sig .tc) (ha : r ∉ cond1_W ++ body1a_W) (hb : r ∉ body1b_W) (hc : r ∉ body1c_W) (hd : r ∉ body1d_W) :
    X1 m c (Proc.devRef .tc r) = E1 m c (Proc.devRef .tc r) :=
  (after_of_writes_sub cond1 _ cond1_writes fun h => ha (List.mem_append_left _ h)).trans (loop_keeps c r (fun V => kept1 V r ha hb hc hd) 1)

/-- What loop 2 leaves. -/
theorem exit2 : scan2 (X2 m c) = (scan2 (E2 m c)).stepped 512 := by
  have h : scan2 (X2 m c) = scan2 (atTrip cond2 body2 (E2 m) 512 c) := by
    unfold X2 scan2
    simp only [after_of_writes_sub cond2 _ cond2_writes (r := main_v28_0) (by decide +kernel), after_of_writes_sub cond2 _ cond2_writes (r := main_v28_1) (by decide +kernel),
      after_of_writes_sub cond2 _ cond2_writes (r := main_v28_2) (by decide +kernel), after_of_writes_sub cond2 _ cond2_writes (r := main_v28_3) (by decide +kernel),
      after_of_writes_sub cond2 _ cond2_writes (r := main_v28_4) (by decide +kernel), after_of_writes_sub cond2 _ cond2_writes (r := main_v28_6) (by decide +kernel),
      after_of_writes_sub cond2 _ cond2_writes (r := main_v28_7) (by decide +kernel), after_of_writes_sub cond2 _ cond2_writes (r := main_v28_8) (by decide +kernel)]
  rw [h]
  exact loop_steps scan2 c (fun n => trip2 _ n (ctr2 m c n.val)) 512 le_rfl

/-- What loop 2 does not write stays. -/
theorem kept_X2 (r : Ref sig .tc) (ha : r ∉ cond2_W ++ body2a_W) (hb : r ∉ body2b_W) (hc : r ∉ body2c_W) (hd : r ∉ body2d_W) :
    X2 m c (Proc.devRef .tc r) = E2 m c (Proc.devRef .tc r) :=
  (after_of_writes_sub cond2 _ cond2_writes fun h => ha (List.mem_append_left _ h)).trans (loop_keeps c r (fun V => kept2 V r ha hb hc hd) 512)

/-- What loop 3 leaves. -/
theorem exit3 : scan3 (X3 m c) = (scan3 (E3 m c)).stepped 512 := by
  have h : scan3 (X3 m c) = scan3 (atTrip cond3 body3 (E3 m) 512 c) := by
    unfold X3 scan3
    simp only [after_of_writes_sub cond3 _ cond3_writes (r := main_v34_0) (by decide +kernel), after_of_writes_sub cond3 _ cond3_writes (r := main_v34_1) (by decide +kernel),
      after_of_writes_sub cond3 _ cond3_writes (r := main_v34_2) (by decide +kernel), after_of_writes_sub cond3 _ cond3_writes (r := main_v34_3) (by decide +kernel),
      after_of_writes_sub cond3 _ cond3_writes (r := main_v34_4) (by decide +kernel), after_of_writes_sub cond3 _ cond3_writes (r := main_v34_6) (by decide +kernel),
      after_of_writes_sub cond3 _ cond3_writes (r := main_v34_7) (by decide +kernel), after_of_writes_sub cond3 _ cond3_writes (r := main_v34_8) (by decide +kernel)]
  rw [h]
  exact loop_steps scan3 c (fun n => trip3 _ n (ctr3 m c n.val)) 512 le_rfl

/-- What loop 3 does not write stays. -/
theorem kept_X3 (r : Ref sig .tc) (ha : r ∉ cond3_W ++ body3a_W) (hb : r ∉ body3b_W) (hc : r ∉ body3c_W) (hd : r ∉ body3d_W) :
    X3 m c (Proc.devRef .tc r) = E3 m c (Proc.devRef .tc r) :=
  (after_of_writes_sub cond3 _ cond3_writes fun h => ha (List.mem_append_left _ h)).trans (loop_keeps c r (fun V => kept3 V r ha hb hc hd) 512)

end Cert.ReferenceIdeal.Hand

end
-- ==== Proof.RefGather.lean ====
/- The reference's two gathers, read at an index. -/
module

public import proofs.«01_k».proof.Proof.RefScan

@[expose] public section

set_option maxRecDepth 16384

noncomputable section

namespace Cert.ReferenceIdeal.Hand

open Idealize.ShloMosaic Cert.ReferenceIdeal.Gen Lstm

variable {α : Type}

/-- The table lookup reads the row that the start index names, clamped to the table. -/
theorem lookup_at (x : S64x512.Idx → α) (i : IVec S16x512x1 32) (b : Fin 16) (t j : Fin 512) :
    Host.gather gather_S64x512_S16x512x1_S16x512x512_2_0_n_n_0_2_1512 x i (ix3 b t j)
      = x (ix2 ⟨min (i (ix3 b t (0 : Fin 1))).toInt.toNat 63, by omega⟩ j) := by
  unfold Host.gather
  refine congrArg x (funext fun a => Fin.ext ?_)
  match a with
  | ⟨0, _⟩ =>
    show GatherDims.start _ _ i 0 + GatherDims.batchCoord _ _ 0 + GatherDims.offCoord _ _ 0 = _
    rw [GatherDims.batchCoord_eq_zero _ _ _ (by decide), GatherDims.offCoord_eq_zero _ _ _ (by decide), Nat.add_zero]
    unfold GatherDims.start
    rw [dif_pos (by decide)]
    refine congrArg (fun k : S16x512x1.Idx => min (i k).toInt.toNat 63) (funext fun d => Fin.ext ?_)
    match d with
    | ⟨0, _⟩ => rfl
    | ⟨1, _⟩ => rfl
    | ⟨2, _⟩ => rfl
  | ⟨1, _⟩ =>
    show GatherDims.start _ _ i 1 + GatherDims.batchCoord _ _ 1 + GatherDims.offCoord _ _ 1 = _
    rw [GatherDims.batchCoord_eq_zero _ _ _ (by decide)]
    unfold GatherDims.start
    rw [dif_neg (by decide), Nat.zero_add]
    unfold GatherDims.offCoord
    rw [dif_pos (by decide)]
    rfl

/-- The choice of one of 64 entries reads the entry that the start index names, clamped to the 64. -/
theorem choose_at (x : S511x16x64.Idx → α) (i : IVec S511x16x1x1 32) (n : Fin 511) (b : Fin 16) :
    Host.gather gather_S511x16x64_S511x16x1x1_S511x16x1_n_2_01_01_2_3_111 x i (ix3 n b (0 : Fin 1))
      = x (ix3 n b ⟨min (i (ix4 n b (0 : Fin 1) (0 : Fin 1))).toInt.toNat 63, by omega⟩) := by
  unfold Host.gather
  refine congrArg x (funext fun a => Fin.ext ?_)
  match a with
  | ⟨0, _⟩ =>
    show GatherDims.start _ _ i 0 + GatherDims.batchCoord _ _ 0 + GatherDims.offCoord _ _ 0 = _
    rw [GatherDims.start_batching _ _ _ _ (by decide), GatherDims.offCoord_eq_zero _ _ _ (by decide), Nat.add_zero, Nat.zero_add]
    unfold GatherDims.batchCoord
    rw [dif_pos (by decide)]
    rfl
  | ⟨1, _⟩ =>
    show GatherDims.start _ _ i 1 + GatherDims.batchCoord _ _ 1 + GatherDims.offCoord _ _ 1 = _
    rw [GatherDims.start_batching _ _ _ _ (by decide), GatherDims.offCoord_eq_zero _ _ _ (by decide), Nat.add_zero, Nat.zero_add]
    unfold GatherDims.batchCoord
    rw [dif_pos (by decide)]
    rfl
  | ⟨2, _⟩ =>
    show GatherDims.start _ _ i 2 + GatherDims.batchCoord _ _ 2 + GatherDims.offCoord _ _ 2 = _
    rw [GatherDims.batchCoord_eq_zero _ _ _ (by decide), GatherDims.offCoord_eq_zero _ _ _ (by decide), Nat.add_zero]
    unfold GatherDims.start
    rw [dif_pos (by decide)]
    refine congrArg (fun k : S511x16x1x1.Idx => min (i k).toInt.toNat 63) (funext fun d => Fin.ext ?_)
    match d with
    | ⟨0, _⟩ => rfl
    | ⟨1, _⟩ => rfl
    | ⟨2, _⟩ => rfl
    | ⟨3, _⟩ => rfl

end Cert.ReferenceIdeal.Hand

end
-- ==== Proof.RefHost.lean ====
/- The stretches of the reference's main function, read at an index. -/
module

public import proofs.«01_k».proof.Proof.RefGather
public import proofs.«01_k».proof.Proof.RefTrip0
public import proofs.«01_k».proof.Proof.RefTrip1
public import proofs.«01_k».proof.Proof.RefTrip2
public import proofs.«01_k».proof.Proof.RefTrip3
public import proofs.«01_k».proof.Proof.RowOf

@[expose] public section

set_option maxRecDepth 16384

noncomputable section

namespace Cert.ReferenceIdeal.Hand

open Idealize.ShloMosaic Idealize.ShloMosaic.TcCoe Idealize.SL.Sem Cert.ReferenceIdeal.Gen
open Idealize.ShloMosaic.StableHlo Lstm
open scoped BigOperators

/-! ## Words -/

/-- The conjunction of ones is one. -/
theorem and_ones {ι : Type} (s : Finset ι) : s.fold IntOp.andi (1#1) (fun _ => 1#1) = 1#1 := by
  classical
  induction s using Finset.induction_on with
  | empty => rfl
  | insert a s h ih => rw [Finset.fold_insert h, ih]; rfl

/-- A token's word is not negative, so the wrapping of negative positions leaves it. -/
theorem wrap_tok : ∀ x : Fin 64, Scalar.select (IntOp.cmpi CmpIPredicate.slt (BitVec.ofNat 32 x.val) 0#32)
    (IntOp.addi (BitVec.ofNat 32 x.val) 64#32) (BitVec.ofNat 32 x.val) = BitVec.ofNat 32 x.val := by decide +kernel

/-- A token's word passes the bounds test. -/
theorem bounds_tok : ∀ x : Fin 64, IntOp.andi (IntOp.cmpi CmpIPredicate.sge (BitVec.ofNat 32 x.val) 0#32)
    (IntOp.cmpi CmpIPredicate.sle (BitVec.ofNat 32 x.val) 63#32) = 1#1 := by decide +kernel

/-- A choice by a true bit. -/
theorem select_true {α : Type} (a b : α) : Scalar.select 1#1 a b = a := rfl

/-- Whether a token counts, as a number. -/
theorem mask_tok (x : Fin 64) : (FloatOps.uitofp (F := Ideal) FTy.f32 (IntOp.cmpi CmpIPredicate.ne (BitVec.ofNat 32 x.val) 0#32) : EReal) = mask x := by
  change ((((IntOp.cmpi CmpIPredicate.ne (BitVec.ofNat 32 x.val) 0#32).toNat : ℕ) : ℝ) : EReal) = mask x
  have h : ∀ x : Fin 64, (IntOp.cmpi CmpIPredicate.ne (BitVec.ofNat 32 x.val) 0#32).toNat = if x = 0 then 0 else 1 := by decide +kernel
  rw [h]
  unfold mask
  split <;> simp

variable (V : Valuation τ sig (Elt Ideal))

/-! ## Where the loops start -/

/-- Loop 0 starts from the state array and zeros. -/
theorem entry0 : (scan0 (after host0 V)).x = (fun _ b j => mat (A := 16) (B := 512) (V (Proc.devRef .tc main_arg0)) b j)
    ∧ (scan0 (after host0 V)).L = Lstm.layerOf (V (Proc.devRef .tc main_arg3)) (V (Proc.devRef .tc main_arg4)) (V (Proc.devRef .tc main_arg5)) (V (Proc.devRef .tc main_arg6))
    ∧ (scan0 (after host0 V)).h = (fun _ _ => 0) ∧ (scan0 (after host0 V)).c = fun _ _ => 0 := by
  have w1 : after host0 V (Proc.devRef .tc main_v8_1) = V (Proc.devRef .tc main_arg3) := by after_reads_simp; rfl
  have w2 : after host0 V (Proc.devRef .tc main_v8_2) = V (Proc.devRef .tc main_arg4) := by after_reads_simp; rfl
  have w3 : after host0 V (Proc.devRef .tc main_v8_3) = V (Proc.devRef .tc main_arg5) := by after_reads_simp; rfl
  have w4 : after host0 V (Proc.devRef .tc main_v8_4) = V (Proc.devRef .tc main_arg6) := by after_reads_simp; rfl
  refine ⟨?_, ?_, ?_, ?_⟩
  · funext t b j
    show cube (N := 1) (after host0 V (Proc.devRef .tc main_v8_0)) t b j = mat (A := 16) (B := 512) (V (Proc.devRef .tc main_arg0)) b j
    unfold cube mat
    after_reads_simp
    simp only [id]
    pointwise
  · unfold scan0; dsimp only; rw [w1, w2, w3, w4]
  · funext b j
    show mat (A := 16) (B := 512) (after host0 V (Proc.devRef .tc main_v8_6)) b j = 0
    unfold mat
    after_reads_at
    simp only [id]
  · funext b j
    show mat (A := 16) (B := 512) (after host0 V (Proc.devRef .tc main_v8_7)) b j = 0
    unfold mat
    after_reads_at
    simp only [id]

/-- The two stacks of zeros. -/
theorem zeros (p : Fin 2) (b : Fin 16) (j : Fin 512) : cube (N := 2) (after host0 V (Proc.devRef .tc main_v0)) p b j = 0
    ∧ cube (N := 2) (after host0 V (Proc.devRef .tc main_v1)) p b j = 0 := by
  constructor <;> (unfold cube; after_reads_at)

/-- Loop 1 starts from what loop 0 put out and the second planes of the stacks of zeros. -/
theorem entry1 : (scan1 (after host2 V)).x = cube (N := 1) (V (Proc.devRef .tc main_v8_8))
    ∧ (scan1 (after host2 V)).L = Lstm.layerOf (V (Proc.devRef .tc main_arg7)) (V (Proc.devRef .tc main_arg8)) (V (Proc.devRef .tc main_arg9)) (V (Proc.devRef .tc main_arg10))
    ∧ (scan1 (after host2 V)).h = cube (N := 2) (V (Proc.devRef .tc main_v0)) 1 ∧ (scan1 (after host2 V)).c = cube (N := 2) (V (Proc.devRef .tc main_v1)) 1 := by
  have w0 : after host2 V (Proc.devRef .tc main_v14_0) = V (Proc.devRef .tc main_v8_8) := by after_reads_simp; rfl
  have w1 : after host2 V (Proc.devRef .tc main_v14_1) = V (Proc.devRef .tc main_arg7) := by after_reads_simp; rfl
  have w2 : after host2 V (Proc.devRef .tc main_v14_2) = V (Proc.devRef .tc main_arg8) := by after_reads_simp; rfl
  have w3 : after host2 V (Proc.devRef .tc main_v14_3) = V (Proc.devRef .tc main_arg9) := by after_reads_simp; rfl
  have w4 : after host2 V (Proc.devRef .tc main_v14_4) = V (Proc.devRef .tc main_arg10) := by after_reads_simp; rfl
  refine ⟨?_, ?_, ?_, ?_⟩
  · unfold scan1; dsimp only; rw [w0]
  · unfold scan1; dsimp only; rw [w1, w2, w3, w4]
  · funext b j
    show mat (A := 16) (B := 512) (after host2 V (Proc.devRef .tc main_v14_6)) b j = cube (N := 2) (V (Proc.devRef .tc main_v0)) 1 b j
    unfold mat cube
    after_reads_simp
    simp only [id]
    clean_types
    pointwise
  · funext b j
    show mat (A := 16) (B := 512) (after host2 V (Proc.devRef .tc main_v14_7)) b j = cube (N := 2) (V (Proc.devRef .tc main_v1)) 1 b j
    unfold mat cube
    after_reads_simp
    simp only [id]
    clean_types
    pointwise

/-- The two layers' states after the initial input, stacked. -/
theorem stackedStates (b : Fin 16) (j : Fin 512) :
    cube (N := 2) (after host4 V (Proc.devRef .tc main_v17)) 0 b j = mat (A := 16) (B := 512) (V (Proc.devRef .tc main_v8_6)) b j
    ∧ cube (N := 2) (after host4 V (Proc.devRef .tc main_v17)) 1 b j = mat (A := 16) (B := 512) (V (Proc.devRef .tc main_v14_6)) b j
    ∧ cube (N := 2) (after host4 V (Proc.devRef .tc main_v20)) 0 b j = mat (A := 16) (B := 512) (V (Proc.devRef .tc main_v8_7)) b j
    ∧ cube (N := 2) (after host4 V (Proc.devRef .tc main_v20)) 1 b j = mat (A := 16) (B := 512) (V (Proc.devRef .tc main_v14_7)) b j := by
  refine ⟨?_, ?_, ?_, ?_⟩ <;> (unfold cube mat; after_reads_at)

/-- The embedding of a token of the vocabulary is its row of the table. -/
theorem lookup (b : Fin 16) (t j : Fin 512) (x : Fin 64)
    (hx : (V (Proc.devRef .tc main_arg1) : (⟨S16x512, .i32⟩ : BufTy).Contents (Elt Ideal)) (ix2 b t) = BitVec.ofNat 32 x.val) :
    (after host5 V (Proc.devRef .tc main_v21) : (⟨S16x512x512, .f32⟩ : BufTy).Contents (Elt Ideal)) (ix3 b t j)
      = mat (A := 64) (B := 512) (V (Proc.devRef .tc main_arg2)) x j := by
  after_reads_at
  rw [hx, wrap_tok, bounds_tok, and_ones, select_true, lookup_at]
  refine congrArg (V (Proc.devRef .tc main_arg2)) (congrArg₂ ix2 (Fin.ext ?_) rfl)
  refine Eq.trans (congrArg (fun w : BitVec 32 => min w.toInt.toNat 63) (a₂ := BitVec.ofNat 32 x.val) ?_) ?_
  · pointwise
    rw [hx, wrap_tok]
  · show min (BitVec.ofNat 32 x.val).toInt.toNat 63 = x.val
    rw [tok_toNat]; omega

/-- Loop 2's inputs are the embeddings, time first; its start is read off the stacks. -/
theorem entry2 : (scan2 (after host7 (after host6 V))).x = (fun t b j => (V (Proc.devRef .tc main_v21) : (⟨S16x512x512, .f32⟩ : BufTy).Contents (Elt Ideal)) (ix3 b t j))
    ∧ (scan2 (after host7 (after host6 V))).L = Lstm.layerOf (V (Proc.devRef .tc main_arg3)) (V (Proc.devRef .tc main_arg4)) (V (Proc.devRef .tc main_arg5)) (V (Proc.devRef .tc main_arg6))
    ∧ (scan2 (after host7 (after host6 V))).h = cube (N := 2) (V (Proc.devRef .tc main_v17)) 0 ∧ (scan2 (after host7 (after host6 V))).c = cube (N := 2) (V (Proc.devRef .tc main_v20)) 0 := by
  have k : ∀ r : Ref sig .tc, r ∉ host7_W → after host7 (after host6 V) (Proc.devRef .tc r) = after host6 V (Proc.devRef .tc r) :=
    fun r h => after_of_writes_sub host7 _ host7_writes h
  have w1 : after host6 V (Proc.devRef .tc main_v28_1) = V (Proc.devRef .tc main_arg3) := by after_reads_simp; rfl
  have w2 : after host6 V (Proc.devRef .tc main_v28_2) = V (Proc.devRef .tc main_arg4) := by after_reads_simp; rfl
  have w3 : after host6 V (Proc.devRef .tc main_v28_3) = V (Proc.devRef .tc main_arg5) := by after_reads_simp; rfl
  have w4 : after host6 V (Proc.devRef .tc main_v28_4) = V (Proc.devRef .tc main_arg6) := by after_reads_simp; rfl
  have w6 : after host7 (after host6 V) (Proc.devRef .tc main_v28_6) = after host6 V (Proc.devRef .tc main_v24) := by
    generalize after host6 V = U
    after_reads_simp; rfl
  have w7 : after host7 (after host6 V) (Proc.devRef .tc main_v28_7) = after host6 V (Proc.devRef .tc main_v26) := by
    generalize after host6 V = U
    after_reads_simp; rfl
  refine ⟨?_, ?_, ?_, ?_⟩
  · unfold scan2; dsimp only
    rw [k main_v28_0 (by decide +kernel)]
    funext t b j
    unfold cube
    after_reads_simp
    simp only [id]
    clean_types
    pointwise
  · unfold scan2; dsimp only
    rw [k main_v28_1 (by decide +kernel), k main_v28_2 (by decide +kernel), k main_v28_3 (by decide +kernel), k main_v28_4 (by decide +kernel), w1, w2, w3, w4]
  · unfold scan2; dsimp only
    rw [w6]
    funext b j
    unfold mat cube
    after_reads_at
  · unfold scan2; dsimp only
    rw [w7]
    funext b j
    unfold mat cube
    after_reads_at

/-- Loop 3 starts from what loop 2 put out and the second planes of the stacks. -/
theorem entry3 : (scan3 (after host9 V)).x = cube (N := 512) (V (Proc.devRef .tc main_v28_8))
    ∧ (scan3 (after host9 V)).L = Lstm.layerOf (V (Proc.devRef .tc main_arg7)) (V (Proc.devRef .tc main_arg8)) (V (Proc.devRef .tc main_arg9)) (V (Proc.devRef .tc main_arg10))
    ∧ (scan3 (after host9 V)).h = cube (N := 2) (V (Proc.devRef .tc main_v17)) 1 ∧ (scan3 (after host9 V)).c = cube (N := 2) (V (Proc.devRef .tc main_v20)) 1 := by
  have w0 : after host9 V (Proc.devRef .tc main_v34_0) = V (Proc.devRef .tc main_v28_8) := by after_reads_simp; rfl
  have w1 : after host9 V (Proc.devRef .tc main_v34_1) = V (Proc.devRef .tc main_arg7) := by after_reads_simp; rfl
  have w2 : after host9 V (Proc.devRef .tc main_v34_2) = V (Proc.devRef .tc main_arg8) := by after_reads_simp; rfl
  have w3 : after host9 V (Proc.devRef .tc main_v34_3) = V (Proc.devRef .tc main_arg9) := by after_reads_simp; rfl
  have w4 : after host9 V (Proc.devRef .tc main_v34_4) = V (Proc.devRef .tc main_arg10) := by after_reads_simp; rfl
  refine ⟨?_, ?_, ?_, ?_⟩
  · unfold scan3; dsimp only; rw [w0]
  · unfold scan3; dsimp only; rw [w1, w2, w3, w4]
  · funext b j
    show mat (A := 16) (B := 512) (after host9 V (Proc.devRef .tc main_v34_6)) b j = cube (N := 2) (V (Proc.devRef .tc main_v17)) 1 b j
    unfold mat cube
    after_reads_simp
    simp only [id]
    clean_types
    pointwise
  · funext b j
    show mat (A := 16) (B := 512) (after host9 V (Proc.devRef .tc main_v34_7)) b j = cube (N := 2) (V (Proc.devRef .tc main_v20)) 1 b j
    unfold mat cube
    after_reads_simp
    simp only [id]
    clean_types
    pointwise

/-! ## After the loops -/

/-- The logits from the outputs of the layer above. -/
theorem logits (n : Fin 511) (b : Fin 16) (v : Fin 64) :
    (after host11 V (Proc.devRef .tc main_v46) : (⟨S511x16x64, .f32⟩ : BufTy).Contents (Elt Ideal)) (ix3 n b v)
      = ∑ k, cube (N := 512) (V (Proc.devRef .tc main_v34_8)) ⟨n.val, by omega⟩ b k * mat (A := 64) (B := 512) (V (Proc.devRef .tc main_arg11)) v k
        + (V (Proc.devRef .tc main_arg12) : (⟨S64, .f32⟩ : BufTy).Contents (Elt Ideal)) (ix1 v) := by
  after_reads_at

/-- The targets are the tokens from the second on. -/
theorem targets (n : Fin 511) (b : Fin 16) :
    (after host11 V (Proc.devRef .tc main_v48) : (⟨S511x16, .i32⟩ : BufTy).Contents (Elt Ideal)) (ix2 n b)
      = (V (Proc.devRef .tc main_arg1) : (⟨S16x512, .i32⟩ : BufTy).Contents (Elt Ideal)) (ix2 b ⟨1 + n.val, by omega⟩) := by
  after_reads_at

/-- The log-softmax along the vocabulary. -/
theorem logSoftmax (n : Fin 511) (b : Fin 16) (v : Fin 64) :
    (after host12 V (Proc.devRef .tc main_v49) : (⟨S511x16x64, .f32⟩ : BufTy).Contents (Elt Ideal)) (ix3 n b v)
      = logp (fun v => (V (Proc.devRef .tc main_v46) : (⟨S511x16x64, .f32⟩ : BufTy).Contents (Elt Ideal)) (ix3 n b v)) v := by
  after_reads_at
  rw [negInf_eq, max_eq_right bot_le]
  rfl

/-- The entry of a target of the vocabulary is chosen. -/
theorem chosen (n : Fin 511) (b : Fin 16) (x : Fin 64)
    (hx : (V (Proc.devRef .tc main_v50) : (⟨S511x16x1, .i32⟩ : BufTy).Contents (Elt Ideal)) (ix3 n b (0 : Fin 1)) = BitVec.ofNat 32 x.val) :
    (after host14 V (Proc.devRef .tc main_v51) : (⟨S511x16x1, .f32⟩ : BufTy).Contents (Elt Ideal)) (ix3 n b (0 : Fin 1))
      = (V (Proc.devRef .tc main_v49) : (⟨S511x16x64, .f32⟩ : BufTy).Contents (Elt Ideal)) (ix3 n b x) := by
  after_reads_at
  rw [hx, wrap_tok, bounds_tok, and_ones, select_true, choose_at]
  refine congrArg (V (Proc.devRef .tc main_v49)) (congrArg (ix3 n b) (Fin.ext ?_))
  refine Eq.trans (congrArg (fun w : BitVec 32 => min w.toInt.toNat 63) (a₂ := BitVec.ofNat 32 x.val) ?_) ?_
  · show Scalar.select (IntOp.cmpi CmpIPredicate.slt ((V (Proc.devRef .tc main_v50) : (⟨S511x16x1, .i32⟩ : BufTy).Contents (Elt Ideal)) (ix3 n b (0 : Fin 1))) 0#32)
      (IntOp.addi ((V (Proc.devRef .tc main_v50) : (⟨S511x16x1, .i32⟩ : BufTy).Contents (Elt Ideal)) (ix3 n b (0 : Fin 1))) 64#32)
      ((V (Proc.devRef .tc main_v50) : (⟨S511x16x1, .i32⟩ : BufTy).Contents (Elt Ideal)) (ix3 n b (0 : Fin 1))) = _
    rw [hx, wrap_tok]
  · show min (BitVec.ofNat 32 x.val).toInt.toNat 63 = x.val
    rw [tok_toNat]; omega

/-- The targets, with a unit axis. -/
theorem targets' (n : Fin 511) (b : Fin 16) :
    (after host13 V (Proc.devRef .tc main_v50) : (⟨S511x16x1, .i32⟩ : BufTy).Contents (Elt Ideal)) (ix3 n b (0 : Fin 1))
      = (V (Proc.devRef .tc main_v48) : (⟨S511x16, .i32⟩ : BufTy).Contents (Elt Ideal)) (ix2 n b) := by
  after_reads_at

/-- The result: minus the masked sum of the negated entries. -/
theorem total (b : Fin 16) (l : Fin 511 → EReal) (x : Fin 511 → Fin 64)
    (hl : ∀ n, (V (Proc.devRef .tc main_v51) : (⟨S511x16x1, .f32⟩ : BufTy).Contents (Elt Ideal)) (ix3 n b (0 : Fin 1)) = l n)
    (hx : ∀ n, (V (Proc.devRef .tc main_v48) : (⟨S511x16, .i32⟩ : BufTy).Contents (Elt Ideal)) (ix2 n b) = BitVec.ofNat 32 (x n).val) :
    (after host15 V (Proc.devRef .tc main_v60) : (⟨S16x1, .f32⟩ : BufTy).Contents (Elt Ideal)) (ix2 b (0 : Fin 1)) = -∑ n, -l n * mask (x n) := by
  after_reads_at
  refine congrArg Neg.neg (Finset.sum_congr rfl fun n _ => ?_)
  rw [hl, hx, mask_tok]

end Cert.ReferenceIdeal.Hand

end
-- ==== Proof.RefValue.lean ====
/- What the reference computes. -/
module

public import proofs.«01_k».proof.Proof.RefLoops
public import proofs.«01_k».proof.Proof.RefHost

@[expose] public section

set_option maxRecDepth 16384

noncomputable section

namespace Cert.ReferenceIdeal.Hand

open Idealize.ShloMosaic Idealize.ShloMosaic.TcCoe Idealize.SL.Sem Cert.ReferenceIdeal.Gen
open Idealize.ShloMosaic.StableHlo Lstm
open scoped BigOperators

/-- A loop whose step and start are those of a sequence of states runs through that sequence. -/
theorem Scan.state_eq {N : ℕ} (s : Scan N) (b : Fin 16) (f : ℕ → (Fin 512 → EReal) × (Fin 512 → EReal)) (h0 : (s.h b, s.c b) = f 0)
    (hs : ∀ n : Fin N, f (n.val + 1) = s.L.step (s.x n b) (f n.val)) : ∀ n, n ≤ N → s.state b n = f n
  | 0, _ => h0
  | n + 1, h => by
    rw [hs ⟨n, h⟩, ← s.state_eq b f h0 hs n (Nat.le_of_succ_le h)]
    exact dif_pos h

/-- The outputs of the steps taken are the hidden states after them. -/
theorem Scan.stepped_ys {N : ℕ} (s : Scan N) {n : ℕ} (t : Fin N) (ht : t.val < n) (b : Fin 16) (j : Fin 512) :
    (s.stepped n).ys t b j = (s.state b (t.val + 1)).1 j := by
  unfold Scan.stepped
  dsimp only
  rw [if_pos ht]

/-- The argument buffers. -/
abbrev argList : List (Ref sig .tc) :=
  [main_arg0, main_arg1, main_arg2, main_arg3, main_arg4, main_arg5, main_arg6, main_arg7, main_arg8, main_arg9, main_arg10, main_arg11, main_arg12]

/-- What loop 0 carries as outputs. -/
theorem ys0 (V : Valuation τ sig (Elt Ideal)) (b : Fin 16) (j : Fin 512) : cube (N := 1) (V (Proc.devRef .tc main_v8_8)) 0 b j = (scan0 V).ys 0 b j := rfl
/-- What loop 2 carries as outputs. -/
theorem ys2 (V : Valuation τ sig (Elt Ideal)) (n : Fin 512) (b : Fin 16) (j : Fin 512) : cube (N := 512) (V (Proc.devRef .tc main_v28_8)) n b j = (scan2 V).ys n b j := rfl
/-- What loop 3 carries as outputs. -/
theorem ys3 (V : Valuation τ sig (Elt Ideal)) (n : Fin 512) (b : Fin 16) (j : Fin 512) : cube (N := 512) (V (Proc.devRef .tc main_v34_8)) n b j = (scan3 V).ys n b j := rfl

attribute [local irreducible] StableHlo.after StableHlo.atTrip

variable (m : (ℓ : Loc nD τ sig) → Buf (Elt Ideal) ℓ) (c : Dev nD)

/-! ## The arguments stay -/

section Args

variable {r : Ref sig .tc} (hr : r ∈ argList)
include hr

/-- The arguments are as launched before loop 0. -/
theorem E0_arg : E0 m c (Proc.devRef .tc r) = launchContents m c (Proc.devRef .tc r) :=
  after_of_writes_sub host0 _ host0_writes ((by decide +kernel : ∀ r ∈ argList, r ∉ host0_W) r hr)
/-- The arguments are as launched after loop 0. -/
theorem X0_arg : X0 m c (Proc.devRef .tc r) = launchContents m c (Proc.devRef .tc r) :=
  (kept_X0 m c r ((by decide +kernel : ∀ r ∈ argList, r ∉ cond0_W ++ body0a_W) r hr) ((by decide +kernel : ∀ r ∈ argList, r ∉ body0b_W) r hr)
    ((by decide +kernel : ∀ r ∈ argList, r ∉ body0c_W) r hr) ((by decide +kernel : ∀ r ∈ argList, r ∉ body0d_W) r hr)).trans (E0_arg m c hr)
/-- The arguments are as launched before loop 1. -/
theorem E1_arg : E1 m c (Proc.devRef .tc r) = launchContents m c (Proc.devRef .tc r) :=
  (after_of_writes_sub host2 _ host2_writes ((by decide +kernel : ∀ r ∈ argList, r ∉ host2_W) r hr)).trans (X0_arg m c hr)
/-- The arguments are as launched after loop 1. -/
theorem X1_arg : X1 m c (Proc.devRef .tc r) = launchContents m c (Proc.devRef .tc r) :=
  (kept_X1 m c r ((by decide +kernel : ∀ r ∈ argList, r ∉ cond1_W ++ body1a_W) r hr) ((by decide +kernel : ∀ r ∈ argList, r ∉ body1b_W) r hr)
    ((by decide +kernel : ∀ r ∈ argList, r ∉ body1c_W) r hr) ((by decide +kernel : ∀ r ∈ argList, r ∉ body1d_W) r hr)).trans (E1_arg m c hr)
/-- The arguments are as launched after host stretch 4. -/
theorem h4_arg : after host4 (X1 m c) (Proc.devRef .tc r) = launchContents m c (Proc.devRef .tc r) :=
  (after_of_writes_sub host4 _ host4_writes ((by decide +kernel : ∀ r ∈ argList, r ∉ host4_W) r hr)).trans (X1_arg m c hr)
/-- The arguments are as launched after host stretch 5. -/
theorem h5_arg : after host5 (after host4 (X1 m c)) (Proc.devRef .tc r) = launchContents m c (Proc.devRef .tc r) :=
  (after_of_writes_sub host5 _ host5_writes ((by decide +kernel : ∀ r ∈ argList, r ∉ host5_W) r hr)).trans (h4_arg m c hr)
/-- The arguments are as launched before loop 2. -/
theorem E2_arg : E2 m c (Proc.devRef .tc r) = launchContents m c (Proc.devRef .tc r) :=
  (after_of_writes_sub host7 _ host7_writes ((by decide +kernel : ∀ r ∈ argList, r ∉ host7_W) r hr)).trans <|
    (after_of_writes_sub host6 _ host6_writes ((by decide +kernel : ∀ r ∈ argList, r ∉ host6_W) r hr)).trans (h5_arg m c hr)
/-- The arguments are as launched after loop 2. -/
theorem X2_arg : X2 m c (Proc.devRef .tc r) = launchContents m c (Proc.devRef .tc r) :=
  (kept_X2 m c r ((by decide +kernel : ∀ r ∈ argList, r ∉ cond2_W ++ body2a_W) r hr) ((by decide +kernel : ∀ r ∈ argList, r ∉ body2b_W) r hr)
    ((by decide +kernel : ∀ r ∈ argList, r ∉ body2c_W) r hr) ((by decide +kernel : ∀ r ∈ argList, r ∉ body2d_W) r hr)).trans (E2_arg m c hr)
/-- The arguments are as launched before loop 3. -/
theorem E3_arg : E3 m c (Proc.devRef .tc r) = launchContents m c (Proc.devRef .tc r) :=
  (after_of_writes_sub host9 _ host9_writes ((by decide +kernel : ∀ r ∈ argList, r ∉ host9_W) r hr)).trans (X2_arg m c hr)
/-- The arguments are as launched after loop 3. -/
theorem X3_arg : X3 m c (Proc.devRef .tc r) = launchContents m c (Proc.devRef .tc r) :=
  (kept_X3 m c r ((by decide +kernel : ∀ r ∈ argList, r ∉ cond3_W ++ body3a_W) r hr) ((by decide +kernel : ∀ r ∈ argList, r ∉ body3b_W) r hr)
    ((by decide +kernel : ∀ r ∈ argList, r ∉ body3c_W) r hr) ((by decide +kernel : ∀ r ∈ argList, r ∉ body3d_W) r hr)).trans (E3_arg m c hr)
/-- The run leaves the arguments as they were. -/
theorem Z_arg : Z m c (Proc.devRef .tc r) = launchContents m c (Proc.devRef .tc r) :=
  (after_of_writes_sub host15 _ host15_writes ((by decide +kernel : ∀ r ∈ argList, r ∉ host15_W) r hr)).trans <|
    (after_of_writes_sub host14 _ host14_writes ((by decide +kernel : ∀ r ∈ argList, r ∉ host14_W) r hr)).trans <|
    (after_of_writes_sub host13 _ host13_writes ((by decide +kernel : ∀ r ∈ argList, r ∉ host13_W) r hr)).trans <|
    (after_of_writes_sub host12 _ host12_writes ((by decide +kernel : ∀ r ∈ argList, r ∉ host12_W) r hr)).trans <|
    (after_of_writes_sub host11 _ host11_writes ((by decide +kernel : ∀ r ∈ argList, r ∉ host11_W) r hr)).trans (X3_arg m c hr)

end Args

/-! ## The states -/

/-- Row `b` of the reference's arguments. -/
def theRow (b : Fin 16) : Row :=
  rowOf (launchContents m c (Proc.devRef .tc main_arg0)) (launchContents m c (Proc.devRef .tc main_arg1)) (launchContents m c (Proc.devRef .tc main_arg2))
    (launchContents m c (Proc.devRef .tc main_arg3)) (launchContents m c (Proc.devRef .tc main_arg4)) (launchContents m c (Proc.devRef .tc main_arg5))
    (launchContents m c (Proc.devRef .tc main_arg6)) (launchContents m c (Proc.devRef .tc main_arg7)) (launchContents m c (Proc.devRef .tc main_arg8))
    (launchContents m c (Proc.devRef .tc main_arg9)) (launchContents m c (Proc.devRef .tc main_arg10)) (launchContents m c (Proc.devRef .tc main_arg11))
    (launchContents m c (Proc.devRef .tc main_arg12)) b

/-- The layer below after the initial input. -/
theorem state0 (b : Fin 16) : (scan0 (E0 m c)).state b 1 = (theRow m c b).s0 0 := by
  obtain ⟨hx, hL, hh, hc⟩ := entry0 (launchContents m c)
  show (if h : 0 < 1 then (scan0 (E0 m c)).L.step ((scan0 (E0 m c)).x ⟨0, h⟩ b) ((scan0 (E0 m c)).h b, (scan0 (E0 m c)).c b) else _) = _
  rw [dif_pos Nat.one_pos]
  show (scan0 (after host0 (launchContents m c))).L.step ((scan0 (after host0 (launchContents m c))).x ⟨0, Nat.one_pos⟩ b)
    ((scan0 (after host0 (launchContents m c))).h b, (scan0 (after host0 (launchContents m c))).c b) = _
  rw [hx, hL, hh, hc]
  rfl

/-- The layer below's state in its buffers. -/
theorem after0 (b : Fin 16) : mat (A := 16) (B := 512) (X0 m c (Proc.devRef .tc main_v8_6)) b = ((theRow m c b).s0 0).1
    ∧ mat (A := 16) (B := 512) (X0 m c (Proc.devRef .tc main_v8_7)) b = ((theRow m c b).s0 0).2
    ∧ cube (N := 1) (X0 m c (Proc.devRef .tc main_v8_8)) 0 b = ((theRow m c b).s0 0).1 := by
  rw [← state0]
  have e := exit0 m c
  refine ⟨congrFun (congrArg Scan.h e) b, congrFun (congrArg Scan.c e) b, funext fun j => ?_⟩
  rw [ys0, e]
  exact Scan.stepped_ys _ 0 Nat.one_pos b j

/-- The layer above after the initial input. -/
theorem state1 (b : Fin 16) : (scan1 (E1 m c)).state b 1 = (theRow m c b).s1 0 := by
  obtain ⟨hx, hL, hh, hc⟩ := entry1 (X0 m c)
  have z0 : X0 m c (Proc.devRef .tc main_v0) = E0 m c (Proc.devRef .tc main_v0) :=
    kept_X0 m c main_v0 (by decide +kernel) (by decide +kernel) (by decide +kernel) (by decide +kernel)
  have z1 : X0 m c (Proc.devRef .tc main_v1) = E0 m c (Proc.devRef .tc main_v1) :=
    kept_X0 m c main_v1 (by decide +kernel) (by decide +kernel) (by decide +kernel) (by decide +kernel)
  show (if h : 0 < 1 then (scan1 (E1 m c)).L.step ((scan1 (E1 m c)).x ⟨0, h⟩ b) ((scan1 (E1 m c)).h b, (scan1 (E1 m c)).c b) else _) = _
  rw [dif_pos Nat.one_pos]
  show (scan1 (after host2 (X0 m c))).L.step ((scan1 (after host2 (X0 m c))).x ⟨0, Nat.one_pos⟩ b)
    ((scan1 (after host2 (X0 m c))).h b, (scan1 (after host2 (X0 m c))).c b) = _
  rw [hx, hL, hh, hc, z0, z1, X0_arg m c (r := main_arg7) (by decide +kernel), X0_arg m c (r := main_arg8) (by decide +kernel),
    X0_arg m c (r := main_arg9) (by decide +kernel), X0_arg m c (r := main_arg10) (by decide +kernel)]
  rw [show cube (N := 1) (X0 m c (Proc.devRef .tc main_v8_8)) ⟨0, Nat.one_pos⟩ b = ((theRow m c b).s0 0).1 from (after0 m c b).2.2,
    show cube (N := 2) (E0 m c (Proc.devRef .tc main_v0)) 1 b = fun _ => 0 from funext fun j => (zeros (launchContents m c) 1 b j).1,
    show cube (N := 2) (E0 m c (Proc.devRef .tc main_v1)) 1 b = fun _ => 0 from funext fun j => (zeros (launchContents m c) 1 b j).2]
  rfl

/-- The layer above's state in its buffers. -/
theorem after1 (b : Fin 16) : mat (A := 16) (B := 512) (X1 m c (Proc.devRef .tc main_v14_6)) b = ((theRow m c b).s1 0).1
    ∧ mat (A := 16) (B := 512) (X1 m c (Proc.devRef .tc main_v14_7)) b = ((theRow m c b).s1 0).2 := by
  rw [← state1]
  have e := exit1 m c
  exact ⟨congrFun (congrArg Scan.h e) b, congrFun (congrArg Scan.c e) b⟩

/-- Loop 1 leaves the layer below's state. -/
theorem below_X1 (r : Ref sig .tc) (h : r ∈ ([main_v8_6, main_v8_7] : List (Ref sig .tc))) : X1 m c (Proc.devRef .tc r) = X0 m c (Proc.devRef .tc r) :=
  (kept_X1 m c r ((by decide +kernel : ∀ r ∈ ([main_v8_6, main_v8_7] : List (Ref sig .tc)), r ∉ cond1_W ++ body1a_W) r h)
    ((by decide +kernel : ∀ r ∈ ([main_v8_6, main_v8_7] : List (Ref sig .tc)), r ∉ body1b_W) r h)
    ((by decide +kernel : ∀ r ∈ ([main_v8_6, main_v8_7] : List (Ref sig .tc)), r ∉ body1c_W) r h)
    ((by decide +kernel : ∀ r ∈ ([main_v8_6, main_v8_7] : List (Ref sig .tc)), r ∉ body1d_W) r h)).trans <|
    after_of_writes_sub host2 _ host2_writes ((by decide +kernel : ∀ r ∈ ([main_v8_6, main_v8_7] : List (Ref sig .tc)), r ∉ host2_W) r h)

/-- The stacks of states pass the embedding lookup. -/
theorem stacks5 (r : Ref sig .tc) (h : r ∈ ([main_v17, main_v20] : List (Ref sig .tc))) :
    after host5 (after host4 (X1 m c)) (Proc.devRef .tc r) = after host4 (X1 m c) (Proc.devRef .tc r) :=
  after_of_writes_sub host5 _ host5_writes ((by decide +kernel : ∀ r ∈ ([main_v17, main_v20] : List (Ref sig .tc)), r ∉ host5_W) r h)

/-- The stacks of states pass loop 2. -/
theorem stacks_X2 (r : Ref sig .tc) (h : r ∈ ([main_v17, main_v20] : List (Ref sig .tc))) :
    X2 m c (Proc.devRef .tc r) = after host4 (X1 m c) (Proc.devRef .tc r) :=
  (kept_X2 m c r ((by decide +kernel : ∀ r ∈ ([main_v17, main_v20] : List (Ref sig .tc)), r ∉ cond2_W ++ body2a_W) r h)
    ((by decide +kernel : ∀ r ∈ ([main_v17, main_v20] : List (Ref sig .tc)), r ∉ body2b_W) r h)
    ((by decide +kernel : ∀ r ∈ ([main_v17, main_v20] : List (Ref sig .tc)), r ∉ body2c_W) r h)
    ((by decide +kernel : ∀ r ∈ ([main_v17, main_v20] : List (Ref sig .tc)), r ∉ body2d_W) r h)).trans <|
    (after_of_writes_sub host7 _ host7_writes ((by decide +kernel : ∀ r ∈ ([main_v17, main_v20] : List (Ref sig .tc)), r ∉ host7_W) r h)).trans <|
    (after_of_writes_sub host6 _ host6_writes ((by decide +kernel : ∀ r ∈ ([main_v17, main_v20] : List (Ref sig .tc)), r ∉ host6_W) r h)).trans (stacks5 m c r h)

/-- What the launch asks of the tokens. -/
abbrev Vocab : Prop := InVocabulary (launchContents m c (Proc.devRef .tc main_arg1))

variable {m c} (hv : Vocab m c)
include hv

/-- The layer below through the tokens. -/
theorem state2 (b : Fin 16) (n : ℕ) (hn : n ≤ 512) : (scan2 (E2 m c)).state b n = (theRow m c b).s0 n := by
  obtain ⟨hx, hL, hh, hc⟩ := entry2 (after host5 (after host4 (X1 m c)))
  have s := stackedStates (X1 m c)
  refine Scan.state_eq _ b _ ?_ ?_ n hn
  · show ((scan2 (after host7 (after host6 (after host5 (after host4 (X1 m c)))))).h b, (scan2 (after host7 (after host6 (after host5 (after host4 (X1 m c)))))).c b) = _
    rw [hh, hc, stacks5 m c main_v17 (by decide +kernel), stacks5 m c main_v20 (by decide +kernel)]
    refine Prod.ext (funext fun j => ?_) (funext fun j => ?_)
    · refine ((s b j).1).trans ?_
      rw [below_X1 m c main_v8_6 (by decide +kernel)]
      exact congrFun (after0 m c b).1 j
    · refine ((s b j).2.2.1).trans ?_
      rw [below_X1 m c main_v8_7 (by decide +kernel)]
      exact congrFun (after0 m c b).2.1 j
  · intro n
    show (theRow m c b).l0.step ((theRow m c b).emb ((theRow m c b).tk n.val)) ((theRow m c b).s0 n.val)
      = (scan2 (after host7 (after host6 (after host5 (after host4 (X1 m c)))))).L.step
        ((scan2 (after host7 (after host6 (after host5 (after host4 (X1 m c)))))).x n b) ((theRow m c b).s0 n.val)
    rw [hx, hL, h5_arg m c (r := main_arg3) (by decide +kernel), h5_arg m c (r := main_arg4) (by decide +kernel),
      h5_arg m c (r := main_arg5) (by decide +kernel), h5_arg m c (r := main_arg6) (by decide +kernel), Row.tk_of_lt]
    refine congrArg (fun x => (theRow m c b).l0.step x ((theRow m c b).s0 n.val)) (funext fun j => ?_)
    refine ((lookup _ b n j ((theRow m c b).tok n) ?_).trans ?_).symm
    · rw [h4_arg m c (r := main_arg1) (by decide +kernel)]
      exact hv b n
    · rw [h4_arg m c (r := main_arg2) (by decide +kernel)]
      rfl

/-- The layer above through the tokens. -/
theorem state3 (b : Fin 16) (n : ℕ) (hn : n ≤ 512) : (scan3 (E3 m c)).state b n = (theRow m c b).s1 n := by
  obtain ⟨hx, hL, hh, hc⟩ := entry3 (X2 m c)
  have s := stackedStates (X1 m c)
  have e := exit2 m c
  refine Scan.state_eq _ b _ ?_ ?_ n hn
  · show ((scan3 (after host9 (X2 m c))).h b, (scan3 (after host9 (X2 m c))).c b) = _
    rw [hh, hc, stacks_X2 m c main_v17 (by decide +kernel), stacks_X2 m c main_v20 (by decide +kernel)]
    refine Prod.ext (funext fun j => ?_) (funext fun j => ?_)
    · exact ((s b j).2.1).trans (congrFun (after1 m c b).1 j)
    · exact ((s b j).2.2.2).trans (congrFun (after1 m c b).2 j)
  · intro n
    show (theRow m c b).l1.step ((theRow m c b).s0 (n.val + 1)).1 ((theRow m c b).s1 n.val)
      = (scan3 (after host9 (X2 m c))).L.step ((scan3 (after host9 (X2 m c))).x n b) ((theRow m c b).s1 n.val)
    rw [hx, hL, X2_arg m c (r := main_arg7) (by decide +kernel), X2_arg m c (r := main_arg8) (by decide +kernel),
      X2_arg m c (r := main_arg9) (by decide +kernel), X2_arg m c (r := main_arg10) (by decide +kernel)]
    refine congrArg (fun x => (theRow m c b).l1.step x ((theRow m c b).s1 n.val)) (funext fun j => ?_)
    rw [ys2, e]
    refine Eq.symm ((if_pos n.isLt).trans ?_)
    rw [state2 hv b (n.val + 1) n.isLt]

/-- The outputs of the layer above. -/
theorem outputs (n : Fin 512) (b : Fin 16) (j : Fin 512) :
    cube (N := 512) (X3 m c (Proc.devRef .tc main_v34_8)) n b j = ((theRow m c b).s1 (n.val + 1)).1 j := by
  rw [ys3, exit3]
  refine (if_pos n.isLt).trans ?_
  rw [state3 hv b (n.val + 1) n.isLt]

/-- The result is each row's log-likelihood. -/
theorem result (b : Fin 16) : (Z m c (Proc.devRef .tc main_v60) : (⟨S16x1, .f32⟩ : BufTy).Contents (Elt Ideal)) (ix2 b (0 : Fin 1)) = (theRow m c b).ll := by
  set V11 := after host11 (X3 m c) with h11
  set V12 := after host12 V11 with h12
  set V13 := after host13 V12 with h13
  set V14 := after host14 V13 with h14
  have t11 : ∀ n : Fin 511, (V11 (Proc.devRef .tc main_v48) : (⟨S511x16, .i32⟩ : BufTy).Contents (Elt Ideal)) (ix2 n b)
      = BitVec.ofNat 32 ((theRow m c b).tk (n.val + 1)).val := fun n => by
    rw [h11, targets, X3_arg m c (r := main_arg1) (by decide +kernel), hv b ⟨1 + n.val, by omega⟩]
    have : (theRow m c b).tk (n.val + 1) = (theRow m c b).tok ⟨1 + n.val, by omega⟩ := by
      rw [Nat.add_comm n.val 1]; exact (theRow m c b).tk_of_lt ⟨1 + n.val, by omega⟩
    rw [this]; rfl
  have t12 : V12 (Proc.devRef .tc main_v48) = V11 (Proc.devRef .tc main_v48) := after_of_writes_sub host12 _ host12_writes (by decide +kernel)
  have t13 : V13 (Proc.devRef .tc main_v48) = V12 (Proc.devRef .tc main_v48) := after_of_writes_sub host13 _ host13_writes (by decide +kernel)
  have t14 : V14 (Proc.devRef .tc main_v48) = V13 (Proc.devRef .tc main_v48) := after_of_writes_sub host14 _ host14_writes (by decide +kernel)
  have l13 : V13 (Proc.devRef .tc main_v49) = V12 (Proc.devRef .tc main_v49) := after_of_writes_sub host13 _ host13_writes (by decide +kernel)
  refine (total V14 b (fun n => logp ((theRow m c b).logit n.val) ((theRow m c b).tk (n.val + 1))) (fun n => (theRow m c b).tk (n.val + 1)) (fun n => ?_) fun n => ?_).trans rfl
  · rw [h14, chosen V13 n b ((theRow m c b).tk (n.val + 1)) (by rw [h13, targets', t12]; exact t11 n), l13, h12, logSoftmax]
    refine congrArg (fun l => logp l _) (funext fun v => ?_)
    rw [h11, logits, X3_arg m c (r := main_arg11) (by decide +kernel), X3_arg m c (r := main_arg12) (by decide +kernel)]
    simp only [outputs hv]
    rfl
  · rw [t14, t13, t12]; exact t11 n

end Cert.ReferenceIdeal.Hand

end
-- ==== Proof.Given.lean ====
/- What the claims' precondition says. -/
module

public import proofs.«01_k».proof.Pre_vocabulary_and_finite_head
public import proofs.«01_k».proof.Proof.RowOf
public import proofs.«01_k».proof.Proof.Scalar
public import Idealize.ShloMosaic.Lib.Pointwise

@[expose] public section

noncomputable section

namespace Cert.Pre_vocabulary_and_finite_head

open Idealize.ShloMosaic Lstm

/-- The three constants the predicate broadcasts fit. -/
instance facts : Facts where
  bcast_S_S16x512 := by decide
  bcast_S_S64x512 := by decide
  bcast_S_S64 := by decide

/-- A word between 0 and 64, compared as a signed number, is one of the 64. -/
theorem word_in_range (x : BitVec 32) (h : IntOp.andi (IntOp.cmpi .sge x 0#32) (IntOp.cmpi .slt x 64#32) = 1#1) :
    x = BitVec.ofNat 32 (x.toNat % 64) := by
  have hs : (0#32).sle x = true ∧ x.slt 64#32 = true := by
    simp only [IntOp.andi, IntOp.cmpi] at h
    generalize (0#32).sle x = p at h ⊢
    generalize x.slt 64#32 = q at h ⊢
    revert p q
    decide
  obtain ⟨h0, h1⟩ := hs
  have hx : x.toNat < 64 := by
    simp only [BitVec.sle, BitVec.slt, decide_eq_true_eq] at h0 h1
    have e := x.toInt_eq_toNat_cond
    have := x.isLt
    simp at h0 h1
    split at e <;> omega
  rw [Nat.mod_eq_of_lt hx, BitVec.ofNat_toNat, BitVec.setWidth_eq]

/-- A number whose absolute value is below the greatest is real. -/
theorem real_of_finite (x : EReal) (h : FloatOps.cmpf (F := Ideal) (φ := .f32) .olt (max x (-x)) (Ideal.ofBits .f32 0x7F800000#32) = 1#1) : IsReal x := by
  refine isReal_of_abs_lt ?_
  rw [posInf_eq] at h
  change BitVec.ofBool (decide (max x (-x) < ⊤)) = 1#1 at h
  by_contra hn
  rw [decide_eq_false hn] at h
  exact absurd h (by decide)

variable (a0 : FVec Ideal S16x512 .f32) (a1 : IVec S16x512 32) (a2 : FVec Ideal S64x512 .f32) (a3 a4 : FVec Ideal S2048x512 .f32)
  (a5 a6 : FVec Ideal S2048 .f32) (a7 a8 : FVec Ideal S2048x512 .f32) (a9 a10 : FVec Ideal S2048 .f32) (a11 : FVec Ideal S64x512 .f32)
  (a12 : FVec Ideal S64 .f32)

/-- The first part of the precondition: the tokens are in the vocabulary. -/
theorem vocabulary (h : (fn a0 a1 a2 a3 a4 a5 a6 a7 a8 a9 a10 a11 a12).1 = fun _ => 1#1) : InVocabulary a1 := fun b n =>
  word_in_range _ (congrFun h (ix2 b n))

/-- The second: the output weights are real. -/
theorem weights (h : (fn a0 a1 a2 a3 a4 a5 a6 a7 a8 a9 a10 a11 a12).2.1 = fun _ => 1#1) (i) : IsReal (a11 i) :=
  real_of_finite _ (congrFun h i)

/-- The third: the output bias is real. -/
theorem bias (h : (fn a0 a1 a2 a3 a4 a5 a6 a7 a8 a9 a10 a11 a12).2.2 = fun _ => 1#1) (i) : IsReal (a12 i) :=
  real_of_finite _ (congrFun h i)

end Cert.Pre_vocabulary_and_finite_head

end
-- ==== Proof.lean ====
/- The proof of the certificate's claim: the kernel's frames, the reference's frame, and the equality of what the two
   compute, each from the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KernelHost
public import proofs.«01_k».proof.Proof.RefValue
public import proofs.«01_k».proof.Proof.Given
public import Idealize.ShloMosaic.Lib.StableHlo.RunHlo
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs; its arguments stay, its result is the final contents of the result buffer, and no counter is left. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      (∀ (c : Dev Cert.ReferenceIdeal.nD) (b : Ref Cert.ReferenceIdeal.sig .tc), b ∈ Cert.ReferenceIdeal.Hand.argList →
        r.2.mem ((c.tc : Thread Cert.ReferenceIdeal.nD Cert.ReferenceIdeal.τ).loc b) = m ((c.tc : Thread Cert.ReferenceIdeal.nD Cert.ReferenceIdeal.τ).loc b))
      ∧ (∀ c : Dev Cert.ReferenceIdeal.nD, r.2.mem ((c.tc : Thread Cert.ReferenceIdeal.nD Cert.ReferenceIdeal.τ).loc Cert.ReferenceIdeal.main_v60)
        = Cert.ReferenceIdeal.Hand.Z m c (Proc.devRef .tc Cert.ReferenceIdeal.main_v60))
      ∧ r.2.sem = fun _ => 0 := by
  refine θ_run_mono (Cert.ReferenceIdeal.Hand.run_all m g) fun r h => ⟨fun c b hb => ?_, fun c => h c _ (by decide +kernel), sem_eq_zero_of_no_sems rfl _⟩
  exact (h c b ((by decide +kernel : ∀ b ∈ Cert.ReferenceIdeal.Hand.argList,
    (Proc.devRef .tc b : DevRef Cert.ReferenceIdeal.τ Cert.ReferenceIdeal.sig).isScoped = false) b hb)).trans (Cert.ReferenceIdeal.Hand.Z_arg m c hb)

/-- The reference's frame. -/
theorem reference_frame : Cert.quiescent_ReferenceIdeal := fun m g _ =>
  θ_run_mono (reference_run m g) fun _ h => ⟨fun c => by
    refine ⟨?_, ?_, ?_, ?_, ?_, ?_, ?_, ?_, ?_, ?_, ?_, ?_, ?_⟩ <;> exact h.1 c _ (by decide +kernel), h.2.2⟩

/-- From equal arguments the two programs give equal results. -/
theorem equal : Cert.algebraic_KernelIdeal_ReferenceIdeal_pre_vocabulary_and_finite_head := by
  intro m g m' g' hp ha
  refine ⟨fun c => (Cert.KernelIdeal.Gen.dats m 0 c).arrAt 9 Cert.KernelIdeal.cfg0.N, Cert.KernelIdeal.Value.run_blocks m g,
    θ_run_mono (reference_run m' g') fun r h c => ⟨(h.2.1 c).trans ?_, ?_⟩⟩
  · obtain ⟨p1, p2, p3⟩ := hp c
    have hv := Cert.Pre_vocabulary_and_finite_head.vocabulary _ _ _ _ _ _ _ _ _ _ _ _ _ p1
    obtain ⟨e0, e1, e2, e3, e4, e5, e6, e7, e8, e9, e10, e11, e12⟩ := ha c
    funext i
    have hi : i = ix2 (i 0) 0 := by
      funext a
      fin_cases a
      · rfl
      · exact Fin.ext (Nat.lt_one_iff.mp (i 1).isLt)
    have hk := Cert.KernelIdeal.Hand.result m c hv (Cert.Pre_vocabulary_and_finite_head.weights _ _ _ _ _ _ _ _ _ _ _ _ _ p2)
      (Cert.Pre_vocabulary_and_finite_head.bias _ _ _ _ _ _ _ _ _ _ _ _ _ p3) (i 0)
    have hv' : Cert.ReferenceIdeal.Hand.Vocab m' c := (congrArg Lstm.InVocabulary e1).mpr hv
    have hrow : Cert.ReferenceIdeal.Hand.theRow m' c (i 0) = Cert.KernelIdeal.Hand.rowAt (fun r => m (c, r)) (i 0) :=
      congrFun (congr (congr (congr (congr (congr (congr (congr (congr (congr (congr (congr (congr (congrArg Lstm.rowOf e0) e1) e2) e3) e4) e5) e6) e7) e8) e9) e10) e11) e12) (i 0)
    rw [hi]
    exact (Cert.ReferenceIdeal.Hand.result hv' (i 0)).trans ((congrArg Lstm.Row.ll hrow).trans hk.symm)
  · refine ⟨?_, ?_, ?_, ?_, ?_, ?_, ?_, ?_, ?_, ?_, ?_, ?_, ?_⟩ <;> exact h.1 c _ (by decide +kernel)

/-- Everything the certificate claims. -/
theorem claim : Cert.Claim :=
  ⟨Cert.Kernel.Gen.facts, Cert.KernelIdeal.Gen.facts, Cert.ReferenceIdeal.Gen.facts, Cert.Pre_vocabulary_and_finite_head.facts,
    fun m g _ => Cert.Kernel.Gen.frame m g, fun m g _ => Cert.KernelIdeal.Gen.frame m g, fun m g _ => Cert.KernelIdeal.Gen.frame m g,
    reference_frame, fun m g _ => reference_frame m g trivial, trivial, equal⟩

end Cert.Proof

end
